-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 [hPre_experts_in_range : Cert.Pre_experts_in_range.Facts] (m : (ℓ : Loc Cert.Kernel2.nD Cert.Kernel2.τ Cert.Kernel2.sig) → Buf (Elt Bits) ℓ) : Prop :=
  ∀ c : Dev Cert.Kernel2.nD,
    (Cert.Pre_experts_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7))) = (fun _ => 1#1)

def Pre_Kernel2Ideal [hPre_experts_in_range : Cert.Pre_experts_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_experts_in_range [hPre_experts_in_range : Cert.Pre_experts_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_parameters [hPre_finite_parameters : Cert.Pre_finite_parameters.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_parameters.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_parameters [hPre_finite_parameters : Cert.Pre_finite_parameters.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_parameters.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] [hPre_experts_in_range : Cert.Pre_experts_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] [hPre_experts_in_range : Cert.Pre_experts_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_experts_in_range [hReference2Ideal : Cert.Reference2Ideal.Facts] [hPre_experts_in_range : Cert.Pre_experts_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_experts_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Kernel3Ideal_pre_finite_parameters [hKernel3Ideal : Cert.Kernel3Ideal.Facts] [hPre_finite_parameters : Cert.Pre_finite_parameters.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_parameters m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Reference3Ideal_pre_finite_parameters [hReference3Ideal : Cert.Reference3Ideal.Facts] [hPre_finite_parameters : Cert.Pre_finite_parameters.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_parameters m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] [hPre_experts_in_range : Cert.Pre_experts_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v75) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal_pre_finite_parameters [hKernel3Ideal : Cert.Kernel3Ideal.Facts] [hReference3Ideal : Cert.Reference3Ideal.Facts] [hPre_finite_parameters : Cert.Pre_finite_parameters.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_parameters m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v20_0)) (v1 : (c : Dev Cert.Kernel3Ideal.nD) → Buf (Elt Ideal) ((c.tc : Thread Cert.Kernel3Ideal.nD Cert.Kernel3Ideal.τ).loc Cert.Kernel3Ideal.main_v20_1)) (v2 : (c : Dev Cert.Kernel3Ideal.nD) → Buf (Elt Ideal) ((c.tc : Thread Cert.Kernel3Ideal.nD Cert.Kernel3Ideal.τ).loc Cert.Kernel3Ideal.main_v20_2)) (v3 : (c : Dev Cert.Kernel3Ideal.nD) → Buf (Elt Ideal) ((c.tc : Thread Cert.Kernel3Ideal.nD Cert.Kernel3Ideal.τ).loc Cert.Kernel3Ideal.main_v20_7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v20_0) = v0 c
          ∧ r.2.mem ((c.tc : Thread Cert.Kernel3Ideal.nD Cert.Kernel3Ideal.τ).loc Cert.Kernel3Ideal.main_v20_1) = v1 c
          ∧ r.2.mem ((c.tc : Thread Cert.Kernel3Ideal.nD Cert.Kernel3Ideal.τ).loc Cert.Kernel3Ideal.main_v20_2) = v2 c
          ∧ r.2.mem ((c.tc : Thread Cert.Kernel3Ideal.nD Cert.Kernel3Ideal.τ).loc Cert.Kernel3Ideal.main_v20_7) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v170) = v0 c
          ∧ r.2.mem ((c.tc : Thread Cert.Reference3Ideal.nD Cert.Reference3Ideal.τ).loc Cert.Reference3Ideal.main_v171) = v1 c
          ∧ r.2.mem ((c.tc : Thread Cert.Reference3Ideal.nD Cert.Reference3Ideal.τ).loc Cert.Reference3Ideal.main_v172) = v2 c
          ∧ r.2.mem ((c.tc : Thread Cert.Reference3Ideal.nD Cert.Reference3Ideal.τ).loc Cert.Reference3Ideal.main_v147) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores : Cert.Pre_finite_scores.Facts) (hPre_experts_in_range : Cert.Pre_experts_in_range.Facts) (hPre_finite_parameters : Cert.Pre_finite_parameters.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2) (hPre_experts_in_range := hPre_experts_in_range)
    ∧ quiescent_Kernel2Ideal (hKernel2Ideal := hKernel2Ideal) (hPre_experts_in_range := hPre_experts_in_range)
    ∧ quiescent_Reference2Ideal (hReference2Ideal := hReference2Ideal)
    ∧ quiescent_Reference2Ideal_pre_experts_in_range (hReference2Ideal := hReference2Ideal) (hPre_experts_in_range := hPre_experts_in_range)
    ∧ quiescent_Kernel3 (hKernel3 := hKernel3)
    ∧ quiescent_Kernel3Ideal (hKernel3Ideal := hKernel3Ideal)
    ∧ quiescent_Kernel3Ideal_pre_finite_parameters (hKernel3Ideal := hKernel3Ideal) (hPre_finite_parameters := hPre_finite_parameters)
    ∧ quiescent_Reference3Ideal (hReference3Ideal := hReference3Ideal)
    ∧ quiescent_Reference3Ideal_pre_finite_parameters (hReference3Ideal := hReference3Ideal) (hPre_finite_parameters := hPre_finite_parameters)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal) (hPre_experts_in_range := hPre_experts_in_range)
    ∧ preserves_Kernel3_Kernel3Ideal
    ∧ algebraic_Kernel3Ideal_Reference3Ideal_pre_finite_parameters (hKernel3Ideal := hKernel3Ideal) (hReference3Ideal := hReference3Ideal) (hPre_finite_parameters := hPre_finite_parameters)
-- ==== Pre_experts_in_range.lean ====
abbrev S83968x1024 : Shape := ⟨2, ![83968, 1024]⟩
abbrev S164 : Shape := ⟨1, ![164]⟩
abbrev S1 : Shape := ⟨1, ![1]⟩
abbrev S2x32x1024x2048 : Shape := ⟨4, ![2, 32, 1024, 2048]⟩
abbrev S2x32x1x2048 : Shape := ⟨4, ![2, 32, 1, 2048]⟩
abbrev S2x32x1024x1024 : Shape := ⟨4, ![2, 32, 1024, 1024]⟩
abbrev S2x32x1x1024 : Shape := ⟨4, ![2, 32, 1, 1024]⟩
abbrev S_ : Shape := ⟨0, ![]⟩

class Facts : Prop where
  bcast_S_S164 : S_.BroadcastsInDim S164 (![] : Fin 0 → Fin S164.rank)
  reducesTo_S164_S_d0 : S164.ReducesTo [0] S_
  h_S_ : 0 < S_.numel

variable [Facts]

def fn {F : FTy → Type} [FloatOps F] (main_arg0 : FVec F S83968x1024 .f32) (main_arg1 : IVec S164 32) (main_arg2 : IVec S164 32) (main_arg3 : IVec S1 32) (main_arg4 : FVec F S2x32x1024x2048 .f32) (main_arg5 : FVec F S2x32x1x2048 .f32) (main_arg6 : FVec F S2x32x1024x1024 .f32) (main_arg7 : FVec F S2x32x1x1024 .f32) : IVec S_ 1 :=
  let main_c : IVec S_ 32 := constantI S_ 32 0#32
  let main_v0 : IVec S164 32 := broadcastInDim S164 ![] bcast_S_S164 main_c
  let main_v1 : IVec S164 1 := cmpi .sge main_arg1 main_v0
  let main_c_0 : IVec S_ 32 := constantI S_ 32 32#32
  let main_v2 : IVec S164 32 := broadcastInDim S164 ![] bcast_S_S164 main_c_0
  let main_v3 : IVec S164 1 := cmpi .slt main_arg1 main_v2
  let main_v4 : IVec S164 1 := andi main_v1 main_v3
  let main_c_1 : IVec S_ 1 := constantI S_ 1 1#1
  let main_v5 : IVec S_ 1 := (fun x v => Host.reduce IntOp.andi x v reducesTo_S164_S_d0 h_S_) main_v4 main_c_1
  main_v5
-- ==== Pre_finite_parameters.lean ====
abbrev S2x8448x1024 : Shape := ⟨3, ![2, 8448, 1024]⟩
abbrev S8x6144 : Shape := ⟨2, ![8, 6144]⟩
abbrev S1x1024 : Shape := ⟨2, ![1, 1024]⟩
abbrev S1024x2848 : Shape := ⟨2, ![1024, 2848]⟩
abbrev S8448x128 : Shape := ⟨2, ![8448, 128]⟩
abbrev S8x1536 : Shape := ⟨2, ![8, 1536]⟩
abbrev S8x128 : Shape := ⟨2, ![8, 128]⟩
abbrev S1x512 : Shape := ⟨2, ![1, 512]⟩
abbrev S1x128 : Shape := ⟨2, ![1, 128]⟩
abbrev S3x2048 : Shape := ⟨2, ![3, 2048]⟩
abbrev S_ : Shape := ⟨0, ![]⟩
abbrev S1024x1024 : Shape := ⟨2, ![1024, 1024]⟩
abbrev S5x1024 : Shape := ⟨2, ![5, 1024]⟩

class Facts : Prop where
  slices_S8x6144_S3x2048_0_0 : S8x6144.Slices ![0, 0] S3x2048
  bcast_S_S3x2048 : S_.BroadcastsInDim S3x2048 (![] : Fin 0 → Fin S3x2048.rank)
  reducesTo_S3x2048_S_d0_1 : S3x2048.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  slices_S1024x2848_S1024x1024_0_0 : S1024x2848.Slices ![0, 0] S1024x1024
  bcast_S_S1024x1024 : S_.BroadcastsInDim S1024x1024 (![] : Fin 0 → Fin S1024x1024.rank)
  reducesTo_S1024x1024_S_d0_1 : S1024x1024.ReducesTo [0, 1] S_
  slices_S8x1536_S5x1024_0_0 : S8x1536.Slices ![0, 0] S5x1024
  bcast_S_S5x1024 : S_.BroadcastsInDim S5x1024 (![] : Fin 0 → Fin S5x1024.rank)
  reducesTo_S5x1024_S_d0_1 : S5x1024.ReducesTo [0, 1] S_

variable [Facts]

def fn_part1 {F : FTy → Type} [FloatOps F] (main_v15 : IVec S_ 1) (main_v17 : FVec F S5x1024 .f32) : IVec S_ 1 :=
  let main_cst_4 : FVec F S_ .f32 := constant S_ .f32 0x7F800000#32
  let main_v18 : FVec F S5x1024 .f32 := broadcastInDim S5x1024 ![] bcast_S_S5x1024 main_cst_4
  let main_v19 : IVec S5x1024 1 := cmpf .olt main_v17 main_v18
  let main_c_5 : IVec S_ 1 := constantI S_ 1 1#1
  let main_v20 : IVec S_ 1 := (fun x v => Host.reduce IntOp.andi x v reducesTo_S5x1024_S_d0_1 h_S_) main_v19 main_c_5
  let main_v21 : IVec S_ 1 := andi main_v15 main_v20
  main_v21

def fn {F : FTy → Type} [FloatOps F] (main_arg0 : FVec F S2x8448x1024 .f32) (main_arg1 : FVec F S8x6144 .f32) (main_arg2 : FVec F S1x1024 .f32) (main_arg3 : FVec F S1024x2848 .f32) (main_arg4 : FVec F S8448x128 .f32) (main_arg5 : FVec F S8448x128 .f32) (main_arg6 : FVec F S8x1536 .f32) (main_arg7 : FVec F S8x128 .f32) (main_arg8 : FVec F S1x512 .f32) (main_arg9 : FVec F S1x128 .f32) : IVec S_ 1 :=
  let main_v0 : FVec F S3x2048 .f32 := (extractStridedSlice S3x2048 ![0, 0] · slices_S8x6144_S3x2048_0_0) main_arg1
  let main_v1 : FVec F S3x2048 .f32 := Host.absf main_v0
  let main_cst : FVec F S_ .f32 := constant S_ .f32 0x7F800000#32
  let main_v2 : FVec F S3x2048 .f32 := broadcastInDim S3x2048 ![] bcast_S_S3x2048 main_cst
  let main_v3 : IVec S3x2048 1 := cmpf .olt main_v1 main_v2
  let main_c : IVec S_ 1 := constantI S_ 1 1#1
  let main_v4 : IVec S_ 1 := (fun x v => Host.reduce IntOp.andi x v reducesTo_S3x2048_S_d0_1 h_S_) main_v3 main_c
  let main_v5 : FVec F S1x1024 .f32 := Host.absf main_arg2
  let main_cst_0 : FVec F S_ .f32 := constant S_ .f32 0x7F800000#32
  let main_v6 : FVec F S1x1024 .f32 := broadcastInDim S1x1024 ![] bcast_S_S1x1024 main_cst_0
  let main_v7 : IVec S1x1024 1 := cmpf .olt main_v5 main_v6
  let main_c_1 : IVec S_ 1 := constantI S_ 1 1#1
  let main_v8 : IVec S_ 1 := (fun x v => Host.reduce IntOp.andi x v reducesTo_S1x1024_S_d0_1 h_S_) main_v7 main_c_1
  let main_v9 : IVec S_ 1 := andi main_v4 main_v8
  let main_v10 : FVec F S1024x1024 .f32 := (extractStridedSlice S1024x1024 ![0, 0] · slices_S1024x2848_S1024x1024_0_0) main_arg3
  let main_v11 : FVec F S1024x1024 .f32 := Host.absf main_v10
  let main_cst_2 : FVec F S_ .f32 := constant S_ .f32 0x7F800000#32
  let main_v12 : FVec F S1024x1024 .f32 := broadcastInDim S1024x1024 ![] bcast_S_S1024x1024 main_cst_2
  let main_v13 : IVec S1024x1024 1 := cmpf .olt main_v11 main_v12
  let main_c_3 : IVec S_ 1 := constantI S_ 1 1#1
  let main_v14 : IVec S_ 1 := (fun x v => Host.reduce IntOp.andi x v reducesTo_S1024x1024_S_d0_1 h_S_) main_v13 main_c_3
  let main_v15 : IVec S_ 1 := andi main_v9 main_v14
  let main_v16 : FVec F S5x1024 .f32 := (extractStridedSlice S5x1024 ![0, 0] · slices_S8x1536_S5x1024_0_0) main_arg6
  let main_v17 : FVec F S5x1024 .f32 := Host.absf main_v16
  fn_part1 (F := F) main_v15 main_v17
-- ==== Pre_finite_scores.lean ====
abbrev S2x8448x512 : Shape := ⟨3, ![2, 8448, 512]⟩
abbrev S2x8448x128 : Shape := ⟨3, ![2, 8448, 128]⟩
abbrev S8 : Shape := ⟨1, ![8]⟩
abbrev S_ : Shape := ⟨0, ![]⟩

class Facts : Prop where
  bcast_S_S2x8448x512 : S_.BroadcastsInDim S2x8448x512 (![] : Fin 0 → Fin S2x8448x512.rank)
  reducesTo_S2x8448x512_S_d0_1_2 : S2x8448x512.ReducesTo [0, 1, 2] S_
  h_S_ : 0 < S_.numel
  bcast_S_S2x8448x128 : S_.BroadcastsInDim S2x8448x128 (![] : Fin 0 → Fin S2x8448x128.rank)
  reducesTo_S2x8448x128_S_d0_1_2 : S2x8448x128.ReducesTo [0, 1, 2] S_
  bcast_S_S8 : S_.BroadcastsInDim S8 (![] : Fin 0 → Fin S8.rank)
  reducesTo_S8_S_d0 : S8.ReducesTo [0] S_

variable [Facts]

def fn {F : FTy → Type} [FloatOps F] (main_arg0 : FVec F S2x8448x512 .f32) (main_arg1 : FVec F S2x8448x128 .f32) (main_arg2 : FVec F S2x8448x128 .f32) (main_arg3 : FVec F S8 .f32) : IVec S_ 1 :=
  let main_v0 : FVec F S2x8448x512 .f32 := Host.absf main_arg0
  let main_cst : FVec F S_ .f32 := constant S_ .f32 0x7F800000#32
  let main_v1 : FVec F S2x8448x512 .f32 := broadcastInDim S2x8448x512 ![] bcast_S_S2x8448x512 main_cst
  let main_v2 : IVec S2x8448x512 1 := cmpf .olt main_v0 main_v1
  let main_c : IVec S_ 1 := constantI S_ 1 1#1
  let main_v3 : IVec S_ 1 := (fun x v => Host.reduce IntOp.andi x v reducesTo_S2x8448x512_S_d0_1_2 h_S_) main_v2 main_c
  let main_v4 : FVec F S2x8448x128 .f32 := Host.absf main_arg1
  let main_cst_0 : FVec F S_ .f32 := constant S_ .f32 0x7F800000#32
  let main_v5 : FVec F S2x8448x128 .f32 := broadcastInDim S2x8448x128 ![] bcast_S_S2x8448x128 main_cst_0
  let main_v6 : IVec S2x8448x128 1 := cmpf .olt main_v4 main_v5
  let main_c_1 : IVec S_ 1 := constantI S_ 1 1#1
  let main_v7 : IVec S_ 1 := (fun x v => Host.reduce IntOp.andi x v reducesTo_S2x8448x128_S_d0_1_2 h_S_) main_v6 main_c_1
  let main_v8 : IVec S_ 1 := andi main_v3 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  main_v13
-- ==== Kernel.lean ====
abbrev S2x8448x512 : Shape := ⟨3, ![2, 8448, 512]⟩
abbrev S2x8448x128 : Shape := ⟨3, ![2, 8448, 128]⟩
abbrev S8 : Shape := ⟨1, ![8]⟩
abbrev S_ : Shape := ⟨0, ![]⟩
abbrev S2x8448x64 : Shape := ⟨3, ![2, 8448, 64]⟩
abbrev S2x8448x256 : Shape := ⟨3, ![2, 8448, 256]⟩
abbrev S1x128x512 : Shape := ⟨3, ![1, 128, 512]⟩
abbrev S1x128x256 : Shape := ⟨3, ![1, 128, 256]⟩
abbrev S1x256x256 : Shape := ⟨3, ![1, 256, 256]⟩
abbrev S128x512 : Shape := ⟨2, ![128, 512]⟩
abbrev S256x1 : Shape := ⟨2, ![256, 1]⟩
abbrev S1x640 : Shape := ⟨2, ![1, 640]⟩
abbrev S256x640 : Shape := ⟨2, ![256, 640]⟩
abbrev S128x256 : Shape := ⟨2, ![128, 256]⟩
abbrev S256x256 : Shape := ⟨2, ![256, 256]⟩
abbrev S640x256 : Shape := ⟨2, ![640, 256]⟩
abbrev S640x128 : Shape := ⟨2, ![640, 128]⟩
abbrev S128x128 : Shape := ⟨2, ![128, 128]⟩
abbrev S256x128 : Shape := ⟨2, ![256, 128]⟩
abbrev S1 : Shape := ⟨1, ![1]⟩
abbrev S256 : Shape := ⟨1, ![256]⟩

abbrev nBuf : Space → Nat
  | .hbm => 19
  | .vmem => 20
  | .smem => 1
  | _ => 0

abbrev bufTy : (tb : Table) → Fin (tcTables nBuf tb) → BufTy
  | .hbm, ⟨0, _⟩ => ⟨S2x8448x512, .f32⟩
  | .hbm, ⟨1, _⟩ => ⟨S2x8448x128, .f32⟩
  | .hbm, ⟨2, _⟩ => ⟨S2x8448x128, .f32⟩
  | .hbm, ⟨3, _⟩ => ⟨S8, .f32⟩
  | .hbm, ⟨4, _⟩ => ⟨S_, .f32⟩
  | .hbm, ⟨5, _⟩ => ⟨S2x8448x512, .f32⟩
  | .hbm, ⟨6, _⟩ => ⟨S2x8448x512, .f32⟩
  | .hbm, ⟨7, _⟩ => ⟨S2x8448x512, .bf16⟩
  | .hbm, ⟨8, _⟩ => ⟨S2x8448x64, .f32⟩
  | .hbm, ⟨9, _⟩ => ⟨S2x8448x64, .f32⟩
  | .hbm, ⟨10, _⟩ => ⟨S2x8448x128, .f32⟩
  | .hbm, ⟨11, _⟩ => ⟨S2x8448x256, .f32⟩
  | .hbm, ⟨12, _⟩ => ⟨S2x8448x256, .bf16⟩
  | .hbm, ⟨13, _⟩ => ⟨S2x8448x64, .f32⟩
  | .hbm, ⟨14, _⟩ => ⟨S2x8448x64, .f32⟩
  | .hbm, ⟨15, _⟩ => ⟨S2x8448x128, .f32⟩
  | .hbm, ⟨16, _⟩ => ⟨S2x8448x256, .f32⟩
  | .hbm, ⟨17, _⟩ => ⟨S2x8448x256, .bf16⟩
  | .hbm, ⟨18, _⟩ => ⟨S2x8448x512, .bf16⟩
  | .local _ .vmem, ⟨0, _⟩ => ⟨S1x128x512, .bf16⟩
  | .local _ .vmem, ⟨1, _⟩ => ⟨S1x128x512, .bf16⟩
  | .local _ .vmem, ⟨2, _⟩ => ⟨S1x128x256, .bf16⟩
  | .local _ .vmem, ⟨3, _⟩ => ⟨S1x128x256, .bf16⟩
  | .local _ .vmem, ⟨4, _⟩ => ⟨S1x128x256, .bf16⟩
  | .local _ .vmem, ⟨5, _⟩ => ⟨S1x128x256, .bf16⟩
  | .local _ .vmem, ⟨6, _⟩ => ⟨S1x128x256, .bf16⟩
  | .local _ .vmem, ⟨7, _⟩ => ⟨S1x128x256, .bf16⟩
  | .local _ .vmem, ⟨8, _⟩ => ⟨S1x128x256, .bf16⟩
  | .local _ .vmem, ⟨9, _⟩ => ⟨S1x128x256, .bf16⟩
  | .local _ .vmem, ⟨10, _⟩ => ⟨S1x128x256, .bf16⟩
  | .local _ .vmem, ⟨11, _⟩ => ⟨S1x128x256, .bf16⟩
  | .local _ .vmem, ⟨12, _⟩ => ⟨S1x128x256, .bf16⟩
  | .local _ .vmem, ⟨13, _⟩ => ⟨S1x128x256, .bf16⟩
  | .local _ .vmem, ⟨14, _⟩ => ⟨S1x256x256, .bf16⟩
  | .local _ .vmem, ⟨15, _⟩ => ⟨S1x256x256, .bf16⟩
  | .local _ .vmem, ⟨16, _⟩ => ⟨S1x256x256, .bf16⟩
  | .local _ .vmem, ⟨17, _⟩ => ⟨S1x256x256, .bf16⟩
  | .local _ .vmem, ⟨18, _⟩ => ⟨S1x128x512, .bf16⟩
  | .local _ .vmem, ⟨19, _⟩ => ⟨S1x128x512, .bf16⟩
  | .local _ .smem, ⟨0, _⟩ => ⟨S8, .f32⟩
  | _, _ => ⟨S2x8448x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call1_v0 : Ref sig .tc := ⟨.hbm, 13, rfl⟩
abbrev main_call1_v1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![2, 66], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c65_i32 : BitVec 32 := 65#32
  let v1 : BitVec 32 := Scalar.minsi v0 c65_i32
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c65_i32 : BitVec 32 := 65#32
  let v1 : BitVec 32 := Scalar.minsi v0 c65_i32
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S2x8448x512 : Shape := ⟨3, ![2, 8448, 512]⟩
abbrev S2x8448x128 : Shape := ⟨3, ![2, 8448, 128]⟩
abbrev S8 : Shape := ⟨1, ![8]⟩
abbrev S2x8448x2x4x64 : Shape := ⟨5, ![2, 8448, 2, 4, 64]⟩
abbrev S2x8448x2x64 : Shape := ⟨4, ![2, 8448, 2, 64]⟩
abbrev S8448 : Shape := ⟨1, ![8448]⟩
abbrev S8448x1 : Shape := ⟨2, ![8448, 1]⟩
abbrev S1x8448 : Shape := ⟨2, ![1, 8448]⟩
abbrev S_ : Shape := ⟨0, ![]⟩
abbrev S8448x8448 : Shape := ⟨2, ![8448, 8448]⟩
abbrev S2x2x8448x8448x4 : Shape := ⟨5, ![2, 2, 8448, 8448, 4]⟩
abbrev S2x2x4x8448x8448 : Shape := ⟨5, ![2, 2, 4, 8448, 8448]⟩
abbrev S1x1x1x8448x8448 : Shape := ⟨5, ![1, 1, 1, 8448, 8448]⟩
abbrev S2x4 : Shape := ⟨2, ![2, 4]⟩
abbrev S1x2x4x1x1 : Shape := ⟨5, ![1, 2, 4, 1, 1]⟩
abbrev S2x2x4x8448x1 : Shape := ⟨5, ![2, 2, 4, 8448, 1]⟩
abbrev S2x2x4x8448x8449 : Shape := ⟨5, ![2, 2, 4, 8448, 8449]⟩
abbrev S2x2x4x8448 : Shape := ⟨4, ![2, 2, 4, 8448]⟩
abbrev S2x2x64x4x8448 : Shape := ⟨5, ![2, 2, 64, 4, 8448]⟩

abbrev nBuf : Space → Nat
  | .hbm => 61
  | .vmem => 0
  | .smem => 0
  | _ => 0

abbrev bufTy : (tb : Table) → Fin (tcTables nBuf tb) → BufTy
  | .hbm, ⟨0, _⟩ => ⟨S2x8448x512, .f32⟩
  | .hbm, ⟨1, _⟩ => ⟨S2x8448x128, .f32⟩
  | .hbm, ⟨2, _⟩ => ⟨S2x8448x128, .f32⟩
  | .hbm, ⟨3, _⟩ => ⟨S8, .f32⟩
  | .hbm, ⟨4, _⟩ => ⟨S2x8448x2x4x64, .f32⟩
  | .hbm, ⟨5, _⟩ => ⟨S2x8448x2x64, .f32⟩
  | .hbm, ⟨6, _⟩ => ⟨S2x8448x2x64, .f32⟩
  | .hbm, ⟨7, _⟩ => ⟨S8448, .i32⟩
  | .hbm, ⟨8, _⟩ => ⟨S8448x1, .i32⟩
  | .hbm, ⟨9, _⟩ => ⟨S1x8448, .i32⟩
  | .hbm, ⟨10, _⟩ => ⟨S_, .i32⟩
  | .hbm, ⟨11, _⟩ => ⟨S1x8448, .i32⟩
  | .hbm, ⟨12, _⟩ => ⟨S1x8448, .i1⟩
  | .hbm, ⟨13, _⟩ => ⟨S_, .i32⟩
  | .hbm, ⟨14, _⟩ => ⟨S8448x1, .i32⟩
  | .hbm, ⟨15, _⟩ => ⟨S8448x1, .i1⟩
  | .hbm, ⟨16, _⟩ => ⟨S8448x8448, .i32⟩
  | .hbm, ⟨17, _⟩ => ⟨S8448x8448, .i32⟩
  | .hbm, ⟨18, _⟩ => ⟨S8448x8448, .i32⟩
  | .hbm, ⟨19, _⟩ => ⟨S8448x8448, .i32⟩
  | .hbm, ⟨20, _⟩ => ⟨S_, .i32⟩
  | .hbm, ⟨21, _⟩ => ⟨S8448x8448, .i32⟩
  | .hbm, ⟨22, _⟩ => ⟨S8448x8448, .i1⟩
  | .hbm, ⟨23, _⟩ => ⟨S8448x8448, .i1⟩
  | .hbm, ⟨24, _⟩ => ⟨S8448x8448, .i1⟩
  | .hbm, ⟨25, _⟩ => ⟨S8448x8448, .i1⟩
  | .hbm, ⟨26, _⟩ => ⟨S8448x8448, .i1⟩
  | .hbm, ⟨27, _⟩ => ⟨S2x2x8448x8448x4, .f32⟩
  | .hbm, ⟨28, _⟩ => ⟨S2x2x4x8448x8448, .f32⟩
  | .hbm, ⟨29, _⟩ => ⟨S_, .f32⟩
  | .hbm, ⟨30, _⟩ => ⟨S2x2x4x8448x8448, .f32⟩
  | .hbm, ⟨31, _⟩ => ⟨S2x2x4x8448x8448, .f32⟩
  | .hbm, ⟨32, _⟩ => ⟨S1x1x1x8448x8448, .i1⟩
  | .hbm, ⟨33, _⟩ => ⟨S_, .f32⟩
  | .hbm, ⟨34, _⟩ => ⟨S_, .f32⟩
  | .hbm, ⟨35, _⟩ => ⟨S2x2x4x8448x8448, .i1⟩
  | .hbm, ⟨36, _⟩ => ⟨S2x2x4x8448x8448, .f32⟩
  | .hbm, ⟨37, _⟩ => ⟨S2x2x4x8448x8448, .f32⟩
  | .hbm, ⟨38, _⟩ => ⟨S2x4, .f32⟩
  | .hbm, ⟨39, _⟩ => ⟨S1x2x4x1x1, .f32⟩
  | .hbm, ⟨40, _⟩ => ⟨S2x2x4x8448x1, .f32⟩
  | .hbm, ⟨41, _⟩ => ⟨S2x2x4x8448x8449, .f32⟩
  | .hbm, ⟨42, _⟩ => ⟨S_, .f32⟩
  | .hbm, ⟨43, _⟩ => ⟨S2x2x4x8448, .f32⟩
  | .hbm, ⟨44, _⟩ => ⟨S_, .f32⟩
  | .hbm, ⟨45, _⟩ => ⟨S2x2x4x8448, .f32⟩
  | .hbm, ⟨46, _⟩ => ⟨S2x2x4x8448, .f32⟩
  | .hbm, ⟨47, _⟩ => ⟨S2x2x4x8448x1, .f32⟩
  | .hbm, ⟨48, _⟩ => ⟨S2x2x4x8448x8449, .f32⟩
  | .hbm, ⟨49, _⟩ => ⟨S2x2x4x8448x8449, .f32⟩
  | .hbm, ⟨50, _⟩ => ⟨S2x2x4x8448x8449, .f32⟩
  | .hbm, ⟨51, _⟩ => ⟨S_, .f32⟩
  | .hbm, ⟨52, _⟩ => ⟨S2x2x4x8448, .f32⟩
  | .hbm, ⟨53, _⟩ => ⟨S2x2x4x8448x1, .f32⟩
  | .hbm, ⟨54, _⟩ => ⟨S2x2x4x8448x8449, .f32⟩
  | .hbm, ⟨55, _⟩ => ⟨S2x2x4x8448x8449, .f32⟩
  | .hbm, ⟨56, _⟩ => ⟨S2x2x4x8448x8448, .f32⟩
  | .hbm, ⟨57, _⟩ => ⟨S2x2x64x4x8448, .f32⟩
  | .hbm, ⟨58, _⟩ => ⟨S2x8448x2x4x64, .f32⟩
  | .hbm, ⟨59, _⟩ => ⟨S2x8448x512, .f32⟩
  | .hbm, ⟨60, _⟩ => ⟨S2x8448x512, .bf16⟩
  | _, _ => ⟨S2x8448x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== Kernel2.lean ====
abbrev S83968x1024 : Shape := ⟨2, ![83968, 1024]⟩
abbrev S164 : Shape := ⟨1, ![164]⟩
abbrev S1 : Shape := ⟨1, ![1]⟩
abbrev S2x32x1024x2048 : Shape := ⟨4, ![2, 32, 1024, 2048]⟩
abbrev S2x32x1x2048 : Shape := ⟨4, ![2, 32, 1, 2048]⟩
abbrev S2x32x1024x1024 : Shape := ⟨4, ![2, 32, 1024, 1024]⟩
abbrev S2x32x1x1024 : Shape := ⟨4, ![2, 32, 1, 1024]⟩
abbrev S512x1024 : Shape := ⟨2, ![512, 1024]⟩
abbrev S1x1x1024x2048 : Shape := ⟨4, ![1, 1, 1024, 2048]⟩
abbrev S1x1x1x2048 : Shape := ⟨4, ![1, 1, 1, 2048]⟩
abbrev S1x1x1024x1024 : Shape := ⟨4, ![1, 1, 1024, 1024]⟩
abbrev S1x1x1x1024 : Shape := ⟨4, ![1, 1, 1, 1024]⟩
abbrev S1024x2048 : Shape := ⟨2, ![1024, 2048]⟩
abbrev S1024x1024 : Shape := ⟨2, ![1024, 1024]⟩
abbrev S1x1x128x2048 : Shape := ⟨4, ![1, 1, 128, 2048]⟩
abbrev S128x2048 : Shape := ⟨2, ![128, 2048]⟩
abbrev S1x1x128x1024 : Shape := ⟨4, ![1, 1, 128, 1024]⟩
abbrev S128x1024 : Shape := ⟨2, ![128, 1024]⟩
abbrev S512x1 : Shape := ⟨2, ![512, 1]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 6
  | .vmem => 14
  | .smem => 3
  | _ => 0

abbrev bufTy : (tb : Table) → Fin (tcTables nBuf tb) → BufTy
  | .hbm, ⟨0, _⟩ => ⟨S83968x1024, .f32⟩
  | .hbm, ⟨1, _⟩ => ⟨S2x32x1024x2048, .f32⟩
  | .hbm, ⟨2, _⟩ => ⟨S2x32x1x2048, .f32⟩
  | .hbm, ⟨3, _⟩ => ⟨S2x32x1024x1024, .f32⟩
  | .hbm, ⟨4, _⟩ => ⟨S2x32x1x1024, .f32⟩
  | .hbm, ⟨5, _⟩ => ⟨S83968x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024x2048, .f32⟩
  | .local _ .vmem, ⟨3, _⟩ => ⟨S1x1x1024x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S512x1024, .f32⟩
  | .local _ .vmem, ⟨11, _⟩ => ⟨S512x1024, .f32⟩
  | .local _ .vmem, ⟨12, _⟩ => ⟨S1024x2048, .bf16⟩
  | .local _ .vmem, ⟨13, _⟩ => ⟨S1024x1024, .bf16⟩
  | .local _ .smem, ⟨0, _⟩ => ⟨S164, .i32⟩
  | .local _ .smem, ⟨1, _⟩ => ⟨S164, .i32⟩
  | .local _ .smem, ⟨2, _⟩ => ⟨S1, .i32⟩
  | _, _ => ⟨S83968x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_v0 : Ref sig .tc := ⟨.hbm, 5, rfl⟩
abbrev main_arg1 : Ref sig .tc := ⟨.smem, 0, rfl⟩
abbrev main_arg2 : Ref sig .tc := ⟨.smem, 1, rfl⟩
abbrev main_arg3 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![164], ![false]⟩

abbrev pre0 : Pipeline.Prefetch sig := ⟨3, ![main_arg1.idx, main_arg2.idx, main_arg3.idx], fun | 0 => main_arg1.names | 1 => main_arg2.names | 2 => main_arg3.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v2 : BitVec 32 := Scalar.subi arg0 c1_i32
  let c0_i32 : BitVec 32 := 0#32
  let v3 : BitVec 32 := Scalar.maxsi v2 c0_i32
  let v4 : Index := Scalar.indexCast v3
  ![v4.toNat]
@[reducible] def k0_t1_loop : Scf.Loop 32 :=
  let c0_i32_4 : BitVec 32 := 0#32
  let c8_i32 : BitVec 32 := 8#32
  let v19 : BitVec 32 := Scalar.addi c0_i32_4 c8_i32
  let c1_i32_5 : BitVec 32 := 1#32
  ⟨c0_i32_4, v19, c1_i32_5⟩
def k0_mult1 (k0_t1 : Fin k0_t1_loop.trips) : BitVec 32 :=
  let c0_i32_4 : BitVec 32 := 0#32
  let c1_i32_5 : BitVec 32 := 1#32
  let arg12 : BitVec 32 := Scf.iv c0_i32_4 c1_i32_5 k0_t1
  let c128_i32 : BitVec 32 := 128#32
  let v21 : BitVec 32 := Scalar.muli arg12 c128_i32
  v21
def k0_off3 (k0_t1 : Fin k0_t1_loop.trips) : Fin 4 → Nat :=
  let c0_11 : Index := 0#32
  let c0_12 : Index := 0#32
  let c0_i32_4 : BitVec 32 := 0#32
  let c1_i32_5 : BitVec 32 := 1#32
  let arg12 : BitVec 32 := Scf.iv c0_i32_4 c1_i32_5 k0_t1
  let c128_i32 : BitVec 32 := 128#32
  let v21 : BitVec 32 := Scalar.muli arg12 c128_i32
  let v22 : BitVec 32 := v21
  let v23 : Index := Scalar.indexCast v22
  let c0_13 : Index := 0#32
  ![0, 0, v23.toNat, 0]
def k0_off4 (k0_t1 : Fin k0_t1_loop.trips) : Fin 2 → Nat :=
  let c0_i32_4 : BitVec 32 := 0#32
  let c1_i32_5 : BitVec 32 := 1#32
  let arg12 : BitVec 32 := Scf.iv c0_i32_4 c1_i32_5 k0_t1
  let c128_i32 : BitVec 32 := 128#32
  let v21 : BitVec 32 := Scalar.muli arg12 c128_i32
  let v22 : BitVec 32 := v21
  let v27 : Index := Scalar.indexCast v22
  let c0_14 : Index := 0#32
  ![v27.toNat, 0]
@[reducible] def k0_t2_loop : Scf.Loop 32 :=
  let c0_i32_7 : BitVec 32 := 0#32
  let c8_i32_8 : BitVec 32 := 8#32
  let v20 : BitVec 32 := Scalar.addi c0_i32_7 c8_i32_8
  let c1_i32_9 : BitVec 32 := 1#32
  ⟨c0_i32_7, v20, c1_i32_9⟩
def k0_mult2 (k0_t2 : Fin k0_t2_loop.trips) : BitVec 32 :=
  let c0_i32_7 : BitVec 32 := 0#32
  let c1_i32_9 : BitVec 32 := 1#32
  let arg12 : BitVec 32 := Scf.iv c0_i32_7 c1_i32_9 k0_t2
  let c128_i32 : BitVec 32 := 128#32
  let v21 : BitVec 32 := Scalar.muli arg12 c128_i32
  v21
def k0_off5 (k0_t2 : Fin k0_t2_loop.trips) : Fin 4 → Nat :=
  let c0_11 : Index := 0#32
  let c0_12 : Index := 0#32
  let c0_i32_7 : BitVec 32 := 0#32
  let c1_i32_9 : BitVec 32 := 1#32
  let arg12 : BitVec 32 := Scf.iv c0_i32_7 c1_i32_9 k0_t2
  let c128_i32 : BitVec 32 := 128#32
  let v21 : BitVec 32 := Scalar.muli arg12 c128_i32
  let v22 : BitVec 32 := v21
  let v23 : Index := Scalar.indexCast v22
  let c0_13 : Index := 0#32
  ![0, 0, v23.toNat, 0]
def k0_off6 (k0_t2 : Fin k0_t2_loop.trips) : Fin 2 → Nat :=
  let c0_i32_7 : BitVec 32 := 0#32
  let c1_i32_9 : BitVec 32 := 1#32
  let arg12 : BitVec 32 := Scf.iv c0_i32_7 c1_i32_9 k0_t2
  let c128_i32 : BitVec 32 := 128#32
  let v21 : BitVec 32 := Scalar.muli arg12 c128_i32
  let v22 : BitVec 32 := v21
  let v27 : Index := Scalar.indexCast v22
  let c0_14 : Index := 0#32
  ![v27.toNat, 0]
def k0_off7 (i : grid0.Coords) : Fin 1 → Nat :=
  let arg0 : BitVec 32 := BitVec.ofNat 32 (i 0).val
  let v20 : Index := Scalar.indexCast arg0
  ![v20.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S164.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S164) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S164.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S164) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S164.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S164) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S164.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S164) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S83968x1024 : Shape := ⟨2, ![83968, 1024]⟩
abbrev S164 : Shape := ⟨1, ![164]⟩
abbrev S1 : Shape := ⟨1, ![1]⟩
abbrev S2x32x1024x2048 : Shape := ⟨4, ![2, 32, 1024, 2048]⟩
abbrev S2x32x1x2048 : Shape := ⟨4, ![2, 32, 1, 2048]⟩
abbrev S2x32x1024x1024 : Shape := ⟨4, ![2, 32, 1024, 1024]⟩
abbrev S2x32x1x1024 : Shape := ⟨4, ![2, 32, 1, 1024]⟩
abbrev S1x32x1024x2048 : Shape := ⟨4, ![1, 32, 1024, 2048]⟩
abbrev S32x1024x2048 : Shape := ⟨3, ![32, 1024, 2048]⟩
abbrev S1x32x1x2048 : Shape := ⟨4, ![1, 32, 1, 2048]⟩
abbrev S32x2048 : Shape := ⟨2, ![32, 2048]⟩
abbrev S1x32x1024x1024 : Shape := ⟨4, ![1, 32, 1024, 1024]⟩
abbrev S32x1024x1024 : Shape := ⟨3, ![32, 1024, 1024]⟩
abbrev S1x32x1x1024 : Shape := ⟨4, ![1, 32, 1, 1024]⟩
abbrev S32x1024 : Shape := ⟨2, ![32, 1024]⟩
abbrev S512 : Shape := ⟨1, ![512]⟩
abbrev S1x512x1 : Shape := ⟨3, ![1, 512, 1]⟩
abbrev S164x1x1 : Shape := ⟨3, ![164, 1, 1]⟩
abbrev S164x512x1 : Shape := ⟨3, ![164, 512, 1]⟩
abbrev S164x512x1024 : Shape := ⟨3, ![164, 512, 1024]⟩
abbrev S_ : Shape := ⟨0, ![]⟩
abbrev S164x1 : Shape := ⟨2, ![164, 1]⟩
abbrev S164x1024x2048 : Shape := ⟨3, ![164, 1024, 2048]⟩
abbrev S164x512x2048 : Shape := ⟨3, ![164, 512, 2048]⟩
abbrev S164x2048 : Shape := ⟨2, ![164, 2048]⟩
abbrev S164x1x2048 : Shape := ⟨3, ![164, 1, 2048]⟩
abbrev S164x1024x1024 : Shape := ⟨3, ![164, 1024, 1024]⟩
abbrev S164x1024 : Shape := ⟨2, ![164, 1024]⟩
abbrev S164x1x1024 : Shape := ⟨3, ![164, 1, 1024]⟩

abbrev nBuf : Space → Nat
  | .hbm => 112
  | .vmem => 0
  | .smem => 0
  | _ => 0

abbrev bufTy : (tb : Table) → Fin (tcTables nBuf tb) → BufTy
  | .hbm, ⟨0, _⟩ => ⟨S83968x1024, .f32⟩
  | .hbm, ⟨1, _⟩ => ⟨S164, .i32⟩
  | .hbm, ⟨2, _⟩ => ⟨S164, .i32⟩
  | .hbm, ⟨3, _⟩ => ⟨S1, .i32⟩
  | .hbm, ⟨4, _⟩ => ⟨S2x32x1024x2048, .f32⟩
  | .hbm, ⟨5, _⟩ => ⟨S2x32x1x2048, .f32⟩
  | .hbm, ⟨6, _⟩ => ⟨S2x32x1024x1024, .f32⟩
  | .hbm, ⟨7, _⟩ => ⟨S2x32x1x1024, .f32⟩
  | .hbm, ⟨8, _⟩ => ⟨S1x32x1024x2048, .f32⟩
  | .hbm, ⟨9, _⟩ => ⟨S32x1024x2048, .f32⟩
  | .hbm, ⟨10, _⟩ => ⟨S1x32x1x2048, .f32⟩
  | .hbm, ⟨11, _⟩ => ⟨S32x2048, .f32⟩
  | .hbm, ⟨12, _⟩ => ⟨S1x32x1024x1024, .f32⟩
  | .hbm, ⟨13, _⟩ => ⟨S32x1024x1024, .f32⟩
  | .hbm, ⟨14, _⟩ => ⟨S1x32x1x1024, .f32⟩
  | .hbm, ⟨15, _⟩ => ⟨S32x1024, .f32⟩
  | .hbm, ⟨16, _⟩ => ⟨S512, .i32⟩
  | .hbm, ⟨17, _⟩ => ⟨S1x512x1, .i32⟩
  | .hbm, ⟨18, _⟩ => ⟨S164x1x1, .i32⟩
  | .hbm, ⟨19, _⟩ => ⟨S164x512x1, .i32⟩
  | .hbm, ⟨20, _⟩ => ⟨S164x512x1, .i32⟩
  | .hbm, ⟨21, _⟩ => ⟨S164x512x1, .i1⟩
  | .hbm, ⟨22, _⟩ => ⟨S164x512x1024, .f32⟩
  | .hbm, ⟨23, _⟩ => ⟨S_, .f32⟩
  | .hbm, ⟨24, _⟩ => ⟨S_, .f32⟩
  | .hbm, ⟨25, _⟩ => ⟨S164x512x1024, .i1⟩
  | .hbm, ⟨26, _⟩ => ⟨S164x512x1024, .f32⟩
  | .hbm, ⟨27, _⟩ => ⟨S164x512x1024, .f32⟩
  | .hbm, ⟨28, _⟩ => ⟨S_, .i32⟩
  | .hbm, ⟨29, _⟩ => ⟨S164, .i32⟩
  | .hbm, ⟨30, _⟩ => ⟨S164, .i1⟩
  | .hbm, ⟨31, _⟩ => ⟨S_, .i32⟩
  | .hbm, ⟨32, _⟩ => ⟨S164, .i32⟩
  | .hbm, ⟨33, _⟩ => ⟨S164, .i32⟩
  | .hbm, ⟨34, _⟩ => ⟨S164, .i32⟩
  | .hbm, ⟨35, _⟩ => ⟨S164x1, .i32⟩
  | .hbm, ⟨36, _⟩ => ⟨S164x1024x2048, .f32⟩
  | .hbm, ⟨37, _⟩ => ⟨S164x512x2048, .f32⟩
  | .hbm, ⟨38, _⟩ => ⟨S_, .i32⟩
  | .hbm, ⟨39, _⟩ => ⟨S164, .i32⟩
  | .hbm, ⟨40, _⟩ => ⟨S164, .i1⟩
  | .hbm, ⟨41, _⟩ => ⟨S_, .i32⟩
  | .hbm, ⟨42, _⟩ => ⟨S164, .i32⟩
  | .hbm, ⟨43, _⟩ => ⟨S164, .i32⟩
  | .hbm, ⟨44, _⟩ => ⟨S164, .i32⟩
  | .hbm, ⟨45, _⟩ => ⟨S164x1, .i32⟩
  | .hbm, ⟨46, _⟩ => ⟨S164x2048, .f32⟩
  | .hbm, ⟨47, _⟩ => ⟨S164x1x2048, .f32⟩
  | .hbm, ⟨48, _⟩ => ⟨S164x512x2048, .f32⟩
  | .hbm, ⟨49, _⟩ => ⟨S164x512x2048, .f32⟩
  | .hbm, ⟨50, _⟩ => ⟨S164x512x1024, .f32⟩
  | .hbm, ⟨51, _⟩ => ⟨S164x512x1024, .f32⟩
  | .hbm, ⟨52, _⟩ => ⟨S_, .f32⟩
  | .hbm, ⟨53, _⟩ => ⟨S164x512x1024, .f32⟩
  | .hbm, ⟨54, _⟩ => ⟨S164x512x1024, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S164x512x1024, .f32⟩
  | .hbm, ⟨59, _⟩ => ⟨S164x512x1024, .f32⟩
  | .hbm, ⟨60, _⟩ => ⟨S_, .f32⟩
  | .hbm, ⟨61, _⟩ => ⟨S164x512x1024, .f32⟩
  | .hbm, ⟨62, _⟩ => ⟨S164x512x1024, .f32⟩
  | .hbm, ⟨63, _⟩ => ⟨S_, .f32⟩
  | .hbm, ⟨64, _⟩ => ⟨S164x512x1024, .f32⟩
  | .hbm, ⟨65, _⟩ => ⟨S164x512x1024, .f32⟩
  | .hbm, ⟨66, _⟩ => ⟨S164x512x1024, .f32⟩
  | .hbm, ⟨67, _⟩ => ⟨S_, .f32⟩
  | .hbm, ⟨68, _⟩ => ⟨S164x512x1024, .f32⟩
  | .hbm, ⟨69, _⟩ => ⟨S164x512x1024, .f32⟩
  | .hbm, ⟨70, _⟩ => ⟨S164x512x1024, .f32⟩
  | .hbm, ⟨71, _⟩ => ⟨S164x512x1024, .f32⟩
  | .hbm, ⟨72, _⟩ => ⟨S_, .f32⟩
  | .hbm, ⟨73, _⟩ => ⟨S164x512x1024, .f32⟩
  | .hbm, ⟨74, _⟩ => ⟨S164x512x1024, .f32⟩
  | .hbm, ⟨75, _⟩ => ⟨S_, .f32⟩
  | .hbm, ⟨76, _⟩ => ⟨S164x512x1024, .f32⟩
  | .hbm, ⟨77, _⟩ => ⟨S164x512x1024, .f32⟩
  | .hbm, ⟨78, _⟩ => ⟨S164x512x1024, .f32⟩
  | .hbm, ⟨79, _⟩ => ⟨S_, .i32⟩
  | .hbm, ⟨80, _⟩ => ⟨S164, .i32⟩
  | .hbm, ⟨81, _⟩ => ⟨S164, .i1⟩
  | .hbm, ⟨82, _⟩ => ⟨S_, .i32⟩
  | .hbm, ⟨83, _⟩ => ⟨S164, .i32⟩
  | .hbm, ⟨84, _⟩ => ⟨S164, .i32⟩
  | .hbm, ⟨85, _⟩ => ⟨S164, .i32⟩
  | .hbm, ⟨86, _⟩ => ⟨S164x1, .i32⟩
  | .hbm, ⟨87, _⟩ => ⟨S164x1024x1024, .f32⟩
  | .hbm, ⟨88, _⟩ => ⟨S164x512x1024, .f32⟩
  | .hbm, ⟨89, _⟩ => ⟨S_, .i32⟩
  | .hbm, ⟨90, _⟩ => ⟨S164, .i32⟩
  | .hbm, ⟨91, _⟩ => ⟨S164, .i1⟩
  | .hbm, ⟨92, _⟩ => ⟨S_, .i32⟩
  | .hbm, ⟨93, _⟩ => ⟨S164, .i32⟩
  | .hbm, ⟨94, _⟩ => ⟨S164, .i32⟩
  | .hbm, ⟨95, _⟩ => ⟨S164, .i32⟩
  | .hbm, ⟨96, _⟩ => ⟨S164x1, .i32⟩
  | .hbm, ⟨97, _⟩ => ⟨S164x1024, .f32⟩
  | .hbm, ⟨98, _⟩ => ⟨S164x1x1024, .f32⟩
  | .hbm, ⟨99, _⟩ => ⟨S164x512x1024, .f32⟩
  | .hbm, ⟨100, _⟩ => ⟨S164x512x1024, .f32⟩
  | .hbm, ⟨101, _⟩ => ⟨S164, .i32⟩
  | .hbm, ⟨102, _⟩ => ⟨S164x1x1, .i32⟩
  | .hbm, ⟨103, _⟩ => ⟨S_, .i32⟩
  | .hbm, ⟨104, _⟩ => ⟨S164x1x1, .i32⟩
  | .hbm, ⟨105, _⟩ => ⟨S164x1x1, .i1⟩
  | .hbm, ⟨106, _⟩ => ⟨S_, .f32⟩
  | .hbm, ⟨107, _⟩ => ⟨S_, .f32⟩
  | .hbm, ⟨108, _⟩ => ⟨S164x512x1024, .i1⟩
  | .hbm, ⟨109, _⟩ => ⟨S164x512x1024, .f32⟩
  | .hbm, ⟨110, _⟩ => ⟨S164x512x1024, .f32⟩
  | .hbm, ⟨111, _⟩ => ⟨S83968x1024, .f32⟩
  | _, _ => ⟨S83968x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_1 : Ref sig .tc := ⟨.hbm, 38, rfl⟩
abbrev main_v24 : Ref sig .tc := ⟨.hbm, 39, rfl⟩
abbrev main_v25 : Ref sig .tc := ⟨.hbm, 40, rfl⟩
abbrev main_c_2 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_3 : Ref sig .tc := ⟨.hbm, 52, rfl⟩
abbrev main_v36 : Ref sig .tc := ⟨.hbm, 53, rfl⟩
abbrev main_v37 : Ref sig .tc := ⟨.hbm, 54, rfl⟩
abbrev main_cst_4 : Ref sig .tc := ⟨.hbm, 55, rfl⟩
abbrev main_cst_5 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_v38 : Ref sig .tc := ⟨.hbm, 62, rfl⟩
abbrev main_cst_6 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_7 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_8 : Ref sig .tc := ⟨.hbm, 72, rfl⟩
abbrev main_v46 : Ref sig .tc := ⟨.hbm, 73, rfl⟩
abbrev main_v47 : Ref sig .tc := ⟨.hbm, 74, rfl⟩
abbrev main_cst_9 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_c_10 : Ref sig .tc := ⟨.hbm, 79, rfl⟩
abbrev main_v51 : Ref sig .tc := ⟨.hbm, 80, rfl⟩
abbrev main_v52 : Ref sig .tc := ⟨.hbm, 81, rfl⟩
abbrev main_c_11 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_c_12 : Ref sig .tc := ⟨.hbm, 89, rfl⟩
abbrev main_v59 : Ref sig .tc := ⟨.hbm, 90, rfl⟩
abbrev main_v60 : Ref sig .tc := ⟨.hbm, 91, rfl⟩
abbrev main_c_13 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_14 : Ref sig .tc := ⟨.hbm, 106, rfl⟩
abbrev main_call2_v0 : Ref sig .tc := ⟨.hbm, 107, rfl⟩
abbrev main_call2_v1 : Ref sig .tc := ⟨.hbm, 108, rfl⟩
abbrev main_call2_v2 : Ref sig .tc := ⟨.hbm, 109, rfl⟩
abbrev main_v74 : Ref sig .tc := ⟨.hbm, 110, rfl⟩
abbrev main_v75 : Ref sig .tc := ⟨.hbm, 111, rfl⟩

abbrev nD : Nat := 1
abbrev τ : Topo := Topo.v7x

variable {F : FTy → Type} [FloatOps F]
-- ==== Kernel3.lean ====
abbrev S2x8448x1024 : Shape := ⟨3, ![2, 8448, 1024]⟩
abbrev S8x6144 : Shape := ⟨2, ![8, 6144]⟩
abbrev S1x1024 : Shape := ⟨2, ![1, 1024]⟩
abbrev S1024x2848 : Shape := ⟨2, ![1024, 2848]⟩
abbrev S8448x128 : Shape := ⟨2, ![8448, 128]⟩
abbrev S8x1536 : Shape := ⟨2, ![8, 1536]⟩
abbrev S8x128 : Shape := ⟨2, ![8, 128]⟩
abbrev S1x512 : Shape := ⟨2, ![1, 512]⟩
abbrev S1x128 : Shape := ⟨2, ![1, 128]⟩
abbrev S512 : Shape := ⟨1, ![512]⟩
abbrev S_ : Shape := ⟨0, ![]⟩
abbrev S512x1 : Shape := ⟨2, ![512, 1]⟩
abbrev S512x512 : Shape := ⟨2, ![512, 512]⟩
abbrev S1024x96 : Shape := ⟨2, ![1024, 96]⟩
abbrev S1024x512 : Shape := ⟨2, ![1024, 512]⟩
abbrev S1024x128 : Shape := ⟨2, ![1024, 128]⟩
abbrev S1024x16 : Shape := ⟨2, ![1024, 16]⟩
abbrev S1024x2944 : Shape := ⟨2, ![1024, 2944]⟩
abbrev S2x8448x512 : Shape := ⟨3, ![2, 8448, 512]⟩
abbrev S2x8448x128 : Shape := ⟨3, ![2, 8448, 128]⟩
abbrev S2x8448x256 : Shape := ⟨3, ![2, 8448, 256]⟩
abbrev S1x256x1024 : Shape := ⟨3, ![1, 256, 1024]⟩
abbrev S1x8x1024 : Shape := ⟨3, ![1, 8, 1024]⟩
abbrev S256x128 : Shape := ⟨2, ![256, 128]⟩
abbrev S1x256x512 : Shape := ⟨3, ![1, 256, 512]⟩
abbrev S1x256x128 : Shape := ⟨3, ![1, 256, 128]⟩
abbrev S1x256x256 : Shape := ⟨3, ![1, 256, 256]⟩
abbrev S8x1024 : Shape := ⟨2, ![8, 1024]⟩
abbrev S256x1024 : Shape := ⟨2, ![256, 1024]⟩
abbrev S272x1024 : Shape := ⟨2, ![272, 1024]⟩
abbrev S272 : Shape := ⟨1, ![272]⟩
abbrev S272x1 : Shape := ⟨2, ![272, 1]⟩
abbrev S272x2944 : Shape := ⟨2, ![272, 2944]⟩
abbrev S256x512 : Shape := ⟨2, ![256, 512]⟩
abbrev S256x1536 : Shape := ⟨2, ![256, 1536]⟩
abbrev S272x1536 : Shape := ⟨2, ![272, 1536]⟩
abbrev S1x1536 : Shape := ⟨2, ![1, 1536]⟩
abbrev S256x256 : Shape := ⟨2, ![256, 256]⟩
abbrev S128x128 : Shape := ⟨2, ![128, 128]⟩

abbrev nBuf : Space → Nat
  | .hbm => 56
  | .vmem => 34
  | .smem => 0
  | _ => 0

abbrev bufTy : (tb : Table) → Fin (tcTables nBuf tb) → BufTy
  | .hbm, ⟨0, _⟩ => ⟨S2x8448x1024, .f32⟩
  | .hbm, ⟨1, _⟩ => ⟨S8x6144, .f32⟩
  | .hbm, ⟨2, _⟩ => ⟨S1x1024, .f32⟩
  | .hbm, ⟨3, _⟩ => ⟨S1024x2848, .f32⟩
  | .hbm, ⟨4, _⟩ => ⟨S8448x128, .f32⟩
  | .hbm, ⟨5, _⟩ => ⟨S8448x128, .f32⟩
  | .hbm, ⟨6, _⟩ => ⟨S8x1536, .f32⟩
  | .hbm, ⟨7, _⟩ => ⟨S8x128, .f32⟩
  | .hbm, ⟨8, _⟩ => ⟨S1x512, .f32⟩
  | .hbm, ⟨9, _⟩ => ⟨S1x128, .f32⟩
  | .hbm, ⟨10, _⟩ => ⟨S512, .i32⟩
  | .hbm, ⟨11, _⟩ => ⟨S_, .i32⟩
  | .hbm, ⟨12, _⟩ => ⟨S_, .i32⟩
  | .hbm, ⟨13, _⟩ => ⟨S512, .i32⟩
  | .hbm, ⟨14, _⟩ => ⟨S512, .i32⟩
  | .hbm, ⟨15, _⟩ => ⟨S512, .i32⟩
  | .hbm, ⟨16, _⟩ => ⟨S_, .i32⟩
  | .hbm, ⟨17, _⟩ => ⟨S512, .i32⟩
  | .hbm, ⟨18, _⟩ => ⟨S512, .i1⟩
  | .hbm, ⟨19, _⟩ => ⟨S512, .i32⟩
  | .hbm, ⟨20, _⟩ => ⟨S512, .i32⟩
  | .hbm, ⟨21, _⟩ => ⟨S_, .i32⟩
  | .hbm, ⟨22, _⟩ => ⟨S512, .i32⟩
  | .hbm, ⟨23, _⟩ => ⟨S512, .i1⟩
  | .hbm, ⟨24, _⟩ => ⟨S512, .i1⟩
  | .hbm, ⟨25, _⟩ => ⟨S_, .i32⟩
  | .hbm, ⟨26, _⟩ => ⟨S512, .i32⟩
  | .hbm, ⟨27, _⟩ => ⟨S512, .i32⟩
  | .hbm, ⟨28, _⟩ => ⟨S512, .i32⟩
  | .hbm, ⟨29, _⟩ => ⟨S512x1, .i32⟩
  | .hbm, ⟨30, _⟩ => ⟨S1x512, .i32⟩
  | .hbm, ⟨31, _⟩ => ⟨S512x512, .i32⟩
  | .hbm, ⟨32, _⟩ => ⟨S512x512, .i32⟩
  | .hbm, ⟨33, _⟩ => ⟨S512x512, .i1⟩
  | .hbm, ⟨34, _⟩ => ⟨S512x512, .bf16⟩
  | .hbm, ⟨35, _⟩ => ⟨S_, .f32⟩
  | .hbm, ⟨36, _⟩ => ⟨S1024x96, .f32⟩
  | .hbm, ⟨37, _⟩ => ⟨S1024x512, .f32⟩
  | .hbm, ⟨38, _⟩ => ⟨S1024x512, .f32⟩
  | .hbm, ⟨39, _⟩ => ⟨S1024x512, .f32⟩
  | .hbm, ⟨40, _⟩ => ⟨S1024x512, .f32⟩
  | .hbm, ⟨41, _⟩ => ⟨S1024x512, .f32⟩
  | .hbm, ⟨42, _⟩ => ⟨S1024x128, .f32⟩
  | .hbm, ⟨43, _⟩ => ⟨S1024x128, .f32⟩
  | .hbm, ⟨44, _⟩ => ⟨S1024x16, .f32⟩
  | .hbm, ⟨45, _⟩ => ⟨S1024x16, .f32⟩
  | .hbm, ⟨46, _⟩ => ⟨S1024x2944, .f32⟩
  | .hbm, ⟨47, _⟩ => ⟨S1024x2944, .bf16⟩
  | .hbm, ⟨48, _⟩ => ⟨S2x8448x512, .f32⟩
  | .hbm, ⟨49, _⟩ => ⟨S2x8448x512, .f32⟩
  | .hbm, ⟨50, _⟩ => ⟨S2x8448x512, .f32⟩
  | .hbm, ⟨51, _⟩ => ⟨S2x8448x128, .f32⟩
  | .hbm, ⟨52, _⟩ => ⟨S2x8448x512, .bf16⟩
  | .hbm, ⟨53, _⟩ => ⟨S2x8448x256, .bf16⟩
  | .hbm, ⟨54, _⟩ => ⟨S2x8448x256, .bf16⟩
  | .hbm, ⟨55, _⟩ => ⟨S2x8448x512, .f32⟩
  | .local _ .vmem, ⟨0, _⟩ => ⟨S1x256x1024, .f32⟩
  | .local _ .vmem, ⟨1, _⟩ => ⟨S1x256x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S8x6144, .f32⟩
  | .local _ .vmem, ⟨7, _⟩ => ⟨S1x1024, .f32⟩
  | .local _ .vmem, ⟨8, _⟩ => ⟨S1024x2944, .bf16⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S8x1536, .f32⟩
  | .local _ .vmem, ⟨14, _⟩ => ⟨S8x128, .f32⟩
  | .local _ .vmem, ⟨15, _⟩ => ⟨S1x512, .f32⟩
  | .local _ .vmem, ⟨16, _⟩ => ⟨S1x128, .f32⟩
  | .local _ .vmem, ⟨17, _⟩ => ⟨S512x512, .bf16⟩
  | .local _ .vmem, ⟨18, _⟩ => ⟨S1x256x512, .f32⟩
  | .local _ .vmem, ⟨19, _⟩ => ⟨S1x256x512, .f32⟩
  | .local _ .vmem, ⟨20, _⟩ => ⟨S1x256x512, .f32⟩
  | .local _ .vmem, ⟨21, _⟩ => ⟨S1x256x512, .f32⟩
  | .local _ .vmem, ⟨22, _⟩ => ⟨S1x256x512, .f32⟩
  | .local _ .vmem, ⟨23, _⟩ => ⟨S1x256x512, .f32⟩
  | .local _ .vmem, ⟨24, _⟩ => ⟨S1x256x128, .f32⟩
  | .local _ .vmem, ⟨25, _⟩ => ⟨S1x256x128, .f32⟩
  | .local _ .vmem, ⟨26, _⟩ => ⟨S1x256x512, .bf16⟩
  | .local _ .vmem, ⟨27, _⟩ => ⟨S1x256x512, .bf16⟩
  | .local _ .vmem, ⟨28, _⟩ => ⟨S1x256x256, .bf16⟩
  | .local _ .vmem, ⟨29, _⟩ => ⟨S1x256x256, .bf16⟩
  | .local _ .vmem, ⟨30, _⟩ => ⟨S1x256x256, .bf16⟩
  | .local _ .vmem, ⟨31, _⟩ => ⟨S1x256x256, .bf16⟩
  | .local _ .vmem, ⟨32, _⟩ => ⟨S1x256x512, .f32⟩
  | .local _ .vmem, ⟨33, _⟩ => ⟨S1x256x512, .f32⟩
  | _, _ => ⟨S2x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20_0 : Ref sig .tc := ⟨.hbm, 48, rfl⟩
abbrev main_v20_1 : Ref sig .tc := ⟨.hbm, 49, rfl⟩
abbrev main_v20_2 : Ref sig .tc := ⟨.hbm, 50, rfl⟩
abbrev main_v20_3 : Ref sig .tc := ⟨.hbm, 51, rfl⟩
abbrev main_v20_4 : Ref sig .tc := ⟨.hbm, 52, rfl⟩
abbrev main_v20_5 : Ref sig .tc := ⟨.hbm, 53, rfl⟩
abbrev main_v20_6 : Ref sig .tc := ⟨.hbm, 54, rfl⟩
abbrev main_v20_7 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33

abbrev nD : Nat := 1
abbrev τ : Topo := Topo.v7x

variable {F : FTy → Type} [FloatOps F]

abbrev grid0 : Pipeline.Grid := ⟨2, ![2, 33], ![false, false]⟩

def k0_off1 (i : grid0.Coords) : Fin 2 → Nat :=
  let arg0 : BitVec 32 := BitVec.ofNat 32 (i 0).val
  let v23 : Index := Scalar.indexCast arg0
  let c0_14 : Index := 0#32
  ![v23.toNat, 0]
def k0_off2 (i : grid0.Coords) : Fin 2 → Nat :=
  let arg0 : BitVec 32 := BitVec.ofNat 32 (i 0).val
  let v27 : Index := Scalar.indexCast arg0
  let c1024 : Index := 1024#32
  ![v27.toNat, 1024]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c1055_i32 : BitVec 32 := 1055#32
  let v2 : BitVec 32 := Scalar.minsi v1 c1055_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2944 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S8x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S512x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x256x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x256x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x256x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== Reference3Ideal.lean ====
abbrev S2x8448x1024 : Shape := ⟨3, ![2, 8448, 1024]⟩
abbrev S8x6144 : Shape := ⟨2, ![8, 6144]⟩
abbrev S1x1024 : Shape := ⟨2, ![1, 1024]⟩
abbrev S1024x2848 : Shape := ⟨2, ![1024, 2848]⟩
abbrev S8448x128 : Shape := ⟨2, ![8448, 128]⟩
abbrev S8x1536 : Shape := ⟨2, ![8, 1536]⟩
abbrev S8x128 : Shape := ⟨2, ![8, 128]⟩
abbrev S1x512 : Shape := ⟨2, ![1, 512]⟩
abbrev S1x128 : Shape := ⟨2, ![1, 128]⟩
abbrev S2x256x1024 : Shape := ⟨3, ![2, 256, 1024]⟩
abbrev S1x6144 : Shape := ⟨2, ![1, 6144]⟩
abbrev S6144 : Shape := ⟨1, ![6144]⟩
abbrev S1024 : Shape := ⟨1, ![1024]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S2x256x2848 : Shape := ⟨3, ![2, 256, 2848]⟩
abbrev S2x8192x1024 : Shape := ⟨3, ![2, 8192, 1024]⟩
abbrev S2x6144 : Shape := ⟨2, ![2, 6144]⟩
abbrev S2x1x6144 : Shape := ⟨3, ![2, 1, 6144]⟩
abbrev S2x1x1024 : Shape := ⟨3, ![2, 1, 1024]⟩
abbrev S2x8192 : Shape := ⟨2, ![2, 8192]⟩
abbrev S2x8192x1 : Shape := ⟨3, ![2, 8192, 1]⟩
abbrev S2x8192x2848 : Shape := ⟨3, ![2, 8192, 2848]⟩
abbrev S2x256x1536 : Shape := ⟨3, ![2, 256, 1536]⟩
abbrev S2x260x1536 : Shape := ⟨3, ![2, 260, 1536]⟩
abbrev S1x1536 : Shape := ⟨2, ![1, 1536]⟩
abbrev S1536 : Shape := ⟨1, ![1536]⟩
abbrev S1x1x1536 : Shape := ⟨3, ![1, 1, 1536]⟩
abbrev S2x8192x1536 : Shape := ⟨3, ![2, 8192, 1536]⟩
abbrev S2x8196x1536 : Shape := ⟨3, ![2, 8196, 1536]⟩
abbrev S2x8448x1536 : Shape := ⟨3, ![2, 8448, 1536]⟩
abbrev S2x256x512 : Shape := ⟨3, ![2, 256, 512]⟩
abbrev S2x8192x512 : Shape := ⟨3, ![2, 8192, 512]⟩
abbrev S2x8448x512 : Shape := ⟨3, ![2, 8448, 512]⟩
abbrev S2x8448x8x64 : Shape := ⟨4, ![2, 8448, 8, 64]⟩
abbrev S2x8448x8 : Shape := ⟨3, ![2, 8448, 8]⟩
abbrev S2x8448x8x1 : Shape := ⟨4, ![2, 8448, 8, 1]⟩

abbrev nBuf : Space → Nat
  | .hbm => 206
  | .vmem => 0
  | .smem => 0
  | _ => 0

abbrev hbmTy0_0 (i : Nat) : BufTy := match i % 128 with
  | 0 => ⟨S2x8448x1024, .f32⟩
  | 1 => ⟨S8x6144, .f32⟩
  | 2 => ⟨S1x1024, .f32⟩
  | 3 => ⟨S1024x2848, .f32⟩
  | 4 => ⟨S8448x128, .f32⟩
  | 5 => ⟨S8448x128, .f32⟩
  | 6 => ⟨S8x1536, .f32⟩
  | 7 => ⟨S8x128, .f32⟩
  | 8 => ⟨S1x512, .f32⟩
  | 9 => ⟨S1x128, .f32⟩
  | 10 => ⟨S2x256x1024, .f32⟩
  | 11 => ⟨S1x6144, .f32⟩
  | 12 => ⟨S6144, .f32⟩
  | 13 => ⟨S1024, .f32⟩
  | 14 => ⟨S1024, .f32⟩
  | 15 => ⟨S2x256x1024, .f32⟩
  | 16 => ⟨S_, .f32⟩
  | 17 => ⟨S2x256, .f32⟩
  | 18 => ⟨S2x256x1, .f32⟩
  | 19 => ⟨S_, .f32⟩
  | 20 => ⟨S2x256x1, .f32⟩
  | 21 => ⟨S2x256x1, .f32⟩
  | 22 => ⟨S_, .f32⟩
  | 23 => ⟨S2x256x1, .f32⟩
  | 24 => ⟨S2x256x1, .f32⟩
  | 25 => ⟨S2x256x1, .f32⟩
  | 26 => ⟨S2x256x1024, .f32⟩
  | 27 => ⟨S2x256x1024, .f32⟩
  | 28 => ⟨S1024, .f32⟩
  | 29 => ⟨S1x1x1024, .f32⟩
  | 30 => ⟨S2x256x1024, .f32⟩
  | 31 => ⟨S2x256x1024, .f32⟩
  | 32 => ⟨S_, .f32⟩
  | 33 => ⟨S1024, .f32⟩
  | 34 => ⟨S1024, .f32⟩
  | 35 => ⟨S1x1x1024, .f32⟩
  | 36 => ⟨S2x256x1024, .f32⟩
  | 37 => ⟨S2x256x1024, .f32⟩
  | 38 => ⟨S1x1x1024, .f32⟩
  | 39 => ⟨S2x256x1024, .f32⟩
  | 40 => ⟨S2x256x1024, .f32⟩
  | 41 => ⟨S2x256x2848, .f32⟩
  | 42 => ⟨S2x8192x1024, .f32⟩
  | 43 => ⟨S2x6144, .f32⟩
  | 44 => ⟨S2x1x6144, .f32⟩
  | 45 => ⟨S2x1x1024, .f32⟩
  | 46 => ⟨S2x1x1024, .f32⟩
  | 47 => ⟨S2x8192x1024, .f32⟩
  | 48 => ⟨S_, .f32⟩
  | 49 => ⟨S2x8192, .f32⟩
  | 50 => ⟨S2x8192x1, .f32⟩
  | 51 => ⟨S_, .f32⟩
  | 52 => ⟨S2x8192x1, .f32⟩
  | 53 => ⟨S2x8192x1, .f32⟩
  | 54 => ⟨S_, .f32⟩
  | 55 => ⟨S2x8192x1, .f32⟩
  | 56 => ⟨S2x8192x1, .f32⟩
  | 57 => ⟨S2x8192x1, .f32⟩
  | 58 => ⟨S2x8192x1024, .f32⟩
  | 59 => ⟨S2x8192x1024, .f32⟩
  | 60 => ⟨S1024, .f32⟩
  | 61 => ⟨S1x1x1024, .f32⟩
  | 62 => ⟨S2x8192x1024, .f32⟩
  | 63 => ⟨S2x8192x1024, .f32⟩
  | 64 => ⟨S_, .f32⟩
  | 65 => ⟨S2x1x1024, .f32⟩
  | 66 => ⟨S2x1x1024, .f32⟩
  | 67 => ⟨S2x8192x1024, .f32⟩
  | 68 => ⟨S2x8192x1024, .f32⟩
  | 69 => ⟨S2x8192x1024, .f32⟩
  | 70 => ⟨S2x8192x1024, .f32⟩
  | 71 => ⟨S2x8192x2848, .f32⟩
  | 72 => ⟨S2x256x1536, .f32⟩
  | 73 => ⟨S_, .i32⟩
  | 74 => ⟨S_, .f32⟩
  | 75 => ⟨S2x260x1536, .f32⟩
  | 76 => ⟨S2x256x1536, .f32⟩
  | 77 => ⟨S1x1536, .f32⟩
  | 78 => ⟨S1536, .f32⟩
  | 79 => ⟨S1x1x1536, .f32⟩
  | 80 => ⟨S2x256x1536, .f32⟩
  | 81 => ⟨S2x256x1536, .f32⟩
  | 82 => ⟨S_, .f32⟩
  | 83 => ⟨S2x256x1536, .f32⟩
  | 84 => ⟨S2x256x1536, .f32⟩
  | 85 => ⟨S2x256x1536, .f32⟩
  | 86 => ⟨S1x1536, .f32⟩
  | 87 => ⟨S1536, .f32⟩
  | 88 => ⟨S1x1x1536, .f32⟩
  | 89 => ⟨S2x256x1536, .f32⟩
  | 90 => ⟨S2x256x1536, .f32⟩
  | 91 => ⟨S2x256x1536, .f32⟩
  | 92 => ⟨S2x256x1536, .f32⟩
  | 93 => ⟨S1x1536, .f32⟩
  | 94 => ⟨S1536, .f32⟩
  | 95 => ⟨S1x1x1536, .f32⟩
  | 96 => ⟨S2x256x1536, .f32⟩
  | 97 => ⟨S2x256x1536, .f32⟩
  | 98 => ⟨S2x256x1536, .f32⟩
  | 99 => ⟨S2x256x1536, .f32⟩
  | 100 => ⟨S1x1536, .f32⟩
  | 101 => ⟨S1536, .f32⟩
  | 102 => ⟨S1x1x1536, .f32⟩
  | 103 => ⟨S2x256x1536, .f32⟩
  | 104 => ⟨S2x256x1536, .f32⟩
  | 105 => ⟨S2x256x1536, .f32⟩
  | 106 => ⟨S2x256x1536, .f32⟩
  | 107 => ⟨S1x1536, .f32⟩
  | 108 => ⟨S1536, .f32⟩
  | 109 => ⟨S1x1x1536, .f32⟩
  | 110 => ⟨S2x256x1536, .f32⟩
  | 111 => ⟨S2x256x1536, .f32⟩
  | 112 => ⟨S2x256x1536, .f32⟩
  | 113 => ⟨S2x256x1536, .f32⟩
  | 114 => ⟨S2x256x1536, .f32⟩
  | 115 => ⟨S_, .f32⟩
  | 116 => ⟨S2x256x1536, .f32⟩
  | 117 => ⟨S2x256x1536, .f32⟩
  | 118 => ⟨S_, .f32⟩
  | 119 => ⟨S2x256x1536, .f32⟩
  | 120 => ⟨S2x256x1536, .f32⟩
  | 121 => ⟨S2x256x1536, .f32⟩
  | 122 => ⟨S2x8192x1536, .f32⟩
  | 123 => ⟨S_, .i32⟩
  | 124 => ⟨S_, .f32⟩
  | 125 => ⟨S2x8196x1536, .f32⟩
  | 126 => ⟨S2x8192x1536, .f32⟩
  | 127 => ⟨S1x1536, .f32⟩
  | _ => ⟨S2x8448x1024, .f32⟩

abbrev hbmTy0_1 (i : Nat) : BufTy := match i % 128 with
  | 0 => ⟨S1536, .f32⟩
  | 1 => ⟨S1x1x1536, .f32⟩
  | 2 => ⟨S2x8192x1536, .f32⟩
  | 3 => ⟨S2x8192x1536, .f32⟩
  | 4 => ⟨S_, .f32⟩
  | 5 => ⟨S2x8192x1536, .f32⟩
  | 6 => ⟨S2x8192x1536, .f32⟩
  | 7 => ⟨S2x8192x1536, .f32⟩
  | 8 => ⟨S1x1536, .f32⟩
  | 9 => ⟨S1536, .f32⟩
  | 10 => ⟨S1x1x1536, .f32⟩
  | 11 => ⟨S2x8192x1536, .f32⟩
  | 12 => ⟨S2x8192x1536, .f32⟩
  | 13 => ⟨S2x8192x1536, .f32⟩
  | 14 => ⟨S2x8192x1536, .f32⟩
  | 15 => ⟨S1x1536, .f32⟩
  | 16 => ⟨S1536, .f32⟩
  | 17 => ⟨S1x1x1536, .f32⟩
  | 18 => ⟨S2x8192x1536, .f32⟩
  | 19 => ⟨S2x8192x1536, .f32⟩
  | 20 => ⟨S2x8192x1536, .f32⟩
  | 21 => ⟨S2x8192x1536, .f32⟩
  | 22 => ⟨S1x1536, .f32⟩
  | 23 => ⟨S1536, .f32⟩
  | 24 => ⟨S1x1x1536, .f32⟩
  | 25 => ⟨S2x8192x1536, .f32⟩
  | 26 => ⟨S2x8192x1536, .f32⟩
  | 27 => ⟨S2x8192x1536, .f32⟩
  | 28 => ⟨S2x8192x1536, .f32⟩
  | 29 => ⟨S1x1536, .f32⟩
  | 30 => ⟨S1536, .f32⟩
  | 31 => ⟨S1x1x1536, .f32⟩
  | 32 => ⟨S2x8192x1536, .f32⟩
  | 33 => ⟨S2x8192x1536, .f32⟩
  | 34 => ⟨S2x8192x1536, .f32⟩
  | 35 => ⟨S2x8192x1536, .f32⟩
  | 36 => ⟨S2x8192x1536, .f32⟩
  | 37 => ⟨S_, .f32⟩
  | 38 => ⟨S2x8192x1536, .f32⟩
  | 39 => ⟨S2x8192x1536, .f32⟩
  | 40 => ⟨S_, .f32⟩
  | 41 => ⟨S2x8192x1536, .f32⟩
  | 42 => ⟨S2x8192x1536, .f32⟩
  | 43 => ⟨S2x8192x1536, .f32⟩
  | 44 => ⟨S2x8448x1536, .f32⟩
  | 45 => ⟨S2x256x512, .f32⟩
  | 46 => ⟨S2x8192x512, .f32⟩
  | 47 => ⟨S2x8448x512, .f32⟩
  | 48 => ⟨S2x8448x512, .f32⟩
  | 49 => ⟨S2x8448x8x64, .f32⟩
  | 50 => ⟨S2x8448x8x64, .f32⟩
  | 51 => ⟨S_, .f32⟩
  | 52 => ⟨S2x8448x8, .f32⟩
  | 53 => ⟨S2x8448x8x1, .f32⟩
  | 54 => ⟨S_, .f32⟩
  | 55 => ⟨S2x8448x8x1, .f32⟩
  | 56 => ⟨S2x8448x8x1, .f32⟩
  | 57 => ⟨S2x8448x8x1, .f32⟩
  | 58 => ⟨S2x8448x8x64, .f32⟩
  | 59 => ⟨S2x8448x8x64, .f32⟩
  | 60 => ⟨S_, .f32⟩
  | 61 => ⟨S2x8448x8x64, .f32⟩
  | 62 => ⟨S2x8448x8x64, .f32⟩
  | 63 => ⟨S2x8448x512, .f32⟩
  | 64 => ⟨S2x8448x8x64, .f32⟩
  | 65 => ⟨S2x8448x8x64, .f32⟩
  | 66 => ⟨S_, .f32⟩
  | 67 => ⟨S2x8448x8, .f32⟩
  | 68 => ⟨S2x8448x8x1, .f32⟩
  | 69 => ⟨S_, .f32⟩
  | 70 => ⟨S2x8448x8x1, .f32⟩
  | 71 => ⟨S2x8448x8x1, .f32⟩
  | 72 => ⟨S2x8448x8x1, .f32⟩
  | 73 => ⟨S2x8448x8x64, .f32⟩
  | 74 => ⟨S2x8448x8x64, .f32⟩
  | 75 => ⟨S2x8448x512, .f32⟩
  | 76 => ⟨S2x8448x512, .f32⟩
  | 77 => ⟨S2x8448x512, .f32⟩
  | _ => ⟨S2x8448x1024, .f32⟩

abbrev hbmTy (i : Nat) : BufTy := match i / 128 with
  | 0 => hbmTy0_0 i
  | 1 => hbmTy0_1 i
  | _ => ⟨S2x8448x1024, .f32⟩

abbrev bufTy : (tb : Table) → Fin (tcTables nBuf tb) → BufTy
  | .hbm, ⟨i, _⟩ => hbmTy i
  | _, _ => ⟨S2x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_cst_4 : Ref sig .tc := ⟨.hbm, 51, rfl⟩
abbrev main_v36 : Ref sig .tc := ⟨.hbm, 52, rfl⟩
abbrev main_v37 : Ref sig .tc := ⟨.hbm, 53, rfl⟩
abbrev main_cst_5 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_6 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_c : Ref sig .tc := ⟨.hbm, 73, rfl⟩
abbrev main_call0_v0 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_7 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_cst_8 : Ref sig .tc := ⟨.hbm, 115, rfl⟩
abbrev main_v94 : Ref sig .tc := ⟨.hbm, 116, rfl⟩
abbrev main_v95 : Ref sig .tc := ⟨.hbm, 117, rfl⟩
abbrev main_cst_9 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_c_10 : Ref sig .tc := ⟨.hbm, 123, rfl⟩
abbrev main_call1_v0 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_cst_11 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_cst_12 : Ref sig .tc := ⟨.hbm, 165, rfl⟩
abbrev main_v139 : Ref sig .tc := ⟨.hbm, 166, rfl⟩
abbrev main_v140 : Ref sig .tc := ⟨.hbm, 167, rfl⟩
abbrev main_cst_13 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_cst_14 : Ref sig .tc := ⟨.hbm, 179, rfl⟩
abbrev main_v151 : Ref sig .tc := ⟨.hbm, 180, rfl⟩
abbrev main_v152 : Ref sig .tc := ⟨.hbm, 181, rfl⟩
abbrev main_cst_15 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_cst_16 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_cst_17 : Ref sig .tc := ⟨.hbm, 194, rfl⟩
abbrev main_v163 : Ref sig .tc := ⟨.hbm, 195, rfl⟩
abbrev main_v164 : Ref sig .tc := ⟨.hbm, 196, rfl⟩
abbrev main_cst_18 : Ref sig .tc := ⟨.hbm, 197, rfl⟩
abbrev main_v165 : Ref sig .tc := ⟨.hbm, 198, rfl⟩
abbrev main_v166 : Ref sig .tc := ⟨.hbm, 199, rfl⟩
abbrev main_v167 : Ref sig .tc := ⟨.hbm, 200, rfl⟩
abbrev main_v168 : Ref sig .tc := ⟨.hbm, 201, rfl⟩
abbrev main_v169 : Ref sig .tc := ⟨.hbm, 202, rfl⟩
abbrev main_v170 : Ref sig .tc := ⟨.hbm, 203, rfl⟩
abbrev main_v171 : Ref sig .tc := ⟨.hbm, 204, rfl⟩
abbrev main_v172 : Ref sig .tc := ⟨.hbm, 205, rfl⟩

abbrev nD : Nat := 1
abbrev τ : Topo := Topo.v7x

variable {F : FTy → Type} [FloatOps F]
-- ==== Proof.Words.lean ====
/-
  The position arithmetic of the masks, on 32-bit words: a word that is the word of a small integer keeps
  being one under the sums, differences, products and absolute values the masks form, and a signed comparison
  of two such words is the comparison of the integers.
-/
module

public import Idealize.ShloMosaic.PureOps
public import Idealize.ShloMosaic.Lib.Pointwise
public import Idealize.ShloMosaic.Lib.WordCmp

@[expose] public section

namespace Cert.Words

open Idealize.ShloMosaic

/-- A one-bit word read as a proposition. -/
theorem andi_eq_one (a b : BitVec 1) : IntOp.andi a b = 1 ↔ a = 1 ∧ b = 1 := by
  revert a b; decide

theorem ori_eq_one (a b : BitVec 1) : IntOp.ori a b = 1 ↔ a = 1 ∨ b = 1 := by
  revert a b; decide

theorem ofBool_eq_one (p : Bool) : BitVec.ofBool p = 1 ↔ p = true := by
  revert p; decide

theorem toInt_ofInt {a : ℤ} (h : -1000000 < a ∧ a < 1000000) : (BitVec.ofInt 32 a).toInt = a := by
  rw [BitVec.toInt_ofInt]; apply Int.bmod_eq_of_le <;> omega

/-- Signed comparisons of words of small integers. -/
theorem sle_eq_one {x y : BitVec 32} {a b : ℤ} (hx : x = BitVec.ofInt 32 a) (hy : y = BitVec.ofInt 32 b)
    (ha : -1000000 < a ∧ a < 1000000) (hb : -1000000 < b ∧ b < 1000000) :
    IntOp.cmpi .sle x y = 1 ↔ a ≤ b := by
  subst hx hy
  unfold IntOp.cmpi
  rw [ofBool_eq_one, BitVec.sle_iff_toInt_le, toInt_ofInt ha, toInt_ofInt hb]

theorem slt_eq_one {x y : BitVec 32} {a b : ℤ} (hx : x = BitVec.ofInt 32 a) (hy : y = BitVec.ofInt 32 b)
    (ha : -1000000 < a ∧ a < 1000000) (hb : -1000000 < b ∧ b < 1000000) :
    IntOp.cmpi .slt x y = 1 ↔ a < b := by
  subst hx hy
  unfold IntOp.cmpi
  rw [ofBool_eq_one, BitVec.slt_iff_toInt_lt, toInt_ofInt ha, toInt_ofInt hb]

theorem sge_eq_one {x y : BitVec 32} {a b : ℤ} (hx : x = BitVec.ofInt 32 a) (hy : y = BitVec.ofInt 32 b)
    (ha : -1000000 < a ∧ a < 1000000) (hb : -1000000 < b ∧ b < 1000000) :
    IntOp.cmpi .sge x y = 1 ↔ b ≤ a := by
  subst hx hy
  unfold IntOp.cmpi
  rw [ofBool_eq_one, BitVec.sle_iff_toInt_le, toInt_ofInt ha, toInt_ofInt hb]

theorem ofNat_word (n : ℕ) : BitVec.ofNat 32 n = BitVec.ofInt 32 (n : ℤ) := by
  simp

theorem add_word {x y : BitVec 32} {a b : ℤ} (hx : x = BitVec.ofInt 32 a) (hy : y = BitVec.ofInt 32 b) :
    IntOp.addi x y = BitVec.ofInt 32 (a + b) := by
  subst hx hy; exact (BitVec.ofInt_add ..).symm

theorem mul_word {x y : BitVec 32} {a b : ℤ} (hx : x = BitVec.ofInt 32 a) (hy : y = BitVec.ofInt 32 b) :
    IntOp.muli x y = BitVec.ofInt 32 (a * b) := by
  subst hx hy; exact (BitVec.ofInt_mul ..).symm

theorem sub_word {x y : BitVec 32} {a b : ℤ} (hx : x = BitVec.ofInt 32 a) (hy : y = BitVec.ofInt 32 b) :
    IntOp.subi x y = BitVec.ofInt 32 (a - b) := by
  subst hx hy
  rw [show a - b = a + -b from rfl, BitVec.ofInt_add, BitVec.ofInt_neg]; exact BitVec.sub_eq_add_neg ..

theorem abs_word {x : BitVec 32} {a : ℤ} (hx : x = BitVec.ofInt 32 a) (ha : -1000000 < a ∧ a < 1000000) :
    IntOp.absi x = BitVec.ofInt 32 |a| := by
  subst hx
  unfold IntOp.absi
  rw [BitVec.msb_eq_toInt, toInt_ofInt ha]
  by_cases h : a < 0
  · simp only [h, decide_true, if_true, abs_of_neg h, BitVec.ofInt_neg]
  · simp only [h, decide_false, Bool.false_eq_true, if_false, abs_of_nonneg (not_lt.1 h)]

/-- The remainder of a small number by 128, as the mask takes it: its low seven bits. -/
theorem low_word {n : ℕ} (h : n < 1000000) : IntOp.andi (BitVec.ofNat 32 n) 127#32 = BitVec.ofInt 32 ((n % 128 : ℕ) : ℤ) := by
  rw [← ofNat_word]
  apply BitVec.eq_of_toNat_eq
  unfold IntOp.andi
  rw [BitVec.toNat_and, BitVec.toNat_ofNat, BitVec.toNat_ofNat, BitVec.toNat_ofNat,
    Nat.mod_eq_of_lt (show n < 2 ^ 32 by omega), show 127 % 2 ^ 32 = 2 ^ 7 - 1 from rfl, Nat.and_two_pow_sub_one_eq_mod]
  omega

end Cert.Words
-- ==== Proof.Block.lean ====
/-
  What one grid point stores, read at an index. The body does the same thing four times — for the two key/value
  heads and the two lane halves: scores against the 640 key columns, the mask, the row maximum with the sink,
  the exponentials, the reciprocal of their sum, the weighted values — so the four are one pair of functions
  (`wgt`, `rec`) at four operands, and the stored block lays them side by side (`store`).
-/
module

public import proofs.«01_k».proof.Proof.Gen.KernelIdeal.Skeleton
public import proofs.«01_k».proof.Proof.Words
public import Idealize.ShloMosaic.Lib.Pointwise

@[expose] public section
set_option maxRecDepth 16384

noncomputable section

namespace Cert.KernelIdeal.Block

open Cert.KernelIdeal Cert.KernelIdeal.Gen Idealize.ShloMosaic Idealize.ShloMosaic.TcCoe

/-! ## The four heads of a point are one function -/

variable (M : IVec S256x640 1) (Q : FVec Ideal S256x128 .bf16) (K : FVec Ideal S640x128 .bf16) (A : FVec Ideal S256x1 .f32)

/-- The masked scores of 256 query rows against the 640 key columns. -/
def sco : FVec Ideal S256x640 .f32 :=
  select M (matmul dot_S256x128_S640x128_S256x640_1_1_0_0_n_n none Q K (constant S256x640 .f32 0x00000000#32))
    (broadcast S256x640 (Named.named κ "mask" 0xF149F2CA#32))

/-- The row maxima with the sinks `A`. -/
def mx : FVec Ideal S256x1 .f32 :=
  maximumf (shapeCast S256x1 (multiReduction .maximumf [1] S256 (sco M Q K) 0xFF800000#32 reduces_S256x640_S256 (.inl rfl) rfl)
    shapeCasts_S256_S256x1) A

/-- The exponentials. -/
def wgt : FVec Ideal S256x640 .f32 :=
  exp (subf (sco M Q K) (broadcastTo S256x640 (mx M Q K A) broadcasts_S256x1_S256x640))

/-- The reciprocals of the rows' denominators. -/
def rec : FVec Ideal S256x1 .f32 :=
  divf (broadcast S256x1 (Scalar.ofBits .f32 0x3F800000#32))
    (addf (shapeCast S256x1 (multiReduction .add [1] S256 (wgt M Q K A) 0x00000000#32 reduces_S256x640_S256 (.inl rfl) rfl)
      shapeCasts_S256_S256x1) (exp (subf A (mx M Q K A))))

/-- The values under a head's weights, times the reciprocal. -/
def att (W : FVec Ideal S256x640 .f32) (R : FVec Ideal S256x1 .f32) (X : FVec Ideal S640x128 .bf16) : FVec Ideal S256x128 .f32 :=
  mulf (matmul dot_S256x640_S640x128_S256x128_1_0_0_1_n_n none (truncf .bf16 W bitsLt_bf16_f32) X (constant S256x128 .f32 0x00000000#32))
    (broadcastTo S256x128 R broadcasts_S256x1_S256x128)

/-- The block a point stores, of its four heads' values. -/
def store (a0 a1 a2 a3 : FVec Ideal S256x128 .f32) : FVec Ideal S1x128x512 .bf16 :=
  shapeCast S1x128x512 (truncf .bf16 (concatenate S128x512 1
    [⟨S128x128, extractStridedSlice S128x128 ![0, 0] (addf a0 a1) slices_S256x128_o0_0_S128x128⟩,
      ⟨S128x128, extractStridedSlice S128x128 ![128, 0] (addf a0 a1) slices_S256x128_o128_0_S128x128⟩,
      ⟨S128x128, extractStridedSlice S128x128 ![0, 0] (addf a2 a3) slices_S256x128_o0_0_S128x128⟩,
      ⟨S128x128, extractStridedSlice S128x128 ![128, 0] (addf a2 a3) slices_S256x128_o128_0_S128x128⟩]
    concatenates_S128x128_S128x128_S128x128_S128x128_S128x512_d1) bitsLt_bf16_f32) shapeCasts_S128x512_S1x128x512

/-- The sinks of two query heads, the first over the upper 128 rows, the second over the lower. -/
abbrev sk (a b : EReal) : FVec Ideal S256x1 .f32 :=
  k0_pay23 (F := Ideal) (iota Kind.tc S256x1 32 [0] iota_S256x1_d0_w32) a b

/-- THE STORED BLOCK of a point: `q` its query block, `k0 … k3` its key blocks (before, at, after the query block,
    context), `v0 … v3` its value blocks, `s0 … s7` the sinks. -/
def blockOf (q : FVec Ideal S128x512 .bf16) (k0 k1 k2 : FVec Ideal S1x128x256 .bf16) (k3 : FVec Ideal S1x256x256 .bf16)
    (v0 v1 v2 : FVec Ideal S1x128x256 .bf16) (v3 : FVec Ideal S1x256x256 .bf16) (s0 s1 s2 s3 s4 s5 s6 s7 : EReal) :
    FVec Ideal S1x128x512 .bf16 :=
  let Q0 := k0_pay19 (F := Ideal) (k0_pay17 q) (k0_pay18 q)
  let Q1 := k0_pay20 (F := Ideal) q
  let K0 := k0_pay9 (F := Ideal) (k0_pay4 k0) k1 k2 k3
  let K1 := k0_pay10 (F := Ideal) (k0_pay4 k0) k1 k2 k3
  let K2 := k0_pay11 (F := Ideal) (k0_pay4 k0) k1 k2 k3
  let K3 := k0_pay12 (F := Ideal) (k0_pay4 k0) k1 k2 k3
  store (att (wgt M Q0 K0 (sk s0 s2)) (rec M Q0 K0 (sk s0 s2)) (k0_pay13 (F := Ideal) v0 v1 v2 v3))
    (att (wgt M Q0 K1 (sk s1 s3)) (rec M Q0 K1 (sk s1 s3)) (k0_pay14 (F := Ideal) v0 v1 v2 v3))
    (att (wgt M Q1 K2 (sk s4 s6)) (rec M Q1 K2 (sk s4 s6)) (k0_pay15 (F := Ideal) v0 v1 v2 v3))
    (att (wgt M Q1 K3 (sk s5 s7)) (rec M Q1 K3 (sk s5 s7)) (k0_pay16 (F := Ideal) v0 v1 v2 v3))

/-- The stored payload is that block. -/
theorem payload_eq (q : FVec Ideal S128x512 .bf16) (k0 k1 k2 : FVec Ideal S1x128x256 .bf16) (k3 : FVec Ideal S1x256x256 .bf16)
    (v0 v1 v2 : FVec Ideal S1x128x256 .bf16) (v3 : FVec Ideal S1x256x256 .bf16) (s0 s1 s2 s3 s4 s5 s6 s7 : EReal) :
    k0_pay1 (F := Ideal) (k0_pay13 v0 v1 v2 v3) (k0_pay14 v0 v1 v2 v3) (k0_pay15 v0 v1 v2 v3) (k0_pay16 v0 v1 v2 v3)
      (k0_pay27 (iota Kind.tc S256x1 32 [0] iota_S256x1_d0_w32) M (k0_pay9 (k0_pay4 k0) k1 k2 k3) (k0_pay17 q) (k0_pay18 q) s0 s2)
      (k0_pay28 (iota Kind.tc S256x1 32 [0] iota_S256x1_d0_w32) M (k0_pay9 (k0_pay4 k0) k1 k2 k3) (k0_pay17 q) (k0_pay18 q) s0 s2)
      (k0_pay34 (k0_pay29 (iota Kind.tc S256x1 32 [0] iota_S256x1_d0_w32) s1 s3)
        (k0_pay30 M (k0_pay10 (k0_pay4 k0) k1 k2 k3) (k0_pay17 q) (k0_pay18 q))
        (k0_pay31 (iota Kind.tc S256x1 32 [0] iota_S256x1_d0_w32) M (k0_pay10 (k0_pay4 k0) k1 k2 k3) (k0_pay17 q) (k0_pay18 q) s1 s3)
        (k0_pay32 (iota Kind.tc S256x1 32 [0] iota_S256x1_d0_w32) M (k0_pay10 (k0_pay4 k0) k1 k2 k3) (k0_pay17 q) (k0_pay18 q) s1 s3))
      (k0_pay35 (k0_pay30 M (k0_pay10 (k0_pay4 k0) k1 k2 k3) (k0_pay17 q) (k0_pay18 q))
        (k0_pay32 (iota Kind.tc S256x1 32 [0] iota_S256x1_d0_w32) M (k0_pay10 (k0_pay4 k0) k1 k2 k3) (k0_pay17 q) (k0_pay18 q) s1 s3))
      (k0_pay40 (iota Kind.tc S256x1 32 [0] iota_S256x1_d0_w32) M (k0_pay21 q (k0_pay11 (k0_pay4 k0) k1 k2 k3)) s4 s6)
      (k0_pay41 (iota Kind.tc S256x1 32 [0] iota_S256x1_d0_w32) M (k0_pay21 q (k0_pay11 (k0_pay4 k0) k1 k2 k3)) s4 s6)
      (k0_pay42 (iota Kind.tc S256x1 32 [0] iota_S256x1_d0_w32) s5 s7)
      (k0_pay43 M (k0_pay22 q (k0_pay12 (k0_pay4 k0) k1 k2 k3)))
      (k0_pay44 (iota Kind.tc S256x1 32 [0] iota_S256x1_d0_w32) M (k0_pay22 q (k0_pay12 (k0_pay4 k0) k1 k2 k3)) s5 s7)
      (k0_pay45 (iota Kind.tc S256x1 32 [0] iota_S256x1_d0_w32) M (k0_pay22 q (k0_pay12 (k0_pay4 k0) k1 k2 k3)) s5 s7)
    = blockOf M q k0 k1 k2 k3 v0 v1 v2 v3 s0 s1 s2 s3 s4 s5 s6 s7 := by
  rfl

/-! ## Read at an index -/

/-- The named mask constant is minus infinity. -/
theorem mask_value : Named.named (F := Ideal) κ "mask" (φ := .f32) 0xF149F2CA#32 = (⊥ : EReal) :=
  IdealRules.named_const.ideal_named_scalar _ _ _ _ rfl

theorem neg_inf : Ideal.ofBits .f32 0xFF800000#32 = ⊥ := by simp [Ideal.ofBits, Ideal.ieee]

theorem sco_at (r : Fin 256) (j : Fin 640) :
    sco M Q K (ix2 r j) = if M (ix2 r j) = 1 then ∑ x : Fin 128, Q (ix2 r x) * K (ix2 j x) else ⊥ := by
  pointwise [sco]
  rw [mask_value]; rfl

theorem mx_at (r : Fin 256) : mx M Q K A (ix2 r 0)
    = max (Finset.univ.fold max ⊥ fun j : Fin 640 => sco M Q K (ix2 r j)) (A (ix2 r 0)) := by
  pointwise [mx]
  rw [neg_inf]

theorem att_at (X : FVec Ideal S640x128 .bf16) (r : Fin 256) (l : Fin 128) :
    att (wgt M Q K A) (rec M Q K A) X (ix2 r l)
      = (∑ j : Fin 640, Ideal.exp (sco M Q K (ix2 r j) - mx M Q K A (ix2 r 0)) * X (ix2 j l))
        * Ideal.div 1 ((∑ j : Fin 640, Ideal.exp (sco M Q K (ix2 r j) - mx M Q K A (ix2 r 0)))
          + Ideal.exp (A (ix2 r 0) - mx M Q K A (ix2 r 0))) := by
  pointwise [att, wgt, rec]

end Cert.KernelIdeal.Block

end
-- ==== Proof.Attention.lean ====
/-
  What both programs compute, written once over the four argument arrays: for a query position `t`, a query
  head `h` and a key position `j`, the masked score; its largest value over the keys and the head's sink; the
  weights; and the weighted sum of the values. And the one fact about real numbers the comparison needs: a
  sum over the kernel's 640 key columns is the sum over the 8448 keys, because the columns that are not
  masked are exactly the keys that are seen, each once.
-/
module

public import Idealize.ShloMosaic.Lib.Pointwise

@[expose] public section
set_option maxRecDepth 16384

noncomputable section

namespace Cert.Attention

open Idealize.ShloMosaic

/-- The arrays' shapes: queries, keys or values, sinks. -/
abbrev Q : Shape := ⟨3, ![2, 8448, 512]⟩
abbrev KV : Shape := ⟨3, ![2, 8448, 128]⟩
abbrev Sk : Shape := ⟨1, ![8]⟩

/-- The query at position `t` sees the key at position `j`: a context key always, any other key when the
    query is a latent one and the two are at most 128 positions apart. -/
def Seen (t j : ℕ) : Prop := j < 256 ∨ (256 ≤ t ∧ j ≤ t + 128 ∧ t ≤ j + 128)

instance (t j : ℕ) : Decidable (Seen t j) := by unfold Seen; infer_instance

/-- Lane `d` of query head `h`. -/
abbrev qlane (h : Fin 8) (d : Fin 64) : Fin 512 := ⟨64 * h.val + d.val, by omega⟩
/-- Lane `d` of the key/value head that query head `h` reads. -/
abbrev klane (h : Fin 8) (d : Fin 64) : Fin 128 := ⟨64 * (h.val / 4) + d.val, by omega⟩

variable (q : FVec Ideal Q .f32) (k v : FVec Ideal KV .f32) (s : FVec Ideal Sk .f32)

/-- The scaled product of a query and a key. -/
def score (b : Fin 2) (h : Fin 8) (t j : Fin 8448) : EReal :=
  (∑ d : Fin 64, k (ix3 b j (klane h d)) * q (ix3 b t (qlane h d))) * Ideal.ofBits .f32 0x3E000000#32

/-- The score, minus infinity where the key is not seen. -/
def masked (b : Fin 2) (h : Fin 8) (t j : Fin 8448) : EReal :=
  if Seen t.val j.val then score q k b h t j else ⊥

/-- The largest of a query's masked scores and its head's sink. -/
def top (b : Fin 2) (h : Fin 8) (t : Fin 8448) : EReal :=
  max (Finset.univ.fold max ⊥ fun j : Fin 8448 => masked q k b h t j) (s (ix1 h))

/-- The sum of the exponentials, the sink's among them. -/
def den (b : Fin 2) (h : Fin 8) (t : Fin 8448) : EReal :=
  (∑ j : Fin 8448, Ideal.exp (masked q k b h t j - top q k s b h t)) + Ideal.exp (s (ix1 h) - top q k s b h t)

/-- The attention's output: the values weighted by the softmax of the masked scores and the sink. -/
def out (b : Fin 2) (t : Fin 8448) (h : Fin 8) (d : Fin 64) : EReal :=
  ∑ j : Fin 8448, v (ix3 b j (klane h d))
    * Ideal.div (Ideal.exp (masked q k b h t j - top q k s b h t)) (den q k s b h t)

/-- The whole result array. -/
def result : FVec Ideal Q .bf16 := fun i =>
  out q k v s (i 0) (i 1) ⟨(i 2).val / 64, by have : (i 2).val < 512 := (i 2).isLt; omega⟩
    ⟨(i 2).val % 64, by omega⟩

end Cert.Attention
-- ==== Proof.Softmax.lean ====
/-
  A softmax with a sink, over two index sets: the kernel's key columns and the keys. Columns that are masked
  carry the score minus infinity, so they weigh nothing; the others are the keys that are seen, each once.
  The kernel multiplies the weighted sum by the reciprocal of the denominator, the reference divides each
  weight: the denominator is a positive real, so the two are one.
-/
module

public import Idealize.ShloMosaic.Lib.Pointwise

@[expose] public section

namespace Cert.Softmax

open Idealize.ShloMosaic

variable {J K : Type} [Fintype J] [Fintype K]

/-- How the columns `J` stand for the keys `K`: `f` sends the unmasked columns one to one onto the keys seen. -/
structure Columns (J K : Type) where
  /-- the key a column holds -/
  f : J → K
  /-- the column is not masked -/
  open_ : J → Prop
  /-- the key is seen -/
  seen : K → Prop
  maps : ∀ j, open_ j → seen (f j)
  inj : ∀ i j, open_ i → open_ j → f i = f j → i = j
  onto : ∀ k, seen k → ∃ j, open_ j ∧ f j = k

/-- A sum over the columns whose masked terms vanish is the sum over the keys. -/
theorem Columns.sum_eq (C : Columns J K) (g : J → EReal) (g' : K → EReal) (h0 : ∀ j, ¬ C.open_ j → g j = 0)
    (h0' : ∀ k, ¬ C.seen k → g' k = 0) (h : ∀ j, C.open_ j → g j = g' (C.f j)) : ∑ j, g j = ∑ k, g' k := by
  classical
  rw [← Finset.sum_filter_of_ne (s := Finset.univ) (p := C.open_) (f := g)
      (fun j _ hj => by by_contra hn; exact hj (h0 j hn)),
    ← Finset.sum_filter_of_ne (s := Finset.univ) (p := C.seen) (f := g')
      (fun k _ hk => by by_contra hn; exact hk (h0' k hn))]
  refine Finset.sum_bij (fun j _ => C.f j) (fun j hj => ?_) (fun i hi j hj e => ?_) (fun k hk => ?_) fun j hj => ?_
  · exact Finset.mem_filter.2 ⟨Finset.mem_univ _, C.maps j (Finset.mem_filter.1 hj).2⟩
  · exact C.inj i j (Finset.mem_filter.1 hi).2 (Finset.mem_filter.1 hj).2 e
  · obtain ⟨j, hj, e⟩ := C.onto k (Finset.mem_filter.1 hk).2
    exact ⟨j, Finset.mem_filter.2 ⟨Finset.mem_univ _, hj⟩, e⟩
  · exact h j (Finset.mem_filter.1 hj).2

/-- So is a maximum whose masked terms are minus infinity. -/
theorem Columns.max_eq (C : Columns J K) (g : J → EReal) (g' : K → EReal) (h0 : ∀ j, ¬ C.open_ j → g j = ⊥)
    (h0' : ∀ k, ¬ C.seen k → g' k = ⊥) (h : ∀ j, C.open_ j → g j = g' (C.f j)) :
    Finset.univ.fold max ⊥ g = Finset.univ.fold max ⊥ g' := by
  show Finset.univ.sup g = Finset.univ.sup g'
  apply le_antisymm
  · refine Finset.sup_le fun j _ => ?_
    by_cases hj : C.open_ j
    · rw [h j hj]; exact Finset.le_sup (Finset.mem_univ _)
    · rw [h0 j hj]; exact bot_le
  · refine Finset.sup_le fun k _ => ?_
    by_cases hk : C.seen k
    · obtain ⟨j, hj, rfl⟩ := C.onto k hk
      rw [← h j hj]; exact Finset.le_sup (Finset.mem_univ _)
    · rw [h0' k hk]; exact bot_le

/-- A nonnegative real factor goes through a sum of extended reals. -/
theorem sum_mul_real {ι : Type} (s : Finset ι) (g : ι → EReal) {r : ℝ} (hr : 0 ≤ r) :
    (∑ i ∈ s, g i) * (r : EReal) = ∑ i ∈ s, g i * (r : EReal) := by
  classical
  induction s using Finset.induction_on with
  | empty => simp
  | insert a s ha ih =>
    rw [Finset.sum_insert ha, Finset.sum_insert ha, EReal.right_distrib_of_nonneg_of_ne_top
      (EReal.coe_nonneg.2 hr) (EReal.coe_ne_top r), ih]

theorem coe_sum {ι : Type} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The largest of finitely many scores, each real or minus infinity, and a real sink is real. -/
theorem max_real (g : K → EReal) (hg : ∀ k, g k = ⊥ ∨ ∃ r : ℝ, g k = r) (a : ℝ) :
    ∃ r : ℝ, max (Finset.univ.fold max ⊥ g) (a : EReal) = r := by
  have hlt : Finset.univ.fold max ⊥ g < ⊤ := by
    show Finset.univ.sup g < ⊤
    refine (Finset.sup_lt_iff bot_lt_top).2 fun k _ => ?_
    rcases hg k with h | ⟨r, h⟩ <;> rw [h]
    · exact bot_lt_top
    · exact EReal.coe_lt_top r
  have htop : max (Finset.univ.fold max ⊥ g) (a : EReal) ≠ ⊤ := (max_lt hlt (EReal.coe_lt_top a)).ne
  have hbot : max (Finset.univ.fold max ⊥ g) (a : EReal) ≠ ⊥ :=
    (lt_of_lt_of_le (EReal.bot_lt_coe a) (le_max_right _ _)).ne'
  exact ⟨_, (EReal.coe_toReal htop hbot).symm⟩

/-- A weight is a nonnegative real. -/
theorem exp_real (x : EReal) (hx : x = ⊥ ∨ ∃ r : ℝ, x = r) (M : ℝ) : ∃ e : ℝ, 0 ≤ e ∧ Ideal.exp (x - (M : EReal)) = e := by
  rcases hx with rfl | ⟨r, rfl⟩
  · exact ⟨0, le_rfl, by rw [EReal.bot_sub, Ideal.exp_bot, EReal.coe_zero]⟩
  · exact ⟨Real.exp (r - M), (Real.exp_pos _).le, by rw [← EReal.coe_sub, Ideal.exp_coe]⟩

/-- THE COMPARISON of one query's attention: the kernel's over its columns, the reference's over the keys. -/
theorem Columns.attention (C : Columns J K) (g w : J → EReal) (g' w' : K → EReal) (a : ℝ)
    (hreal : ∀ k, g' k = ⊥ ∨ ∃ r : ℝ, g' k = r)
    (h0 : ∀ j, ¬ C.open_ j → g j = ⊥) (h0' : ∀ k, ¬ C.seen k → g' k = ⊥)
    (h : ∀ j, C.open_ j → g j = g' (C.f j)) (hw : ∀ j, C.open_ j → w j = w' (C.f j)) :
    (∑ j, Ideal.exp (g j - max (Finset.univ.fold max ⊥ g) (a : EReal)) * w j)
        * Ideal.div 1 ((∑ j, Ideal.exp (g j - max (Finset.univ.fold max ⊥ g) (a : EReal)))
            + Ideal.exp ((a : EReal) - max (Finset.univ.fold max ⊥ g) (a : EReal)))
      = ∑ k, w' k * Ideal.div (Ideal.exp (g' k - max (Finset.univ.fold max ⊥ g') (a : EReal)))
          ((∑ k, Ideal.exp (g' k - max (Finset.univ.fold max ⊥ g') (a : EReal)))
            + Ideal.exp ((a : EReal) - max (Finset.univ.fold max ⊥ g') (a : EReal))) := by
  rw [C.max_eq g g' h0 h0' h]
  obtain ⟨M, hM⟩ := max_real g' hreal a
  rw [hM]
  have z : ∀ x : EReal, x = ⊥ → Ideal.exp (x - (M : EReal)) = 0 := fun x hx => by
    rw [hx, EReal.bot_sub, Ideal.exp_bot]
  rw [C.sum_eq (fun j => Ideal.exp (g j - (M : EReal)) * w j) (fun k => Ideal.exp (g' k - (M : EReal)) * w' k)
      (fun j hj => by rw [z _ (h0 j hj), zero_mul]) (fun k hk => by rw [z _ (h0' k hk), zero_mul])
      (fun j hj => by rw [h j hj, hw j hj]),
    C.sum_eq (fun j => Ideal.exp (g j - (M : EReal))) (fun k => Ideal.exp (g' k - (M : EReal)))
      (fun j hj => z _ (h0 j hj)) (fun k hk => z _ (h0' k hk)) (fun j hj => by rw [h j hj])]
  choose e he heq using fun k => exp_real (g' k) (hreal k) M
  have hD : 0 < (∑ k, e k) + Real.exp (a - M) := add_pos_of_nonneg_of_pos (Finset.sum_nonneg fun k _ => he k) (Real.exp_pos _)
  have hden : (∑ k, Ideal.exp (g' k - (M : EReal))) + Ideal.exp ((a : EReal) - (M : EReal))
      = (((∑ k, e k) + Real.exp (a - M) : ℝ) : EReal) := by
    rw [EReal.coe_add, coe_sum, ← EReal.coe_sub, Ideal.exp_coe]
    exact congrArg (· + _) (Finset.sum_congr rfl fun k _ => heq k)
  rw [hden, Ideal.div_coe hD.ne', one_mul, sum_mul_real _ _ (one_div_nonneg.2 hD.le)]
  refine Finset.sum_congr rfl fun k _ => ?_
  rw [Ideal.div_coe hD.ne', mul_comm _ (w' k), mul_assoc]

end Cert.Softmax
-- ==== Proof.Mask.lean ====
/-
  The mask of a grid point, and what its 640 key columns are. Columns 0 … 383 of the point of query block `i`
  stand for the positions 128·i − 128 … 128·i + 255 (three blocks of keys, some of them off the ends of the
  sequence), columns 384 … 639 for the context positions 0 … 255. The mask opens a local column when its position
  is a latent one inside the sequence and within 128 of a latent query, and every context column: the open
  columns are the keys the query sees, each once.
-/
module

public import proofs.«01_k».proof.Proof.Gen.KernelIdeal.Skeleton
public import proofs.«01_k».proof.Proof.Words
public import proofs.«01_k».proof.Proof.Attention
public import proofs.«01_k».proof.Proof.Softmax
public import Idealize.ShloMosaic.Lib.Pointwise

@[expose] public section
set_option maxRecDepth 16384

noncomputable section

namespace Cert.KernelIdeal.Block

open Cert.KernelIdeal Cert.KernelIdeal.Gen Cert.Words Cert.Attention Idealize.ShloMosaic Idealize.ShloMosaic.TcCoe

/-- Column `j` of query block `i` is open to the query at position `t`. -/
def Open (i t j : ℕ) : Prop :=
  384 ≤ j ∨ (256 ≤ t ∧ 384 ≤ 128 * i + j ∧ 128 * i + j < 8576 ∧ 128 * i + j ≤ t + 256 ∧ t ≤ 128 * i + j ∧ j < 384)

/-- The position column `j` of query block `i` stands for (of the columns off the ends, some position). -/
def keyOf (i j : ℕ) : Fin 8448 := if 384 ≤ j then ⟨(j - 384) % 8448, by omega⟩ else ⟨min (128 * i + j - 128) 8447, by omega⟩

/-- The mask's bit at row `r`, column `j`. -/
theorem mask_at (i : grid0.Coords) (r : Fin 256) (j : Fin 640) :
    k0_pay3 i (ix2 r j) = 1 ↔ Open (i 1).val (128 * (i 1).val + r.val % 128) j.val := by
  have hi : (i 1).val < 66 := (i 1).isLt
  pointwise [k0_pay3]
  have hr := r.isLt
  have hj := j.isLt
  have eq : IntOp.addi (Scalar.muli (BitVec.ofNat 32 (i 1).val) 128#32) (IntOp.andi (BitVec.ofNat 32 r.val) 127#32)
      = BitVec.ofInt 32 ((i 1).val * 128 + ((r.val % 128 : ℕ) : ℤ)) :=
    add_word (mul_word (ofNat_word _) (ofNat_word 128)) (low_word (by omega))
  have ek : IntOp.addi (Scalar.muli (Scalar.subi (BitVec.ofNat 32 (i 1).val) 1#32) 128#32) (BitVec.ofNat 32 j.val)
      = BitVec.ofInt 32 (((i 1).val - 1) * 128 + (j.val : ℤ)) :=
    add_word (mul_word (sub_word (ofNat_word _) (ofNat_word 1)) (ofNat_word 128)) (ofNat_word _)
  rw [ori_eq_one, andi_eq_one, andi_eq_one, andi_eq_one, andi_eq_one,
    sle_eq_one (abs_word (sub_word ek eq) (by omega)) (ofNat_word 128) ⟨lt_of_lt_of_le (by norm_num) (abs_nonneg _), abs_lt.2 (by omega)⟩ (by omega),
    sge_eq_one ek (ofNat_word 256) (by omega) (by omega), slt_eq_one ek (ofNat_word 8448) (by omega) (by omega),
    sge_eq_one eq (ofNat_word 256) (by omega) (by omega), slt_eq_one (ofNat_word _) (ofNat_word 384) (by omega) (by omega),
    sge_eq_one (ofNat_word _) (ofNat_word 384) (by omega) (by omega), abs_le]
  unfold Open
  omega

/-- The open columns of a row of block `i` are the keys its query sees. -/
def columns (i : ℕ) (t : ℕ) (hi : i < 66) (ht : 128 * i ≤ t ∧ t < 128 * i + 128) : Cert.Softmax.Columns (Fin 640) (Fin 8448) where
  f j := keyOf i j.val
  open_ j := Open i t j.val
  seen k := Seen t k.val
  maps j h := by
    have := j.isLt
    unfold Open at h; unfold Seen keyOf
    split <;> simp only <;> omega
  inj a b ha hb e := by
    have := a.isLt
    have := b.isLt
    unfold Open at ha hb
    unfold keyOf at e
    apply Fin.ext
    split at e <;> split at e <;> simp only [Fin.mk.injEq] at e <;> omega
  onto k hk := by
    have := k.isLt
    unfold Seen at hk
    by_cases h : k.val < 256
    · refine ⟨⟨k.val + 384, by omega⟩, Or.inl (by simp), ?_⟩
      unfold keyOf
      apply Fin.ext
      simp only; split <;> simp only <;> omega
    · refine ⟨⟨k.val + 128 - 128 * i, by omega⟩, ?_, ?_⟩
      · unfold Open; simp only; omega
      · unfold keyOf
        apply Fin.ext
        simp only; split <;> simp only <;> omega

end Cert.KernelIdeal.Block

end
-- ==== Proof.Head.lean ====
/-
  One head's row of the stored block as the attention of one query: the operands of the four heads read at an
  index, the products over 128 lanes of which one half is zero, and the step from the 640 columns to the keys.
-/
module

public import proofs.«01_k».proof.Proof.Block
public import proofs.«01_k».proof.Proof.Mask

@[expose] public section
set_option maxRecDepth 16384

noncomputable section

namespace Cert.KernelIdeal.Block

open Cert.KernelIdeal Cert.KernelIdeal.Gen Cert.Attention Idealize.ShloMosaic Idealize.ShloMosaic.TcCoe

/-! ## The operands -/

section operands

variable (k0 k1 k2 : Vec Ideal S1x128x256 .bf16) (k3 : Vec Ideal S1x256x256 .bf16)

theorem lane_low (x : Fin 128) (h : x.val < 64) : IntOp.cmpi .slt (BitVec.ofNat 32 x.val) 64#32 = 1 :=
  (Cert.Words.slt_eq_one (Cert.Words.ofNat_word _) (Cert.Words.ofNat_word 64) (by omega) (by omega)).2 (by omega)

theorem lane_high (x : Fin 128) (h : ¬ x.val < 64) : ¬ IntOp.cmpi .slt (BitVec.ofNat 32 x.val) 64#32 = 1 := fun e =>
  h (by have := (Cert.Words.slt_eq_one (Cert.Words.ofNat_word x.val) (Cert.Words.ofNat_word 64) (by omega) (by omega)).1 e; omega)

/-- The lanes a head's operand is cut to: the low or the high half, the other half zero. -/
def lanes (low : Bool) (c : ℕ) (X : FVec Ideal S640x256 .bf16) (hc : c + 128 ≤ 256) (j : Fin 640) (x : Fin 128) : EReal :=
  if (x.val < 64) = (low = true) then X (ix2 j ⟨c + x.val, by omega⟩) else 0

theorem zero_word : Ideal.ofBits .bf16 0x0000#16 = 0 := by simp [Ideal.ofBits, Ideal.ieee]

theorem pay9_at (j : Fin 640) (x : Fin 128) :
    k0_pay9 (F := Ideal) (k0_pay4 k0) k1 k2 k3 (ix2 j x) = lanes true 0 (k0_pay5 (F := Ideal) (k0_pay4 k0) k1 k2 k3) (by decide) j x := by
  pointwise [k0_pay9, k0_pay7, k0_pay8, lanes]
  by_cases h : x.val < 64
  · simp [Scalar.select, lane_low x h, h]
  · simp only [Scalar.select, if_neg (lane_high x h)]; simp [h, zero_word]

theorem pay10_at (j : Fin 640) (x : Fin 128) :
    k0_pay10 (F := Ideal) (k0_pay4 k0) k1 k2 k3 (ix2 j x) = lanes false 128 (k0_pay5 (F := Ideal) (k0_pay4 k0) k1 k2 k3) (by decide) j x := by
  pointwise [k0_pay10, k0_pay7, k0_pay8, lanes]
  by_cases h : x.val < 64
  · simp [Scalar.select, lane_low x h, h, zero_word]
  · simp only [Scalar.select, if_neg (lane_high x h)]; simp [h]

theorem pay11_at (j : Fin 640) (x : Fin 128) :
    k0_pay11 (F := Ideal) (k0_pay4 k0) k1 k2 k3 (ix2 j x) = lanes true 128 (k0_pay5 (F := Ideal) (k0_pay4 k0) k1 k2 k3) (by decide) j x := by
  pointwise [k0_pay11, k0_pay7, k0_pay8, lanes]
  by_cases h : x.val < 64
  · simp [Scalar.select, lane_low x h, h]
  · simp only [Scalar.select, if_neg (lane_high x h)]; simp [h, zero_word]

theorem pay12_at (j : Fin 640) (x : Fin 128) :
    k0_pay12 (F := Ideal) (k0_pay4 k0) k1 k2 k3 (ix2 j x) = lanes false 0 (k0_pay5 (F := Ideal) (k0_pay4 k0) k1 k2 k3) (by decide) j x := by
  pointwise [k0_pay12, k0_pay7, k0_pay8, lanes]
  by_cases h : x.val < 64
  · simp [Scalar.select, lane_low x h, h, zero_word]
  · simp only [Scalar.select, if_neg (lane_high x h)]; simp [h]

/-- The values' operands are the keys' at the value blocks. -/
theorem pay13_eq : k0_pay13 (F := Ideal) k0 k1 k2 k3 = k0_pay9 (F := Ideal) (k0_pay4 k0) k1 k2 k3 := rfl
theorem pay14_eq : k0_pay14 (F := Ideal) k0 k1 k2 k3 = k0_pay10 (F := Ideal) (k0_pay4 k0) k1 k2 k3 := rfl
theorem pay15_eq : k0_pay15 (F := Ideal) k0 k1 k2 k3 = k0_pay11 (F := Ideal) (k0_pay4 k0) k1 k2 k3 := rfl
theorem pay16_eq : k0_pay16 (F := Ideal) k0 k1 k2 k3 = k0_pay12 (F := Ideal) (k0_pay4 k0) k1 k2 k3 := rfl

/-- The key columns: three blocks of 128 and one of 256. -/
theorem pay5_at (j : Fin 640) (c : Fin 256) : k0_pay5 (F := Ideal) (k0_pay4 k0) k1 k2 k3 (ix2 j c)
    = if h0 : j.val < 128 then k0 (ix3 0 ⟨j.val, h0⟩ c)
      else if h1 : j.val < 256 then k1 (ix3 0 ⟨j.val - 128, by omega⟩ c)
      else if h2 : j.val < 384 then k2 (ix3 0 ⟨j.val - 256, by omega⟩ c)
      else k3 (ix3 0 ⟨j.val - 384, by omega⟩ c) := by
  pointwise [k0_pay5, k0_pay4]
  by_cases h0 : j.val < 128
  · simp [h0]
  by_cases h1 : j.val < 256
  · simp only [h0, h1, show j.val - 128 < 128 by omega, dite_true, dite_false]
  by_cases h2 : j.val < 384
  · simp only [h0, h1, h2, show ¬ j.val - 128 < 128 by omega, Nat.sub_sub, Nat.reduceAdd, show j.val - 256 < 128 by omega, dite_true]
  · simp only [h0, h1, h2, show ¬ j.val - 128 < 128 by omega, show ¬ j.val - 128 - 128 < 128 by omega, dite_false,
      show j.val - 128 - 128 - 128 = j.val - 384 by omega]

end operands

section queries

variable (q : FVec Ideal S128x512 .bf16)

theorem pay19_low (r x : Fin 128) : k0_pay19 (F := Ideal) (k0_pay17 q) (k0_pay18 q) (ix2 ⟨r.val, by omega⟩ x)
    = q (ix2 r ⟨0 + x.val, by omega⟩) := by pointwise [k0_pay19, k0_pay17, k0_pay18]
theorem pay19_high (r x : Fin 128) : k0_pay19 (F := Ideal) (k0_pay17 q) (k0_pay18 q) (ix2 ⟨128 + r.val, by omega⟩ x)
    = q (ix2 r ⟨128 + x.val, by omega⟩) := by pointwise [k0_pay19, k0_pay17, k0_pay18]
theorem pay20_low (r x : Fin 128) : k0_pay20 (F := Ideal) q (ix2 ⟨r.val, by omega⟩ x)
    = q (ix2 r ⟨256 + x.val, by omega⟩) := by pointwise [k0_pay20]
theorem pay20_high (r x : Fin 128) : k0_pay20 (F := Ideal) q (ix2 ⟨128 + r.val, by omega⟩ x)
    = q (ix2 r ⟨384 + x.val, by omega⟩) := by pointwise [k0_pay20]

end queries

theorem row_low (r : Fin 128) : IntOp.cmpi .slt (BitVec.ofNat 32 r.val) 128#32 = 1 :=
  (Cert.Words.slt_eq_one (Cert.Words.ofNat_word _) (Cert.Words.ofNat_word 128) (by omega) (by omega)).2 (by omega)

theorem row_high (r : Fin 128) : ¬ IntOp.cmpi .slt (BitVec.ofNat 32 (128 + r.val)) 128#32 = 1 := fun e => by
  have := (Cert.Words.slt_eq_one (Cert.Words.ofNat_word (128 + r.val)) (Cert.Words.ofNat_word 128) (by omega) (by omega)).1 e
  omega

theorem sk_low (a b : EReal) (r : Fin 128) : sk a b (ix2 ⟨r.val, by omega⟩ 0) = a := by
  pointwise [sk, k0_pay23]
  simp [Scalar.select, row_low r]
theorem sk_high (a b : EReal) (r : Fin 128) : sk a b (ix2 ⟨128 + r.val, by omega⟩ 0) = b := by
  pointwise [sk, k0_pay23]
  simp only [Scalar.select, if_neg (row_high r)]

/-! ## The stored block -/

section stored

variable (a0 a1 a2 a3 : FVec Ideal S256x128 .f32) (r l : Fin 128)

theorem store_0 : store a0 a1 a2 a3 (ix3 0 r ⟨l.val, by omega⟩)
    = a0 (ix2 ⟨r.val, by omega⟩ l) + a1 (ix2 ⟨r.val, by omega⟩ l) := by pointwise [store]
theorem store_1 : store a0 a1 a2 a3 (ix3 0 r ⟨128 + l.val, by omega⟩)
    = a0 (ix2 ⟨128 + r.val, by omega⟩ l) + a1 (ix2 ⟨128 + r.val, by omega⟩ l) := by pointwise [store]
theorem store_2 : store a0 a1 a2 a3 (ix3 0 r ⟨256 + l.val, by omega⟩)
    = a2 (ix2 ⟨r.val, by omega⟩ l) + a3 (ix2 ⟨r.val, by omega⟩ l) := by
  pointwise [store]
  simp only [show ¬ 256 + l.val < 128 by omega, show ¬ 256 + l.val - 128 < 128 by omega, show 256 + l.val - 128 - 128 = l.val by omega,
    l.isLt, dite_true, dite_false]
theorem store_3 : store a0 a1 a2 a3 (ix3 0 r ⟨384 + l.val, by omega⟩)
    = a2 (ix2 ⟨128 + r.val, by omega⟩ l) + a3 (ix2 ⟨128 + r.val, by omega⟩ l) := by
  pointwise [store]
  simp only [show ¬ 384 + l.val < 128 by omega, show ¬ 384 + l.val - 128 < 128 by omega, show ¬ 384 + l.val - 128 - 128 < 128 by omega,
    dite_false, show 384 + l.val - 128 - 128 - 128 = l.val by omega]

end stored

/-! ## One head -/

/-- Of a product over 128 lanes with a half cut to zero the other half is left. -/
theorem sum_lanes (low : Bool) (c : ℕ) (X : FVec Ideal S640x256 .bf16) (hc : c + 128 ≤ 256) (j : Fin 640) (f : Fin 128 → EReal) :
    (∑ x : Fin 128, f x * lanes low c X hc j x)
      = ∑ d : Fin 64, f ⟨(if low then 0 else 64) + d.val, by split <;> omega⟩
          * X (ix2 j ⟨c + ((if low then 0 else 64) + d.val), by split <;> omega⟩) := by
  rw [show (∑ x : Fin 128, f x * lanes low c X hc j x) = ∑ x : Fin (64 + 64), f x * lanes low c X hc j x from rfl, Fin.sum_univ_add]
  cases low
  · have z : (∑ x : Fin 64, f (Fin.castAdd 64 x) * lanes false c X hc j (Fin.castAdd 64 x)) = 0 :=
      Finset.sum_eq_zero fun x _ => by
        have : (Fin.castAdd 64 x).val < 64 := x.isLt
        simp [lanes, this]
    rw [z, zero_add]
    refine Finset.sum_congr rfl fun x _ => ?_
    have : ¬ (Fin.natAdd 64 x).val < 64 := by simp
    simp only [lanes, this, Bool.false_eq_true, if_true, if_false]
    rfl
  · have z : (∑ x : Fin 64, f (Fin.natAdd 64 x) * lanes true c X hc j (Fin.natAdd 64 x)) = 0 :=
      Finset.sum_eq_zero fun x _ => by
        have : ¬ (Fin.natAdd 64 x).val < 64 := by simp
        simp [lanes, this]
    rw [z, add_zero]
    refine Finset.sum_congr rfl fun x _ => ?_
    have : (Fin.castAdd 64 x).val < 64 := x.isLt
    simp only [lanes, this, if_true]
    refine congrArg₂ _ (congrArg f (Fin.ext ?_)) (congrArg X (congrArg (ix2 j) (Fin.ext ?_))) <;> simp

/-- The lane of `k` (of `v`) a lane of the doubled array repeats. -/
def dup (c : Fin 256) : Fin 128 := ⟨if c.val < 128 then c.val else if c.val < 192 then c.val - 64 else c.val - 192, by
  have := c.isLt
  split <;> [skip; split] <;> omega⟩

theorem eighth : Ideal.ofBits .f32 0x3E000000#32 = ((1 / 8 : ℝ) : EReal) := by
  simp only [Ideal.ofBits, Ideal.ieee]; norm_num [Nat.shiftRight_eq_div_pow]; decide

variable (q : FVec Ideal Attention.Q .f32) (k v : FVec Ideal KV .f32) (s : FVec Ideal Sk .f32)

/-- Finite queries and keys have finite scores. -/
theorem score_real (hq : ∀ i, ∃ a : ℝ, q i = a) (hk : ∀ i, ∃ a : ℝ, k i = a) (b : Fin 2) (h : Fin 8) (t j : Fin 8448) :
    ∃ a : ℝ, score q k b h t j = a := by
  choose q' hq' using hq
  choose k' hk' using hk
  refine ⟨(∑ d : Fin 64, k' (ix3 b j (klane h d)) * q' (ix3 b t (qlane h d))) * (1 / 8), ?_⟩
  unfold score
  simp only [hq', hk', eighth]
  rw [EReal.coe_mul, Cert.Softmax.coe_sum]
  simp only [EReal.coe_mul]

/-- ONE HEAD. The weighted values of row `R` of a point, at a lane of the half its operands keep, are the attention of
    the query at that row — if the row's queries, the columns' keys and values, and its sink are. -/
theorem head_eq (i : grid0.Coords) (b : Fin 2) (r : Fin 128) (h : Fin 8) (t : Fin 8448) (ht : t.val = 128 * (i 1).val + r.val)
    (R : Fin 256) (hR : R.val % 128 = r.val) (low : Bool) (qc kc : ℕ) (hqc : qc + (if low then 0 else 64) = 64 * h.val)
    (hkc : kc + 128 ≤ 256) (hkl : ∀ d : Fin 64, dup ⟨kc + ((if low then 0 else 64) + d.val), by split <;> omega⟩ = klane h d)
    (Q : FVec Ideal S256x128 .bf16) (K X : FVec Ideal S640x128 .bf16) (A : FVec Ideal S256x1 .f32)
    (KK VV : FVec Ideal S640x256 .bf16)
    (hQ : ∀ (x : Fin 128) (c : Fin 512), c.val = qc + x.val → Q (ix2 R x) = q (ix3 b t c) * Ideal.ofBits .f32 0x3E000000#32)
    (hK : ∀ j x, K (ix2 j x) = lanes low kc KK hkc j x) (hX : ∀ j x, X (ix2 j x) = lanes low kc VV hkc j x)
    (hKK : ∀ j c, Open (i 1).val t.val j.val → KK (ix2 j c) = k (ix3 b (keyOf (i 1).val j.val) (dup c)))
    (hVV : ∀ j c, Open (i 1).val t.val j.val → VV (ix2 j c) = v (ix3 b (keyOf (i 1).val j.val) (dup c)))
    (hA : A (ix2 R 0) = s (ix1 h))
    (hq : ∀ i, ∃ a : ℝ, q i = a) (hk : ∀ i, ∃ a : ℝ, k i = a) (hs : ∀ i, ∃ a : ℝ, s i = a) (d : Fin 64)
    (l : Fin 128) (hl : l.val = (if low then 0 else 64) + d.val) :
    att (wgt (k0_pay3 i) Q K A) (rec (k0_pay3 i) Q K A) X (ix2 R l)
      = out q k v s b t h d := by
  have hi : (i 1).val < 66 := (i 1).isLt
  obtain ⟨a, ha⟩ := hs (ix1 h)
  have open_iff : ∀ j : Fin 640, k0_pay3 i (ix2 R j) = 1 ↔ Open (i 1).val t.val j.val := fun j => by
    rw [mask_at, hR, ← ht]
  rw [att_at, mx_at, hA, ha]
  unfold out den top
  rw [ha]
  refine (columns (i 1).val t.val hi (by omega)).attention (fun j => sco (k0_pay3 i) Q K (ix2 R j)) _
    (masked q k b h t) (fun j => v (ix3 b j (klane h d))) a (fun j => ?_) (fun j hj => ?_) (fun j hj => ?_) (fun j hj => ?_) fun j hj => ?_
  · unfold masked
    by_cases hj : Seen t.val j.val
    · rw [if_pos hj]; exact Or.inr (score_real q k hq hk b h t j)
    · rw [if_neg hj]; exact Or.inl rfl
  · show sco (k0_pay3 i) Q K (ix2 R j) = ⊥
    rw [sco_at, if_neg (fun e => hj ((open_iff j).1 e))]
  · exact if_neg hj
  · show sco (k0_pay3 i) Q K (ix2 R j) = masked q k b h t (keyOf (i 1).val j.val)
    have seen : Seen t.val (keyOf (i 1).val j.val).val := (columns (i 1).val t.val hi (by omega)).maps j hj
    rw [sco_at, if_pos ((open_iff j).2 hj)]
    unfold masked
    rw [if_pos seen]
    unfold score
    simp only [hK]
    rw [sum_lanes, eighth, Cert.Softmax.sum_mul_real _ _ (by norm_num)]
    refine Finset.sum_congr rfl fun x _ => ?_
    rw [hQ _ (qlane h x) (by simp only; omega), hKK j _ hj, hkl, eighth]
    ac_rfl
  · show X (ix2 j l) = v (ix3 b (keyOf (i 1).val j.val) (klane h d))
    rw [hX, ← hkl d, ← hVV j _ hj]
    unfold lanes
    rw [if_pos]
    · exact congrArg VV (congrArg (ix2 j) (Fin.ext (by simp only [hl])))
    · cases low
      · simp [hl]
      · simp [hl, d.isLt]

/-- At a lane of the other half the weighted values are zero. -/
theorem head_zero (i : grid0.Coords) (R : Fin 256) (low : Bool) (kc : ℕ) (hkc : kc + 128 ≤ 256)
    (Q : FVec Ideal S256x128 .bf16) (K X : FVec Ideal S640x128 .bf16) (A : FVec Ideal S256x1 .f32) (VV : FVec Ideal S640x256 .bf16)
    (hX : ∀ j x, X (ix2 j x) = lanes low kc VV hkc j x) (l : Fin 128) (hl : ¬ (l.val < 64) = (low = true)) :
    att (wgt (k0_pay3 i) Q K A) (rec (k0_pay3 i) Q K A) X (ix2 R l) = 0 := by
  rw [att_at]
  have z : ∀ j : Fin 640, X (ix2 j l) = 0 := fun j => by
    rw [hX]
    exact if_neg hl
  simp only [z, mul_zero, Finset.sum_const_zero, zero_mul]

/-! ## The eight heads -/

section heads

variable {q k v s}
variable {i : grid0.Coords} {b : Fin 2} {r : Fin 128} {t : Fin 8448} (ht : t.val = 128 * (i 1).val + r.val)
  {qb : FVec Ideal S128x512 .bf16} {k0 k1 k2 v0 v1 v2 : Vec Ideal S1x128x256 .bf16} {k3 v3 : Vec Ideal S1x256x256 .bf16}
  (hqb : ∀ c : Fin 512, qb (ix2 r c) = q (ix3 b t c) * Ideal.ofBits .f32 0x3E000000#32)
  (hkb : ∀ j c, Open (i 1).val t.val j.val →
    k0_pay5 (F := Ideal) (k0_pay4 k0) k1 k2 k3 (ix2 j c) = k (ix3 b (keyOf (i 1).val j.val) (dup c)))
  (hvb : ∀ j c, Open (i 1).val t.val j.val →
    k0_pay5 (F := Ideal) (k0_pay4 v0) v1 v2 v3 (ix2 j c) = v (ix3 b (keyOf (i 1).val j.val) (dup c)))
  (hq : ∀ i, ∃ a : ℝ, q i = a) (hk : ∀ i, ∃ a : ℝ, k i = a) (hs : ∀ i, ∃ a : ℝ, s i = a) (d : Fin 64)
include ht hqb hkb hvb hq hk hs

/-- Query head 0: the low half of the lanes, the upper rows of key/value head 0. -/
theorem block_0 : blockOf (k0_pay3 i) qb k0 k1 k2 k3 v0 v1 v2 v3 (s (ix1 0)) (s (ix1 1)) (s (ix1 2)) (s (ix1 3)) (s (ix1 4))
    (s (ix1 5)) (s (ix1 6)) (s (ix1 7)) (ix3 0 r (qlane 0 d)) = out q k v s b t 0 d := by
  rw [show qlane 0 d = ⟨(⟨0 + d.val, by omega⟩ : Fin 128).val, by simp only; omega⟩ from
    Fin.ext (by simp [qlane])]
  unfold blockOf
  rw [store_0,
    head_zero i ⟨r.val, by omega⟩ false 128 (by decide) _ _ (k0_pay14 (F := Ideal) v0 v1 v2 v3) _ _ (fun j x => by rw [pay14_eq, pay10_at]) _ (by simp), add_zero]
  exact head_eq q k v s i b r 0 t ht ⟨r.val, by omega⟩ (by simp only; omega) true 0 0 (by simp) (by decide) (fun d => Fin.ext (by simp only [dup, klane]; simp; try split_ifs <;> omega))
    _ _ _ _ _ _ (fun x c hc => by rw [pay19_low, show (⟨0 + x.val, by omega⟩ : Fin 512) = c from Fin.ext hc.symm, hqb])
    (fun j x => pay9_at k0 k1 k2 k3 j x) (fun j x => by rw [pay13_eq, pay9_at]) hkb hvb (sk_low _ _ r) hq hk hs d _ (by simp)

/-- Query head 1: the high half of the lanes, the upper rows of key/value head 0. -/
theorem block_1 : blockOf (k0_pay3 i) qb k0 k1 k2 k3 v0 v1 v2 v3 (s (ix1 0)) (s (ix1 1)) (s (ix1 2)) (s (ix1 3)) (s (ix1 4))
    (s (ix1 5)) (s (ix1 6)) (s (ix1 7)) (ix3 0 r (qlane 1 d)) = out q k v s b t 1 d := by
  rw [show qlane 1 d = ⟨(⟨64 + d.val, by omega⟩ : Fin 128).val, by simp only; omega⟩ from
    Fin.ext (by simp [qlane])]
  unfold blockOf
  rw [store_0,
    head_zero i ⟨r.val, by omega⟩ true 0 (by decide) _ _ (k0_pay13 (F := Ideal) v0 v1 v2 v3) _ _ (fun j x => by rw [pay13_eq, pay9_at]) _ (by simp), zero_add]
  exact head_eq q k v s i b r 1 t ht ⟨r.val, by omega⟩ (by simp only; omega) false 0 128 (by simp) (by decide) (fun d => Fin.ext (by simp only [dup, klane]; simp; try split_ifs <;> omega))
    _ _ _ _ _ _ (fun x c hc => by rw [pay19_low, show (⟨0 + x.val, by omega⟩ : Fin 512) = c from Fin.ext hc.symm, hqb])
    (fun j x => pay10_at k0 k1 k2 k3 j x) (fun j x => by rw [pay14_eq, pay10_at]) hkb hvb (sk_low _ _ r) hq hk hs d _ (by simp)

/-- Query head 2: the low half of the lanes, the lower rows of key/value head 0. -/
theorem block_2 : blockOf (k0_pay3 i) qb k0 k1 k2 k3 v0 v1 v2 v3 (s (ix1 0)) (s (ix1 1)) (s (ix1 2)) (s (ix1 3)) (s (ix1 4))
    (s (ix1 5)) (s (ix1 6)) (s (ix1 7)) (ix3 0 r (qlane 2 d)) = out q k v s b t 2 d := by
  rw [show qlane 2 d = ⟨128 + (⟨0 + d.val, by omega⟩ : Fin 128).val, by simp only; omega⟩ from
    Fin.ext (by simp [qlane] <;> omega)]
  unfold blockOf
  rw [store_1,
    head_zero i ⟨128 + r.val, by omega⟩ false 128 (by decide) _ _ (k0_pay14 (F := Ideal) v0 v1 v2 v3) _ _ (fun j x => by rw [pay14_eq, pay10_at]) _ (by simp), add_zero]
  exact head_eq q k v s i b r 2 t ht ⟨128 + r.val, by omega⟩ (by simp only; omega) true 128 0 (by simp) (by decide) (fun d => Fin.ext (by simp only [dup, klane]; simp; try split_ifs <;> omega))
    _ _ _ _ _ _ (fun x c hc => by rw [pay19_high, show (⟨128 + x.val, by omega⟩ : Fin 512) = c from Fin.ext hc.symm, hqb])
    (fun j x => pay9_at k0 k1 k2 k3 j x) (fun j x => by rw [pay13_eq, pay9_at]) hkb hvb (sk_high _ _ r) hq hk hs d _ (by simp)

/-- Query head 3: the high half of the lanes, the lower rows of key/value head 0. -/
theorem block_3 : blockOf (k0_pay3 i) qb k0 k1 k2 k3 v0 v1 v2 v3 (s (ix1 0)) (s (ix1 1)) (s (ix1 2)) (s (ix1 3)) (s (ix1 4))
    (s (ix1 5)) (s (ix1 6)) (s (ix1 7)) (ix3 0 r (qlane 3 d)) = out q k v s b t 3 d := by
  rw [show qlane 3 d = ⟨128 + (⟨64 + d.val, by omega⟩ : Fin 128).val, by simp only; omega⟩ from
    Fin.ext (by simp [qlane] <;> omega)]
  unfold blockOf
  rw [store_1,
    head_zero i ⟨128 + r.val, by omega⟩ true 0 (by decide) _ _ (k0_pay13 (F := Ideal) v0 v1 v2 v3) _ _ (fun j x => by rw [pay13_eq, pay9_at]) _ (by simp), zero_add]
  exact head_eq q k v s i b r 3 t ht ⟨128 + r.val, by omega⟩ (by simp only; omega) false 128 128 (by simp) (by decide) (fun d => Fin.ext (by simp only [dup, klane]; simp; try split_ifs <;> omega))
    _ _ _ _ _ _ (fun x c hc => by rw [pay19_high, show (⟨128 + x.val, by omega⟩ : Fin 512) = c from Fin.ext hc.symm, hqb])
    (fun j x => pay10_at k0 k1 k2 k3 j x) (fun j x => by rw [pay14_eq, pay10_at]) hkb hvb (sk_high _ _ r) hq hk hs d _ (by simp)

/-- Query head 4: the low half of the lanes, the upper rows of key/value head 1. -/
theorem block_4 : blockOf (k0_pay3 i) qb k0 k1 k2 k3 v0 v1 v2 v3 (s (ix1 0)) (s (ix1 1)) (s (ix1 2)) (s (ix1 3)) (s (ix1 4))
    (s (ix1 5)) (s (ix1 6)) (s (ix1 7)) (ix3 0 r (qlane 4 d)) = out q k v s b t 4 d := by
  rw [show qlane 4 d = ⟨256 + (⟨0 + d.val, by omega⟩ : Fin 128).val, by simp only; omega⟩ from
    Fin.ext (by simp [qlane] <;> omega)]
  unfold blockOf
  rw [store_2,
    head_zero i ⟨r.val, by omega⟩ false 0 (by decide) _ _ (k0_pay16 (F := Ideal) v0 v1 v2 v3) _ _ (fun j x => by rw [pay16_eq, pay12_at]) _ (by simp), add_zero]
  exact head_eq q k v s i b r 4 t ht ⟨r.val, by omega⟩ (by simp only; omega) true 256 128 (by simp) (by decide) (fun d => Fin.ext (by simp only [dup, klane]; simp; try split_ifs <;> omega))
    _ _ _ _ _ _ (fun x c hc => by rw [pay20_low, show (⟨256 + x.val, by omega⟩ : Fin 512) = c from Fin.ext hc.symm, hqb])
    (fun j x => pay11_at k0 k1 k2 k3 j x) (fun j x => by rw [pay15_eq, pay11_at]) hkb hvb (sk_low _ _ r) hq hk hs d _ (by simp)

/-- Query head 5: the high half of the lanes, the upper rows of key/value head 1. -/
theorem block_5 : blockOf (k0_pay3 i) qb k0 k1 k2 k3 v0 v1 v2 v3 (s (ix1 0)) (s (ix1 1)) (s (ix1 2)) (s (ix1 3)) (s (ix1 4))
    (s (ix1 5)) (s (ix1 6)) (s (ix1 7)) (ix3 0 r (qlane 5 d)) = out q k v s b t 5 d := by
  rw [show qlane 5 d = ⟨256 + (⟨64 + d.val, by omega⟩ : Fin 128).val, by simp only; omega⟩ from
    Fin.ext (by simp [qlane] <;> omega)]
  unfold blockOf
  rw [store_2,
    head_zero i ⟨r.val, by omega⟩ true 128 (by decide) _ _ (k0_pay15 (F := Ideal) v0 v1 v2 v3) _ _ (fun j x => by rw [pay15_eq, pay11_at]) _ (by simp), zero_add]
  exact head_eq q k v s i b r 5 t ht ⟨r.val, by omega⟩ (by simp only; omega) false 256 0 (by simp) (by decide) (fun d => Fin.ext (by simp only [dup, klane]; simp; try split_ifs <;> omega))
    _ _ _ _ _ _ (fun x c hc => by rw [pay20_low, show (⟨256 + x.val, by omega⟩ : Fin 512) = c from Fin.ext hc.symm, hqb])
    (fun j x => pay12_at k0 k1 k2 k3 j x) (fun j x => by rw [pay16_eq, pay12_at]) hkb hvb (sk_low _ _ r) hq hk hs d _ (by simp)

/-- Query head 6: the low half of the lanes, the lower rows of key/value head 1. -/
theorem block_6 : blockOf (k0_pay3 i) qb k0 k1 k2 k3 v0 v1 v2 v3 (s (ix1 0)) (s (ix1 1)) (s (ix1 2)) (s (ix1 3)) (s (ix1 4))
    (s (ix1 5)) (s (ix1 6)) (s (ix1 7)) (ix3 0 r (qlane 6 d)) = out q k v s b t 6 d := by
  rw [show qlane 6 d = ⟨384 + (⟨0 + d.val, by omega⟩ : Fin 128).val, by simp only; omega⟩ from
    Fin.ext (by simp [qlane] <;> omega)]
  unfold blockOf
  rw [store_3,
    head_zero i ⟨128 + r.val, by omega⟩ false 0 (by decide) _ _ (k0_pay16 (F := Ideal) v0 v1 v2 v3) _ _ (fun j x => by rw [pay16_eq, pay12_at]) _ (by simp), add_zero]
  exact head_eq q k v s i b r 6 t ht ⟨128 + r.val, by omega⟩ (by simp only; omega) true 384 128 (by simp) (by decide) (fun d => Fin.ext (by simp only [dup, klane]; simp; try split_ifs <;> omega))
    _ _ _ _ _ _ (fun x c hc => by rw [pay20_high, show (⟨384 + x.val, by omega⟩ : Fin 512) = c from Fin.ext hc.symm, hqb])
    (fun j x => pay11_at k0 k1 k2 k3 j x) (fun j x => by rw [pay15_eq, pay11_at]) hkb hvb (sk_high _ _ r) hq hk hs d _ (by simp)

/-- Query head 7: the high half of the lanes, the lower rows of key/value head 1. -/
theorem block_7 : blockOf (k0_pay3 i) qb k0 k1 k2 k3 v0 v1 v2 v3 (s (ix1 0)) (s (ix1 1)) (s (ix1 2)) (s (ix1 3)) (s (ix1 4))
    (s (ix1 5)) (s (ix1 6)) (s (ix1 7)) (ix3 0 r (qlane 7 d)) = out q k v s b t 7 d := by
  rw [show qlane 7 d = ⟨384 + (⟨64 + d.val, by omega⟩ : Fin 128).val, by simp only; omega⟩ from
    Fin.ext (by simp [qlane] <;> omega)]
  unfold blockOf
  rw [store_3,
    head_zero i ⟨128 + r.val, by omega⟩ true 128 (by decide) _ _ (k0_pay15 (F := Ideal) v0 v1 v2 v3) _ _ (fun j x => by rw [pay15_eq, pay11_at]) _ (by simp), zero_add]
  exact head_eq q k v s i b r 7 t ht ⟨128 + r.val, by omega⟩ (by simp only; omega) false 384 0 (by simp) (by decide) (fun d => Fin.ext (by simp only [dup, klane]; simp; try split_ifs <;> omega))
    _ _ _ _ _ _ (fun x c hc => by rw [pay20_high, show (⟨384 + x.val, by omega⟩ : Fin 512) = c from Fin.ext hc.symm, hqb])
    (fun j x => pay12_at k0 k1 k2 k3 j x) (fun j x => by rw [pay16_eq, pay12_at]) hkb hvb (sk_high _ _ r) hq hk hs d _ (by simp)

/-- THE STORED BLOCK at row `r`, lane `d` of head `h` is the attention's output there. -/
theorem block_at (h : Fin 8) : blockOf (k0_pay3 i) qb k0 k1 k2 k3 v0 v1 v2 v3 (s (ix1 0)) (s (ix1 1)) (s (ix1 2)) (s (ix1 3)) (s (ix1 4))
    (s (ix1 5)) (s (ix1 6)) (s (ix1 7)) (ix3 0 r (qlane h d)) = out q k v s b t h d := by
  match h with
  | 0 => exact block_0 ht hqb hkb hvb hq hk hs d
  | 1 => exact block_1 ht hqb hkb hvb hq hk hs d
  | 2 => exact block_2 ht hqb hkb hvb hq hk hs d
  | 3 => exact block_3 ht hqb hkb hvb hq hk hs d
  | 4 => exact block_4 ht hqb hkb hvb hq hk hs d
  | 5 => exact block_5 ht hqb hkb hvb hq hk hs d
  | 6 => exact block_6 ht hqb hkb hvb hq hk hs d
  | 7 => exact block_7 ht hqb hkb hvb hq hk hs d

end heads

end Cert.KernelIdeal.Block

end
-- ==== Proof.Final.lean ====
/-
  The array the launch leaves: the blocks of its operands at a grid point, read off the arrays the host prepares,
  and the stored blocks side by side as the attention of the whole arguments.
-/
module

public import proofs.«01_k».proof.Proof.Gen.KernelIdeal.Value
public import proofs.«01_k».proof.Proof.Head
public import Idealize.ShloMosaic.Lib.Pipeline.ValueKit
public import Idealize.ShloMosaic.Lib.Claim

@[expose] public section
set_option maxRecDepth 16384

noncomputable section

namespace Cert.KernelIdeal.Value

open Cert.KernelIdeal Cert.KernelIdeal.Gen Cert.KernelIdeal.Block Cert.Attention
open Idealize.ShloMosaic Idealize.ShloMosaic.TcCoe Idealize.SL.Sem
open Idealize.ShloMosaic.Pipeline (Dat)

variable (m : (ℓ : Loc nD τ sig) → Buf (Elt Ideal) ℓ) (c : Dev nD)

/-- The arguments. -/
abbrev argq : FVec Ideal Attention.Q .f32 := m ((c : Thread nD τ).loc main_arg0)
abbrev argk : FVec Ideal KV .f32 := m ((c : Thread nD τ).loc main_arg1)
abbrev argv : FVec Ideal KV .f32 := m ((c : Thread nD τ).loc main_arg2)
abbrev args : FVec Ideal Sk .f32 := m ((c : Thread nD τ).loc main_arg3)

/-- The windows' block numbers and the grid's coordinates, at each of the 132 points. -/
theorem idx_val : ∀ t : Fin cfg0.N, win0_0.index t = ![0] ∧ win0_1.index t = ![t.val / 66, t.val % 66, 0]
   ∧ win0_2.index t = ![t.val / 66, t.val % 66 - 1, 0] ∧ win0_3.index t = ![t.val / 66, t.val % 66, 0]
   ∧ win0_4.index t = ![t.val / 66, min (t.val % 66 + 1) 65, 0] ∧ win0_5.index t = ![t.val / 66, t.val % 66 - 1, 0]
   ∧ win0_6.index t = ![t.val / 66, t.val % 66, 0] ∧ win0_7.index t = ![t.val / 66, min (t.val % 66 + 1) 65, 0]
   ∧ win0_8.index t = ![t.val / 66, 0, 0] ∧ win0_9.index t = ![t.val / 66, 0, 0]
   ∧ win0_10.index t = ![t.val / 66, t.val % 66, 0]
   ∧ (grid0.coords t 0).val = t.val / 66 ∧ (grid0.coords t 1).val = t.val % 66 ∧ t.val < 132 :=
  (by decide +kernel : ∀ t : Fin grid0.N, _)

/-- The batch of a point. -/
def batch (t : Fin cfg0.N) : Fin 2 := ⟨t.val / 66, by have := (idx_val t).2.2.2.2.2.2.2.2.2.2.2.2.2; omega⟩

/-! ## The arrays the host prepares -/

/-- The scaled queries. -/
theorem q_at (i : Attention.Q.Idx) : V m c main_v2 i = argq m c i * Ideal.ofBits .f32 0x3E000000#32 := by
  unfold V
  simp only [hostOps0, hostOps0_1, hostOps0_2, hostOps0_3, hostOps0_4, List.flatten_cons, List.flatten_nil, List.append_nil,
    List.cons_append, List.nil_append]
  after_results
  pointwise

/-- A key or value array, and after it in the lanes the same with its two heads exchanged. -/
def doubled (x : FVec Ideal S2x8448x128 .f32) : FVec Ideal S2x8448x256 .bf16 :=
  truncf .bf16 (concatenate S2x8448x256 2 [⟨S2x8448x128, x⟩, ⟨S2x8448x128, concatenate S2x8448x128 2
    [⟨S2x8448x64, extractStridedSlice S2x8448x64 ![0, 0, 64] x slices_S2x8448x128_S2x8448x64_0_0_64⟩,
      ⟨S2x8448x64, extractStridedSlice S2x8448x64 ![0, 0, 0] x slices_S2x8448x128_S2x8448x64_0_0_0⟩]
    concatenates_S2x8448x64_S2x8448x64_S2x8448x128_d2⟩] concatenates_S2x8448x128_S2x8448x128_S2x8448x256_d2) bitsLt_bf16_f32

theorem doubled_at (x : FVec Ideal S2x8448x128 .f32) (b : Fin 2) (p : Fin 8448) (l : Fin 256) :
    doubled x (ix3 b p l) = x (ix3 b p (dup l)) := by
  have hl := l.isLt
  pointwise [doubled, dup]
  by_cases h : l.val < 128
  · simp only [h, dite_true, if_true]
  by_cases h' : l.val < 192
  · simp only [h, h', show l.val - 128 < 64 by omega, dite_true, dite_false, if_true, if_false,
      show 64 + (l.val - 128) = l.val - 64 by omega]
  · simp only [h, h', show ¬ l.val - 128 < 64 by omega, dite_false, if_false, show l.val - 128 - 64 = l.val - 192 by omega]

/-- The doubled keys. -/
theorem k_eq : V m c main_v5 = doubled (argk m c) := by
  unfold V
  simp only [hostOps0, hostOps0_1, hostOps0_2, hostOps0_3, hostOps0_4, List.flatten_cons, List.flatten_nil, List.append_nil,
    List.cons_append, List.nil_append]
  after_results
  rfl

/-- The doubled values. -/
theorem v_eq : V m c main_v8 = doubled (argv m c) := by
  unfold V
  simp only [hostOps0, hostOps0_1, hostOps0_2, hostOps0_3, hostOps0_4, List.flatten_cons, List.flatten_nil, List.append_nil,
    List.cons_append, List.nil_append]
  after_results
  rfl

/-! ## The blocks of a point -/

theorem blk_1 (t : Fin cfg0.N) (r : Fin 128) (l : Fin 512) : iblk m c 1 t (ix3 0 r l)
    = V m c main_v2 (ix3 (batch t) ⟨128 * (t.val % 66) + r.val, by omega⟩ l) := by
  blk_point [iblk, V, idx_val t, batch]
theorem blk_2 (t : Fin cfg0.N) (r : Fin 128) (l : Fin 256) : iblk m c 2 t (ix3 0 r l)
    = V m c main_v5 (ix3 (batch t) ⟨128 * (t.val % 66 - 1) + r.val, by omega⟩ l) := by
  blk_point [iblk, V, idx_val t, batch]
theorem blk_3 (t : Fin cfg0.N) (r : Fin 128) (l : Fin 256) : iblk m c 3 t (ix3 0 r l)
    = V m c main_v5 (ix3 (batch t) ⟨128 * (t.val % 66) + r.val, by omega⟩ l) := by
  blk_point [iblk, V, idx_val t, batch]
theorem blk_4 (t : Fin cfg0.N) (r : Fin 128) (l : Fin 256) : iblk m c 4 t (ix3 0 r l)
    = V m c main_v5 (ix3 (batch t) ⟨128 * min (t.val % 66 + 1) 65 + r.val, by omega⟩ l) := by
  blk_point [iblk, V, idx_val t, batch]
theorem blk_8 (t : Fin cfg0.N) (r : Fin 256) (l : Fin 256) : iblk m c 8 t (ix3 0 r l)
    = V m c main_v5 (ix3 (batch t) ⟨r.val, by omega⟩ l) := by
  blk_point [iblk, V, idx_val t, batch]
theorem blk_5 (t : Fin cfg0.N) (r : Fin 128) (l : Fin 256) : iblk m c 5 t (ix3 0 r l)
    = V m c main_v8 (ix3 (batch t) ⟨128 * (t.val % 66 - 1) + r.val, by omega⟩ l) := by
  blk_point [iblk, V, idx_val t, batch]
theorem blk_6 (t : Fin cfg0.N) (r : Fin 128) (l : Fin 256) : iblk m c 6 t (ix3 0 r l)
    = V m c main_v8 (ix3 (batch t) ⟨128 * (t.val % 66) + r.val, by omega⟩ l) := by
  blk_point [iblk, V, idx_val t, batch]
theorem blk_7 (t : Fin cfg0.N) (r : Fin 128) (l : Fin 256) : iblk m c 7 t (ix3 0 r l)
    = V m c main_v8 (ix3 (batch t) ⟨128 * min (t.val % 66 + 1) 65 + r.val, by omega⟩ l) := by
  blk_point [iblk, V, idx_val t, batch]
theorem blk_9 (t : Fin cfg0.N) (r : Fin 256) (l : Fin 256) : iblk m c 9 t (ix3 0 r l)
    = V m c main_v8 (ix3 (batch t) ⟨r.val, by omega⟩ l) := by
  blk_point [iblk, V, idx_val t, batch]

/-- What four blocks of an array give as key columns: at an open column, the array at the column's position. -/
theorem columns_at (X : FVec Ideal S2x8448x256 .bf16) (Y : FVec Ideal KV .f32) (b : Fin 2) (i t : ℕ) (hi : i < 66)
    (hX : ∀ p l, X (ix3 b p l) = Y (ix3 b p (dup l)))
    (k0 k1 k2 : Vec Ideal S1x128x256 .bf16) (k3 : Vec Ideal S1x256x256 .bf16)
    (h0 : ∀ (r : Fin 128) l, k0 (ix3 0 r l) = X (ix3 b ⟨128 * (i - 1) + r.val, by omega⟩ l))
    (h1 : ∀ (r : Fin 128) l, k1 (ix3 0 r l) = X (ix3 b ⟨128 * i + r.val, by omega⟩ l))
    (h2 : ∀ (r : Fin 128) l, k2 (ix3 0 r l) = X (ix3 b ⟨128 * min (i + 1) 65 + r.val, by omega⟩ l))
    (h3 : ∀ (r : Fin 256) l, k3 (ix3 0 r l) = X (ix3 b ⟨r.val, by omega⟩ l))
    (j : Fin 640) (l : Fin 256) (h : Open i t j.val) :
    k0_pay5 (F := Ideal) (k0_pay4 k0) k1 k2 k3 (ix2 j l) = Y (ix3 b (keyOf i j.val) (dup l)) := by
  have hj := j.isLt
  rw [pay5_at]
  unfold Open at h
  split_ifs with c0 c1 c2
  · rw [h0, hX]
    refine congrArg Y (congrArg (fun p => ix3 b p (dup l)) (Fin.ext ?_))
    unfold keyOf; split <;> simp only <;> omega
  · rw [h1, hX]
    refine congrArg Y (congrArg (fun p => ix3 b p (dup l)) (Fin.ext ?_))
    unfold keyOf; split <;> simp only <;> omega
  · rw [h2, hX]
    refine congrArg Y (congrArg (fun p => ix3 b p (dup l)) (Fin.ext ?_))
    unfold keyOf; split <;> simp only <;> omega
  · rw [h3, hX]
    refine congrArg Y (congrArg (fun p => ix3 b p (dup l)) (Fin.ext ?_))
    unfold keyOf; split <;> simp only <;> omega

theorem pay2_at (x : Vec Ideal S1x128x512 .bf16) (r : Fin 128) (l : Fin 512) : k0_pay2 (F := Ideal) x (ix2 r l) = x (ix3 0 r l) := by
  pointwise [k0_pay2]

theorem blk_0 (t : Fin cfg0.N) (h : Fin 8) : iblk m c 0 t (ix1 h) = args m c (ix1 h) := by
  blk_point [iblk, V, idx_val t]

/-- A sink the body reads is the argument's. -/
theorem sink_at (t : Fin cfg0.N) (n : ℕ) (hn : n < 8) (inb : ∀ a, (![n] : Fin 1 → ℕ) a + (![1] : Fin 1 → ℕ) a ≤ S8.size a)
    (h1 : 0 < (Rect.unit (s := S8) ![n] ![1] inb).shape.numel) :
    View.ld (iblk m c 0 t) (Rect.unit (s := S8) ![n] ![1] inb) (Shape.Idx.first h1) = args m c (ix1 ⟨n, hn⟩) := by
  rw [← blk_0 m c t]
  exact congrArg (iblk m c 0 t) (funext fun a => by fin_cases a; exact Fin.ext (by simp [Rect.unit]))

theorem emb_at (t : Fin cfg0.N) (r : Fin 128) (o : Fin 512) (G : FVec Ideal Attention.Q .bf16) :
    G (((cfg0.win 10).blk t).view.emb (ix3 0 r o)) = G (ix3 (batch t) ⟨128 * (t.val % 66) + r.val, by omega⟩ o) := by
  blk_point [iblk, V, idx_val t, batch]

/-- THE RESULT of the launch is the attention of the arguments, where queries, keys and sinks are finite. -/
theorem final (hq : ∀ i, ∃ a : ℝ, argq m c i = a) (hk : ∀ i, ∃ a : ℝ, argk m c i = a) (hs : ∀ i, ∃ a : ℝ, args m c i = a) :
    (dats m 0 c).arrAt 10 (cfgs 0).N = Attention.result (argq m c) (argk m c) (argv m c) (args m c) := by
  refine (dats m 0 c).arrAt_eq_of_covers 10 _ (by decide +kernel) fun t _ y => ?_
  have hv := idx_val t
  blk_simp
  rw [after0_10]; unfold outsAt0; frame_out
  rw [payload_eq]
  obtain ⟨z, r, o, rfl⟩ : ∃ (z : Fin 1) (r : Fin 128) (o : Fin 512), y = ix3 z r o := ⟨y 0, y 1, y 2, eq_ix3 y⟩
  obtain rfl : z = 0 := Subsingleton.elim _ _
  rw [show Attention.result (argq m c) (argk m c) (argv m c) (args m c) (((View.whole main_v9).slice (win0_10.rect t)).emb (ix3 0 r o))
      = Attention.result (argq m c) (argk m c) (argv m c) (args m c) (ix3 (batch t) ⟨128 * (t.val % 66) + r.val, by omega⟩ o) from
      emb_at t r o _, sink_at m c t 0 (by decide), sink_at m c t 1 (by decide), sink_at m c t 2 (by decide), sink_at m c t 3 (by decide), sink_at m c t 4 (by decide), sink_at m c t 5 (by decide), sink_at m c t 6 (by decide), sink_at m c t 7 (by decide)]
  have key := block_at (q := argq m c) (k := argk m c) (v := argv m c) (s := args m c) (i := grid0.coords t) (b := batch t) (r := r)
    (t := ⟨128 * (t.val % 66) + r.val, by omega⟩) (by simp only [hv.2.2.2.2.2.2.2.2.2.2.2.2.1])
    (qb := k0_pay2 (F := Ideal) (iblk m c 1 t)) (k0 := iblk m c 2 t) (k1 := iblk m c 3 t) (k2 := iblk m c 4 t) (k3 := iblk m c 8 t)
    (v0 := iblk m c 5 t) (v1 := iblk m c 6 t) (v2 := iblk m c 7 t) (v3 := iblk m c 9 t)
    (fun l => by rw [pay2_at, blk_1, q_at])
    (fun j l h => by
      simp only [hv.2.2.2.2.2.2.2.2.2.2.2.2.1] at h ⊢
      exact columns_at (V m c main_v5) (argk m c) (batch t) _ _ (by omega) (fun p l => by rw [k_eq, doubled_at]) _ _ _ _
        (blk_2 m c t) (blk_3 m c t) (blk_4 m c t) (blk_8 m c t) j l h)
    (fun j l h => by
      simp only [hv.2.2.2.2.2.2.2.2.2.2.2.2.1] at h ⊢
      exact columns_at (V m c main_v8) (argv m c) (batch t) _ _ (by omega) (fun p l => by rw [v_eq, doubled_at]) _ _ _ _
        (blk_5 m c t) (blk_6 m c t) (blk_7 m c t) (blk_9 m c t) j l h)
    hq hk hs ⟨o.val % 64, by omega⟩ ⟨o.val / 64, by omega⟩
  rw [show qlane ⟨o.val / 64, by omega⟩ ⟨o.val % 64, by omega⟩ = o from Fin.ext (by simp only; omega)] at key
  exact key

end Cert.KernelIdeal.Value

end
-- ==== Proof.Reference.lean ====
/-
  The reference read at an index: its masked scores, its row maximum with the sink, its weights and its output
  are those of Proof/Attention.lean.
-/
module

public import proofs.«01_k».proof.Proof.Gen.ReferenceIdeal.Run
public import proofs.«01_k».proof.Proof.Attention
public import proofs.«01_k».proof.Proof.Words
public import Idealize.ShloMosaic.Lib.Claim

@[expose] public section
set_option maxRecDepth 16384

noncomputable section

namespace Cert.ReferenceIdeal.Value

open Cert.ReferenceIdeal Cert.ReferenceIdeal.Gen Idealize.ShloMosaic Idealize.ShloMosaic.TcCoe

variable (q : FVec Ideal S2x8448x512 .f32) (k v : FVec Ideal S2x8448x128 .f32) (s : FVec Ideal S8 .f32)

/-- The masked scores, as the reference computes them. -/
def mk : FVec Ideal S2x2x4x8448x8448 .f32 :=
  select (broadcastInDim S2x2x4x8448x8448 ![0, 1, 2, 3, 4] bcast_S1x1x1x8448x8448_S2x2x4x8448x8448_0_1_2_3_4 (broadcastInDim S1x1x1x8448x8448 ![3, 4] bcast_S8448x8448_S1x1x1x8448x8448_3_4 (ori (broadcastInDim S8448x8448 ![0, 1] bcast_S1x8448_S8448x8448_0_1 (cmpi .slt (broadcastInDim S1x8448 ![1] bcast_S8448_S1x8448_1 (iotaInDim S8448 32 0)) (broadcastInDim S1x8448 ![] bcast_S_S1x8448 (constantI S_ 32 256#32)))) (andi (broadcastInDim S8448x8448 ![0, 1] bcast_S8448x1_S8448x8448_0_1 (cmpi .sge (broadcastInDim S8448x1 ![0] bcast_S8448_S8448x1_0 (iotaInDim S8448 32 0)) (broadcastInDim S8448x1 ![] bcast_S_S8448x1 (constantI S_ 32 256#32)))) (cmpi .sle (absi (subi (broadcastInDim S8448x8448 ![0, 1] bcast_S1x8448_S8448x8448_0_1 (broadcastInDim S1x8448 ![1] bcast_S8448_S1x8448_1 (iotaInDim S8448 32 0))) (broadcastInDim S8448x8448 ![0, 1] bcast_S8448x1_S8448x8448_0_1 (broadcastInDim S8448x1 ![0] bcast_S8448_S8448x1_0 (iotaInDim S8448 32 0))))) (broadcastInDim S8448x8448 ![] bcast_S_S8448x8448 (constantI S_ 32 128#32))))))) (mulf (transpose S2x2x4x8448x8448 [0, 1, 4, 3, 2] (Host.dotGeneral dot_S2x8448x2x64_S2x8448x2x4x64_S2x2x8448x8448x4_3_4_1_13_02_02 none (shapeCast _ k shapeCasts_S2x8448x128_S2x8448x2x64) (shapeCast _ q shapeCasts_S2x8448x512_S2x8448x2x4x64)) transposes_S2x2x8448x8448x4_S2x2x4x8448x8448_0_1_4_3_2) (broadcastInDim S2x2x4x8448x8448 ![] bcast_S_S2x2x4x8448x8448 (constant S_ .f32 0x3E000000#32))) (broadcastInDim S2x2x4x8448x8448 ![] bcast_S_S2x2x4x8448x8448 (id (constant S_ .f32 0xFF800000#32)))

/-- The masked scores with the sink beside them. -/
def cat : FVec Ideal S2x2x4x8448x8449 .f32 :=
  concatenate S2x2x4x8448x8449 4 [⟨S2x2x4x8448x8448, (mk q k)⟩, ⟨S2x2x4x8448x1, (broadcastInDim S2x2x4x8448x1 ![0, 1, 2, 3, 4] bcast_S1x2x4x1x1_S2x2x4x8448x1_0_1_2_3_4 (broadcastInDim S1x2x4x1x1 ![1, 2] bcast_S2x4_S1x2x4x1x1_1_2 (shapeCast _ s shapeCasts_S8_S2x4)))⟩] concatenates_S2x2x4x8448x8448_S2x2x4x8448x1_S2x2x4x8448x8449_d4

/-- The row maxima. -/
def tp : FVec Ideal S2x2x4x8448 .f32 :=
  maximumf (broadcastInDim S2x2x4x8448 ![] bcast_S_S2x2x4x8448 (constant S_ .f32 0xFF800000#32)) (Host.reduce FloatOps.maximumf (cat q k s) (constant S_ .f32 0xFF800000#32) reducesTo_S2x2x4x8448x8449_S2x2x4x8448_d4 h_S_)

/-- The exponentials. -/
def ex : FVec Ideal S2x2x4x8448x8449 .f32 :=
  Host.exp (subf (cat q k s) (broadcastInDim S2x2x4x8448x8449 ![0, 1, 2, 3, 4] bcast_S2x2x4x8448x1_S2x2x4x8448x8449_0_1_2_3_4 (broadcastInDim S2x2x4x8448x1 ![0, 1, 2, 3] bcast_S2x2x4x8448_S2x2x4x8448x1_0_1_2_3 (tp q k s))))

/-- The weights, over the keys. -/
def pr (X : FVec Ideal S2x2x4x8448x8449 .f32) (D : FVec Ideal S2x2x4x8448 .f32) : FVec Ideal S2x2x4x8448x8448 .f32 :=
  extractStridedSlice S2x2x4x8448x8448 ![0, 0, 0, 0, 0] (Host.divf X (broadcastInDim S2x2x4x8448x8449 ![0, 1, 2, 3, 4] bcast_S2x2x4x8448x1_S2x2x4x8448x8449_0_1_2_3_4 (broadcastInDim S2x2x4x8448x1 ![0, 1, 2, 3] bcast_S2x2x4x8448_S2x2x4x8448x1_0_1_2_3 D))) slices_S2x2x4x8448x8449_S2x2x4x8448x8448_0_0_0_0_0

/-- The values under the weights, in the result's layout. -/
def wv (P : FVec Ideal S2x2x4x8448x8448 .f32) : FVec Ideal S2x8448x512 .bf16 :=
  truncf .bf16 (shapeCast _ (transpose S2x8448x2x4x64 [0, 4, 1, 3, 2] (Host.dotGeneral dot_S2x8448x2x64_S2x2x4x8448x8448_S2x2x64x4x8448_1_4_3_23_02_01 none (shapeCast _ v shapeCasts_S2x8448x128_S2x8448x2x64) P) transposes_S2x2x64x4x8448_S2x8448x2x4x64_0_4_1_3_2) shapeCasts_S2x8448x2x4x64_S2x8448x512) bitsLt_bf16_f32

/-- The result. -/
def res : FVec Ideal S2x8448x512 .bf16 :=
  wv v (pr (ex q k s) (Host.reduceAdd (ex q k s) (constant S_ .f32 0x00000000#32) reducesTo_S2x2x4x8448x8449_S2x2x4x8448_d4 h_S_))

/-- The reference's composed term is these, one over another. -/
theorem res_eq (m : (ℓ : Loc nD τ sig) → Buf (Elt Ideal) ℓ) (c : Dev nD) : res_main_v45 (F := Ideal) m c
    = res (m ((c.tc : Thread nD τ).loc main_arg0)) (m ((c.tc : Thread nD τ).loc main_arg1))
        (m ((c.tc : Thread nD τ).loc main_arg2)) (m ((c.tc : Thread nD τ).loc main_arg3)) := by
  unfold res_main_v45 res wv pr ex tp cat mk
  rfl

open Cert.Attention Cert.Words

/-- The pattern of minus infinity denotes it. -/
theorem neg_inf : Ideal.ofBits .f32 0xFF800000#32 = ⊥ := by simp [Ideal.ofBits, Ideal.ieee]

/-- Query head `4 g + i`. -/
abbrev hd (g : Fin 2) (i : Fin 4) : Fin 8 := ⟨4 * g.val + i.val, by omega⟩

/-- The reference's mask is `Seen`. -/
theorem seen_word (t j : Fin 8448) :
    IntOp.ori (IntOp.cmpi .slt (BitVec.ofNat 32 j.val) 256#32)
        (IntOp.andi (IntOp.cmpi .sge (BitVec.ofNat 32 t.val) 256#32)
          (IntOp.cmpi .sle (IntOp.absi (IntOp.subi (BitVec.ofNat 32 j.val) (BitVec.ofNat 32 t.val))) 128#32)) = 1
      ↔ Seen t.val j.val := by
  have ht := t.isLt
  have hj := j.isLt
  have habs : |(j.val : ℤ) - (t.val : ℤ)| ≤ 8448 := abs_le.2 ⟨by omega, by omega⟩
  have h0 := abs_nonneg ((j.val : ℤ) - (t.val : ℤ))
  rw [ori_eq_one, andi_eq_one,
    slt_eq_one (ofNat_word _) (ofNat_word 256) (by omega) (by omega),
    sge_eq_one (ofNat_word _) (ofNat_word 256) (by omega) (by omega),
    sle_eq_one (abs_word (sub_word (ofNat_word _) (ofNat_word _)) (by omega)) (ofNat_word 128) (by omega) (by omega),
    abs_le]
  unfold Seen
  omega

theorem mk_at (b g : Fin 2) (i : Fin 4) (t j : Fin 8448) : mk q k (ix5 b g i t j) = masked q k b (hd g i) t j := by
  pointwise [mk]
  unfold Scalar.select masked
  by_cases h : Seen t.val j.val
  · rw [if_pos ((seen_word t j).2 h), if_pos h]
    unfold score
    refine congrArg (· * _) (Finset.sum_congr rfl fun d _ => ?_)
    refine congrArg₂ (· * ·) (congrArg k ?_) (congrArg q ?_)
    · exact (ix3_inj ..).2 ⟨rfl, rfl, Fin.ext (show g.val * 64 + d.val = 64 * ((4 * g.val + i.val) / 4) + d.val by omega)⟩
    · exact (ix3_inj ..).2 ⟨rfl, rfl, Fin.ext (show g.val * 256 + i.val * 64 + d.val = 64 * (4 * g.val + i.val) + d.val by omega)⟩
  · rw [if_neg (fun e => h ((seen_word t j).1 e)), if_neg h]
    exact neg_inf

/-- A row maximum over the last of five axes. -/
theorem rowmax {a b c d n : ℕ} (x : FVec Ideal ⟨5, ![a, b, c, d, n]⟩ .f32) (z : FVec Ideal S_ .f32)
    (h : (⟨5, ![a, b, c, d, n]⟩ : Shape).ReducesTo [4] ⟨4, ![a, b, c, d]⟩) (hu : 0 < S_.numel)
    (i : Fin a) (j : Fin b) (k : Fin c) (l : Fin d) :
    Host.reduce FloatOps.maximumf x z h hu (ix4 i j k l)
      = Finset.univ.fold max (z (Shape.Idx.first hu)) fun y : Fin n => x (ix5 i j k l y) := by
  pointwise

/-- A row sum over the last of five axes. -/
theorem rowsum {a b c d n : ℕ} (x : FVec Ideal ⟨5, ![a, b, c, d, n]⟩ .f32) (z : FVec Ideal S_ .f32)
    (h : (⟨5, ![a, b, c, d, n]⟩ : Shape).ReducesTo [4] ⟨4, ![a, b, c, d]⟩) (hu : 0 < S_.numel)
    (i : Fin a) (j : Fin b) (k : Fin c) (l : Fin d) :
    Host.reduceAdd x z h hu (ix4 i j k l) = z (Shape.Idx.first hu) + ∑ y : Fin n, x (ix5 i j k l y) := by
  pointwise

/-- The last of `n + 1` values set apart in a maximum. -/
theorem fold_last (n : ℕ) (f : Fin (n + 1) → EReal) :
    Finset.univ.fold max ⊥ f = max (Finset.univ.fold max ⊥ fun i : Fin n => f i.castSucc) (f (Fin.last n)) := by
  show Finset.univ.sup f = max (Finset.univ.sup fun i : Fin n => f i.castSucc) (f (Fin.last n))
  apply le_antisymm
  · refine Finset.sup_le fun i _ => ?_
    refine Fin.lastCases ?_ (fun j => ?_) i
    · exact le_max_right _ _
    · exact le_max_of_le_left (Finset.le_sup (f := fun i : Fin n => f i.castSucc) (Finset.mem_univ j))
  · exact max_le (Finset.sup_le fun i _ => Finset.le_sup (Finset.mem_univ _)) (Finset.le_sup (Finset.mem_univ _))

theorem cat_low (b g : Fin 2) (i : Fin 4) (t : Fin 8448) (j : Fin 8448) :
    cat q k s (ix5 b g i t ⟨j.val, by omega⟩) = masked q k b (hd g i) t j := by
  pointwise [cat]
  exact mk_at q k b g i t j

theorem cat_high (b g : Fin 2) (i : Fin 4) (t : Fin 8448) :
    cat q k s (ix5 b g i t ⟨8448, by omega⟩) = s (ix1 (hd g i)) := by
  pointwise [cat]
  exact congrArg s ((ix1_inj ..).2 (Fin.ext (show g.val * 4 + i.val = 4 * g.val + i.val by omega)))

/-- The row maxima, one operation at a time: over the sink column too, beside minus infinity, as a maximum over the keys. -/
theorem rowmax_cat (b g : Fin 2) (i : Fin 4) (t : Fin 8448) :
  Host.reduce FloatOps.maximumf (cat q k s) (constant S_ .f32 0xFF800000#32) reducesTo_S2x2x4x8448x8449_S2x2x4x8448_d4 h_S_ (ix4 b g i t) =
   Finset.univ.fold max ((constant (F := Ideal) S_ .f32 0xFF800000#32) (Shape.Idx.first h_S_)) fun y : Fin 8449 => cat q k s (ix5 b g i t y) :=
  rowmax (cat q k s) (constant S_ .f32 0xFF800000#32) reducesTo_S2x2x4x8448x8449_S2x2x4x8448_d4 h_S_ b g i t

theorem maxed (b g : Fin 2) (i : Fin 4) (t : Fin 8448) (R : FVec Ideal S2x2x4x8448 .f32) :
  (maximumf (broadcastInDim S2x2x4x8448 ![] bcast_S_S2x2x4x8448 (constant S_ .f32 0xFF800000#32)) R) (ix4 b g i t) = R (ix4 b g i t) := by
  pointwise
  rw [neg_inf, max_eq_right bot_le]

theorem rowmax_top (b g : Fin 2) (i : Fin 4) (t : Fin 8448) :
   (Finset.univ.fold max ⊥ fun y : Fin 8449 => cat q k s (ix5 b g i t y)) = top q k s b (hd g i) t := by
  unfold top
  refine ((fold_last 8448 _).trans ?_)
  exact congrArg₂ max (congrArg (fun f => Finset.univ.fold max ⊥ f) (funext fun j => cat_low q k s b g i t j))
    (cat_high q k s b g i t)

theorem tp_at (b g : Fin 2) (i : Fin 4) (t : Fin 8448) : tp q k s (ix4 b g i t) = top q k s b (hd g i) t := by
  have e : (constant (F := Ideal) S_ .f32 0xFF800000#32) (Shape.Idx.first h_S_) = ⊥ := neg_inf
  have h := rowmax_cat q k s b g i t
  rw [e] at h
  exact (maxed b g i t _).trans (h.trans (rowmax_top q k s b g i t))

/-- The exponentials at a key and at the sink. -/
theorem ex_low (b g : Fin 2) (i : Fin 4) (t : Fin 8448) (j : Fin 8448) :
    ex q k s (ix5 b g i t ⟨j.val, by omega⟩)
      = Ideal.exp (masked q k b (hd g i) t j - top q k s b (hd g i) t) := by
  pointwise [ex]
  rw [← cat_low q k s b g i t j, ← tp_at q k s b g i t]

theorem ex_high (b g : Fin 2) (i : Fin 4) (t : Fin 8448) :
    ex q k s (ix5 b g i t ⟨8448, by omega⟩) = Ideal.exp (s (ix1 (hd g i)) - top q k s b (hd g i) t) := by
  rw [← cat_high q k s b g i t, ← tp_at q k s b g i t]
  generalize (⟨8448, by omega⟩ : Fin 8449) = l
  pointwise [ex]

/-- The denominators. -/
theorem den_at (b g : Fin 2) (i : Fin 4) (t : Fin 8448) :
    Host.reduceAdd (ex q k s) (constant S_ .f32 0x00000000#32) reducesTo_S2x2x4x8448x8449_S2x2x4x8448_d4 h_S_
      (ix4 b g i t) = den q k s b (hd g i) t := by
  have h := rowsum (ex q k s) (constant S_ .f32 0x00000000#32) reducesTo_S2x2x4x8448x8449_S2x2x4x8448_d4 h_S_ b g i t
  have e : (constant (F := Ideal) S_ .f32 0x00000000#32) (Shape.Idx.first h_S_) = 0 := by pointwise
  rw [e, zero_add] at h
  refine h.trans ((Fin.sum_univ_castSucc (n := 8448) _).trans ?_)
  unfold den
  exact congrArg₂ (· + ·) (Finset.sum_congr rfl fun j _ => ex_low q k s b g i t j) (ex_high q k s b g i t)
theorem pr_at (X : FVec Ideal S2x2x4x8448x8449 .f32) (D : FVec Ideal S2x2x4x8448 .f32)
    (b g : Fin 2) (i : Fin 4) (t j : Fin 8448) :
    pr X D (ix5 b g i t j) = Ideal.div (X (ix5 b g i t ⟨j.val, by omega⟩)) (D (ix4 b g i t)) := by
  pointwise [pr]

theorem wv_at (P : FVec Ideal S2x2x4x8448x8448 .f32) (b : Fin 2) (t : Fin 8448) (o : Fin 512) :
    wv v P (ix3 b t o) = ∑ j : Fin 8448, v (ix3 b j ⟨o.val / 256 * 64 + o.val % 64, by omega⟩)
      * P (ix5 b ⟨o.val / 256, by omega⟩ ⟨o.val / 64 % 4, by omega⟩ t j) := by
  pointwise [wv]

theorem res_at (b : Fin 2) (t : Fin 8448) (o : Fin 512) :
    res q k v s (ix3 b t o) = result q k v s (ix3 b t o) := by
  unfold res
  refine (wv_at v _ b t o).trans ?_
  have e : (⟨o.val / 64, by omega⟩ : Fin 8) = hd ⟨o.val / 256, by omega⟩ ⟨o.val / 64 % 4, by omega⟩ :=
    Fin.ext (show o.val / 64 = 4 * (o.val / 256) + o.val / 64 % 4 by omega)
  show _ = out q k v s b t ⟨o.val / 64, _⟩ ⟨o.val % 64, _⟩
  rw [e]
  unfold out
  refine Finset.sum_congr rfl fun j _ => ?_
  refine congrArg₂ (· * ·) (congrArg v ((ix3_inj ..).2 ⟨rfl, rfl, Fin.ext ?_⟩))
    ((pr_at _ _ b _ _ t j).trans (congrArg₂ Ideal.div (ex_low q k s b _ _ t j) (den_at q k s b _ _ t)))
  show o.val / 256 * 64 + o.val % 64 = 64 * ((4 * (o.val / 256) + o.val / 64 % 4) / 4) + o.val % 64
  omega

/-- The reference's result is the attention's. -/
theorem res_result : res q k v s = result q k v s := by
  funext i
  rw [eq_ix3 i]
  exact res_at q k v s _ _ _

end Cert.ReferenceIdeal.Value

end
-- ==== Proof.Claims.lean ====
/-
  The claims: the frames, the named constant, and the kernel's result as the reference's.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Pre_finite_scores
public import proofs.«01_k».proof.Proof.Final
public import proofs.«01_k».proof.Proof.Reference
public import Idealize.ShloMosaic.Lib.Quiescent
public import Idealize.ShloMosaic.Lib.ReduceAll

@[expose] public section

noncomputable section

namespace Cert.Claims

open Idealize.ShloMosaic Idealize.SL.Sem

/-- A number below infinity in absolute value is a real. -/
theorem real_of_abs_lt (x : EReal) (h : FloatOps.cmpf (F := Ideal) (φ := .f32) .olt (FloatOps.hostAbsf x)
    (FloatOps.ofBits (F := Ideal) .f32 0x7F800000#32) = 1#1) : ∃ a : ℝ, x = a := by
  have top : Ideal.ofBits .f32 0x7F800000#32 = ⊤ := by simp [Ideal.ofBits, Ideal.ieee]
  have h' : max x (-x) < ⊤ := by
    have : Ideal.cmp .olt (max x (-x)) (Ideal.ofBits .f32 0x7F800000#32) = 1#1 := h
    rw [top] at this
    unfold Ideal.cmp at this
    exact of_decide_eq_true ((Cert.Words.ofBool_eq_one _).1 this)
  rw [max_lt_iff] at h'
  induction x using EReal.rec with
  | bot => simp at h'
  | coe a => exact ⟨a, rfl⟩
  | top => simp at h'

/-- What the precondition says: queries, keys and sinks are reals. -/
theorem finite_of_pre [Cert.Pre_finite_scores.Facts] (q : FVec Ideal Cert.Attention.Q .f32) (k v : FVec Ideal Cert.Attention.KV .f32)
    (s : FVec Ideal Cert.Attention.Sk .f32) (h : Cert.Pre_finite_scores.fn (F := Ideal) q k v s = fun _ => 1#1) :
    (∀ i, ∃ a : ℝ, q i = a) ∧ (∀ i, ∃ a : ℝ, k i = a) ∧ (∀ i, ∃ a : ℝ, s i = a) := by
  have h0 := congrFun h (Shape.Idx.first (by decide))
  dsimp only [Cert.Pre_finite_scores.fn] at h0
  obtain ⟨h1, hs⟩ := (Cert.Words.andi_eq_one _ _).1 h0
  obtain ⟨hq, hk⟩ := (Cert.Words.andi_eq_one _ _).1 h1
  exact ⟨fun i => real_of_abs_lt _ (Host.reduce_andi_all _ _ _ _ _ hq i), fun i => real_of_abs_lt _ (Host.reduce_andi_all _ _ _ _ _ hk i),
    fun i => real_of_abs_lt _ (Host.reduce_andi_all _ _ _ _ _ hs i)⟩

/-- The kernel runs, leaves its arguments, and ends with every counter at zero. -/
theorem frame_p : Cert.quiescent_Kernel := fun m g _ => Cert.Kernel.Gen.frame m g

/-- So does the kernel with its mask constant named. -/
theorem frame_pi : Cert.quiescent_KernelIdeal := fun m g _ => Cert.KernelIdeal.Gen.frame m g
theorem frame_pi_pre : Cert.quiescent_KernelIdeal_pre_finite_scores := fun m g _ => Cert.KernelIdeal.Gen.frame m g

/-- So does the reference. -/
theorem frame_ri : Cert.quiescent_ReferenceIdeal := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)
theorem frame_ri_pre : Cert.quiescent_ReferenceIdeal_pre_finite_scores := fun m g _ => frame_ri m g trivial

/-- The named constant stands for minus infinity. -/
theorem preserves : Cert.preserves_Kernel_KernelIdeal := IdealRules.named_const.statement Cert.KernelIdeal.κ "mask" .f32 0xF149F2CA#32 ⊥ rfl

/-- THE VALUE CLAIM: from finite queries, keys and sinks the kernel leaves the reference's array. -/
theorem algebraic : Cert.algebraic_KernelIdeal_ReferenceIdeal_pre_finite_scores := fun m g m' g' pre agree => by
  refine ⟨fun c => Cert.Attention.result (Cert.KernelIdeal.Value.argq m c) (Cert.KernelIdeal.Value.argk m c)
    (Cert.KernelIdeal.Value.argv m c) (Cert.KernelIdeal.Value.args m c), ?_, ?_⟩
  · refine (θ_run Cert.KernelIdeal.defs _ _).mono (fun r h c => ?_) (Cert.KernelIdeal.Value.run_blocks (F := Ideal) m g)
    obtain ⟨hq, hk, hs⟩ := finite_of_pre _ _ _ _ (pre c)
    exact ⟨(h c).1.trans (Cert.KernelIdeal.Value.final m c hq hk hs), (h c).2⟩
  · refine (θ_run Cert.ReferenceIdeal.defs _ _).mono (fun r h c => ?_) (Cert.ReferenceIdeal.Value.run (F := Ideal) m' g')
    refine ⟨(h c).1.trans ?_, (h c).2⟩
    rw [Cert.ReferenceIdeal.Value.res_eq, Cert.ReferenceIdeal.Value.res_result]
    obtain ⟨e0, e1, e2, e3⟩ := agree c
    rw [e0, e1, e2, e3]

end Cert.Claims

end
-- ==== Proof.ExpertsBody.lean ====
/- The body of the experts' call at one point of its grid.

   A point is one tile of 512 tokens.  If the tile is past the number of tiles in use, the body stores
   zeros.  If it is in use, the body multiplies the tile's tokens with the two weight matrices of the
   tile's expert, which it keeps, cast, in two scratch buffers; it fills the scratch buffers, 128 rows at
   a time, at the first tile and wherever the expert is not the one of the tile before. -/
module

public import proofs.«01_k».proof.Proof.Gen.Kernel2Ideal.Skeleton
public import proofs.«01_k».proof.Proof.Gen.Kernel2Ideal.Loops
public import proofs.«01_k».proof.Proof.Gen.Kernel2Ideal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.VecWindow
public import Idealize.ShloMosaic.Lib.Writes
public import Idealize.ShloMosaic.Lib.Ring
public import Idealize.ShloMosaic.Lib.Exec
public import Idealize.ShloMosaic.Lib.Affine
public import Idealize.ShloMosaic.Lib.Pointwise
public import Idealize.ShloMosaic.Lib.Tactic
public import Idealize.ShloMosaic.Adequacy
public import Idealize.ShloMosaic.Init

@[expose] public section

set_option maxRecDepth 16384
set_option Elab.async false

noncomputable section

namespace Cert.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resources the body runs with. -/
local notation "𝕄" => MT nD τ sig Unit (Elt F) ℕ (UR sig nD τ) ℕ

/-- The three tables of words: each tile's expert, each tile's number of tokens, the tiles in use. -/
abbrev tabE : Memref sig .tc .smem S164 .i32 := Memref.whole main_arg1
abbrev tabV : Memref sig .tc .smem S164 .i32 := Memref.whole main_arg2
abbrev tabU : Memref sig .tc .smem S1 .i32 := Memref.whole main_arg3
/-- The two scratch buffers, for the expert's two weight matrices. -/
abbrev scrU : Memref sig .tc .vmem S1024x2048 .bf16 := Memref.whole cc0_scratch0
abbrev scrD : Memref sig .tc .vmem S1024x1024 .bf16 := Memref.whole cc0_scratch1

/-- The words the body reads: the number of tiles in use, the tile's expert, the expert of the tile
    before it, and the tile's number of tokens. -/
abbrev wordU (T2 : S1.Idx → Elt F .i32) : Elt F .i32 :=
  View.readAt (Elt F) tabU.view (Rect.unit (s := S1) ![0] S1.size inb_S1_S1_0).toLoadRect T2 (Shape.Idx.first (numel1_S1.symm ▸ Nat.one_pos))
abbrev wordE (i : grid0.Coords) (T0 : S164.Idx → Elt F .i32) : Elt F .i32 :=
  View.readAt (Elt F) tabE.view (Rect.unit (s := S164) (k0_off1 i) S1.size (k0_off1_inb i)).toLoadRect T0 (Shape.Idx.first (numel1_S1.symm ▸ Nat.one_pos))
abbrev wordP (i : grid0.Coords) (T0 : S164.Idx → Elt F .i32) : Elt F .i32 :=
  View.readAt (Elt F) tabE.view (Rect.unit (s := S164) (k0_off2 i) S1.size (k0_off2_inb i)).toLoadRect T0 (Shape.Idx.first (numel1_S1.symm ▸ Nat.one_pos))
abbrev wordV (i : grid0.Coords) (T1 : S164.Idx → Elt F .i32) : Elt F .i32 :=
  View.readAt (Elt F) tabV.view (Rect.unit (s := S164) (k0_off7 i) S1.size (k0_off7_inb i)).toLoadRect T1 (Shape.Idx.first (numel1_S1.symm ▸ Nat.one_pos))

/-- The decision to fill the scratch buffers. -/
abbrev refill (i : grid0.Coords) (T0 : S164.Idx → Elt F .i32) (T2 : S1.Idx → Elt F .i32) : BitVec 1 :=
  Scalar.cmpi .ne (Scalar.extui (Scalar.andi (Scalar.cmpi .slt (BitVec.ofNat 32 (i 0).val) (wordU (F := F) T2)) (Scalar.ori (Scalar.cmpi .eq (BitVec.ofNat 32 (i 0).val) 0#32) (Scalar.cmpi .ne (wordE (F := F) i T0) (wordP (F := F) i T0))))) 0#32

/-- The expert's two weight matrices, cast. -/
def castU (w : S1x1x1024x2048.Idx → Elt F .f32) : S1024x2048.Idx → Elt F .bf16 := fun y =>
  FloatOps.truncf .bf16 bitsLt_bf16_f32 (w (ix4 (0 : Fin 1) (0 : Fin 1) (y 0 : Fin 1024) (y 1 : Fin 2048)))
def castD (w : S1x1x1024x1024.Idx → Elt F .f32) : S1024x1024.Idx → Elt F .bf16 := fun y =>
  FloatOps.truncf .bf16 bitsLt_bf16_f32 (w (ix4 (0 : Fin 1) (0 : Fin 1) (y 0 : Fin 1024) (y 1 : Fin 1024)))

theorem pay1_apply (v : S1x1x128x2048.Idx → Elt F .f32) (y : S128x2048.Idx) :
    k0_pay1 v y = FloatOps.truncf .bf16 bitsLt_bf16_f32 (v (ix4 (0 : Fin 1) (0 : Fin 1) (y 0 : Fin 128) (y 1 : Fin 2048))) := by
  pointwise [k0_pay1]

theorem pay2_apply (v : S1x1x128x1024.Idx → Elt F .f32) (y : S128x1024.Idx) :
    k0_pay2 v y = FloatOps.truncf .bf16 bitsLt_bf16_f32 (v (ix4 (0 : Fin 1) (0 : Fin 1) (y 0 : Fin 128) (y 1 : Fin 1024))) := by
  pointwise [k0_pay2]

variable (c : Dev nD) (i : grid0.Coords) (arg4 : Memref sig .tc .vmem S512x1024 .f32) (harg4 : arg4.IsWhole) (arg5 : Memref sig .tc .vmem S1x1x1024x2048 .f32) (harg5 : arg5.IsWhole) (arg6 : Memref sig .tc .vmem S1x1x1x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S512x1024 .f32) (harg9 : arg9.IsWhole)

/-- The pieces the first loop has stored before trip `n`. -/
abbrev piecesU (x1 : S1x1x1024x2048.Idx → Elt F .f32) (n : ℕ) :=
  pb_k0_t1 (F := F) Variants.none c none i tabE (Memref.isWhole_whole _) tabV (Memref.isWhole_whole _) tabU (Memref.isWhole_whole _) arg4 harg4 arg5 harg5 arg6 harg6 arg7 harg7 arg8 harg8 arg9 harg9 scrU (Memref.isWhole_whole _) scrD (Memref.isWhole_whole _) (arg5.view.rep x1) n
abbrev piecesD (x3 : S1x1x1024x1024.Idx → Elt F .f32) (n : ℕ) :=
  pb_k0_t2 (F := F) Variants.none c none i tabE (Memref.isWhole_whole _) tabV (Memref.isWhole_whole _) tabU (Memref.isWhole_whole _) arg4 harg4 arg5 harg5 arg6 harg6 arg7 harg7 arg8 harg8 arg9 harg9 scrU (Memref.isWhole_whole _) scrD (Memref.isWhole_whole _) (arg7.view.rep x3) n

theorem piecesU_succ (x1 : S1x1x1024x2048.Idx → Elt F .f32) (k : Fin k0_t1_loop.trips) :
    piecesU (F := F) c i arg4 harg4 arg5 harg5 arg6 harg6 arg7 harg7 arg8 harg8 arg9 harg9 x1 (k.val + 1)
      = ⟨Rect.unit (s := S1024x2048) (k0_off4 k) S128x2048.size (k0_off4_inb k),
          k0_pay1 (arg5.view.readAt (Elt F) (Rect.unit (s := S1x1x1024x2048) (k0_off3 k) S1x1x128x2048.size (k0_off3_inb k)).toLoadRect (arg5.view.rep x1))⟩
        :: piecesU (F := F) c i arg4 harg4 arg5 harg5 arg6 harg6 arg7 harg7 arg8 harg8 arg9 harg9 x1 k.val := by
  unfold piecesU
  rw [pb_k0_t1_succ]
  unfold tripL_k0_t1 trip_k0_t1
  rfl

theorem piecesD_succ (x3 : S1x1x1024x1024.Idx → Elt F .f32) (k : Fin k0_t2_loop.trips) :
    piecesD (F := F) c i arg4 harg4 arg5 harg5 arg6 harg6 arg7 harg7 arg8 harg8 arg9 harg9 x3 (k.val + 1)
      = ⟨Rect.unit (s := S1024x1024) (k0_off6 k) S128x1024.size (k0_off6_inb k),
          k0_pay2 (arg7.view.readAt (Elt F) (Rect.unit (s := S1x1x1024x1024) (k0_off5 k) S1x1x128x1024.size (k0_off5_inb k)).toLoadRect (arg7.view.rep x3))⟩
        :: piecesD (F := F) c i arg4 harg4 arg5 harg5 arg6 harg6 arg7 harg7 arg8 harg8 arg9 harg9 x3 k.val := by
  unfold piecesD
  rw [pb_k0_t2_succ]
  unfold tripL_k0_t2 trip_k0_t2
  rfl

theorem tripsU : k0_t1_loop.trips = 8 := by decide
theorem tripsD : k0_t2_loop.trips = 8 := by decide
theorem off4_row : ∀ k : Fin k0_t1_loop.trips, k0_off4 k 0 = 128 * k.val ∧ k0_off4 k 1 = 0 := by decide
theorem off6_row : ∀ k : Fin k0_t2_loop.trips, k0_off6 k 0 = 128 * k.val ∧ k0_off6 k 1 = 0 := by decide

/-- Pieces of 128 rows, each holding its rows of one matrix, hold the whole matrix after eight trips. -/
theorem filled {C : ℕ} {e : EltTy} {Val : EltTy → Type} (G : (⟨2, ![1024, C]⟩ : Shape).Idx → Val e)
    (L : ℕ → List (View.Piece Val (⟨2, ![1024, C]⟩ : Shape) e)) (h0 : L 0 = [])
    (hs : ∀ k < 8, ∃ (off : Fin 2 → ℕ) (inb : ∀ a, off a + (![128, C] : Fin 2 → ℕ) a ≤ (⟨2, ![1024, C]⟩ : Shape).size a)
      (w : (Rect.unit (s := (⟨2, ![1024, C]⟩ : Shape)) off ![128, C] inb).shape.Idx → Val e),
      (off 0 = 128 * k ∧ off 1 = 0) ∧ (∀ x, w x = G ((Rect.unit (s := (⟨2, ![1024, C]⟩ : Shape)) off ![128, C] inb).emb x))
      ∧ L (k + 1) = ⟨Rect.unit (s := (⟨2, ![1024, C]⟩ : Shape)) off ![128, C] inb, w⟩ :: L k) :
    ∀ n ≤ 8, (∀ p ∈ L n, ∀ x, p.2 x = G (p.1.emb x))
      ∧ ∀ y : (⟨2, ![1024, C]⟩ : Shape).Idx, (y 0).val < 128 * n → ∃ p ∈ L n, y ∈ p.1.set := by
  intro n
  induction n with
  | zero => exact fun _ => ⟨fun p hp => absurd hp (by rw [h0]; exact List.not_mem_nil), fun y hy => absurd hy (by omega)⟩
  | succ n ih =>
    intro hn
    obtain ⟨h1, h2⟩ := ih (by omega)
    obtain ⟨off, inb, w, ⟨e0, e1⟩, hw, hL⟩ := hs n (by omega)
    rw [hL]
    refine ⟨fun p hp => ?_, fun y hy => ?_⟩
    · rcases List.mem_cons.1 hp with rfl | hp
      · exact hw
      · exact h1 p hp
    · by_cases hlt : (y 0).val < 128 * n
      · obtain ⟨p, hp, hy⟩ := h2 y hlt
        exact ⟨p, List.mem_cons_of_mem _ hp, hy⟩
      · refine ⟨_, List.mem_cons_self, (?_ : y ∈ (Rect.unit (s := (⟨2, ![1024, C]⟩ : Shape)) off ![128, C] inb).set)⟩
        have hC : (y 1).val < C := (y 1).isLt
        rw [Rect.mem_set_unit]
        intro a
        fin_cases a
        · show off 0 ≤ (y 0).val ∧ (y 0).val < off 0 + 128
          omega
        · show off 1 ≤ (y 1).val ∧ (y 1).val < off 1 + C
          omega

/-- After the first loop the first scratch buffer holds the cast first matrix. -/
theorem read_piecesU (x1 : S1x1x1024x2048.Idx → Elt F .f32) (f : BufTy.Contents (Elt F) scrU.view.ty) :
    scrU.view.read (Elt F) (scrU.view.writes (Elt F) f (piecesU (F := F) c i arg4 harg4 arg5 harg5 arg6 harg6 arg7 harg7 arg8 harg8 arg9 harg9 x1 k0_t1_loop.trips)) = castU x1 := by
  obtain ⟨h1, h2⟩ := filled (castU x1) (piecesU (F := F) c i arg4 harg4 arg5 harg5 arg6 harg6 arg7 harg7 arg8 harg8 arg9 harg9 x1)
    (by unfold piecesU pb_k0_t1; rfl)
    (fun k hk => ⟨k0_off4 ⟨k, hk⟩, k0_off4_inb ⟨k, hk⟩, _, off4_row ⟨k, hk⟩, fun x => by
        rw [pay1_apply, View.readAt_rep]
        refine congrArg (fun z => FloatOps.truncf .bf16 bitsLt_bf16_f32 (x1 z)) (funext fun a => ?_)
        fin_cases a <;> rfl,
      piecesU_succ c i arg4 harg4 arg5 harg5 arg6 harg6 arg7 harg7 arg8 harg8 arg9 harg9 x1 ⟨k, hk⟩⟩) 8 le_rfl
  funext y
  exact View.read_writes_apply_of_pieces scrU.view f (castU x1) _ h1 y (h2 y (y 0).isLt)

/-- After the second loop the second scratch buffer holds the cast second matrix. -/
theorem read_piecesD (x3 : S1x1x1024x1024.Idx → Elt F .f32) (f : BufTy.Contents (Elt F) scrD.view.ty) :
    scrD.view.read (Elt F) (scrD.view.writes (Elt F) f (piecesD (F := F) c i arg4 harg4 arg5 harg5 arg6 harg6 arg7 harg7 arg8 harg8 arg9 harg9 x3 k0_t2_loop.trips)) = castD x3 := by
  obtain ⟨h1, h2⟩ := filled (castD x3) (piecesD (F := F) c i arg4 harg4 arg5 harg5 arg6 harg6 arg7 harg7 arg8 harg8 arg9 harg9 x3)
    (by unfold piecesD pb_k0_t2; rfl)
    (fun k hk => ⟨k0_off6 ⟨k, hk⟩, k0_off6_inb ⟨k, hk⟩, _, off6_row ⟨k, hk⟩, fun x => by
        rw [pay2_apply, View.readAt_rep]
        refine congrArg (fun z => FloatOps.truncf .bf16 bitsLt_bf16_f32 (x3 z)) (funext fun a => ?_)
        fin_cases a <;> rfl,
      piecesD_succ c i arg4 harg4 arg5 harg5 arg6 harg6 arg7 harg7 arg8 harg8 arg9 harg9 x3 ⟨k, hk⟩⟩) 8 le_rfl
  funext y
  exact View.read_writes_apply_of_pieces scrD.view f (castD x3) _ h1 y (h2 y (y 0).isLt)

/-- A store of the whole block leaves what was stored. -/
theorem read_whole {sp : Space} (v : View sig .tc sp S512x1024 .f32) (f : BufTy.Contents (Elt F) v.ty)
    (inb : ∀ a, (![0, 0] : Fin 2 → ℕ) a + S512x1024.size a ≤ S512x1024.size a)
    (w : S512x1024.Idx → Elt F .f32) (L : List (View.Piece (Elt F) S512x1024 .f32)) :
    v.read (Elt F) (v.writes (Elt F) f (⟨Rect.unit (s := S512x1024) ![0, 0] S512x1024.size inb, w⟩ :: L)) = w := by
  funext y
  refine View.read_writes_cons_hit_of_coords v f (Rect.unit (s := S512x1024) ![0, 0] S512x1024.size inb) w L y y fun a => ?_
  fin_cases a
  · show (y 0).val = 0 + 1 * (y 0).val; omega
  · show (y 1).val = 0 + 1 * (y 1).val; omega

/-- The output of a tile in use: its tokens through the expert whose cast matrices are `W` and `W'`. -/
def tileOut (nv : Elt F .i32) (x0 : S512x1024.Idx → Elt F .f32) (W : S1024x2048.Idx → Elt F .bf16) (x2 : S1x1x1x2048.Idx → Elt F .f32)
    (W' : S1024x1024.Idx → Elt F .bf16) (x4 : S1x1x1x1024.Idx → Elt F .f32) : S512x1024.Idx → Elt F .f32 :=
  k0_pay3 (k0_pay5 nv x0 W x2) W' x4

/-- The output of a tile, of what the body loads: each of its loads is of a whole buffer. -/
theorem tileOut_loads (nv : Elt F .i32) (x0 : S512x1024.Idx → Elt F .f32) (a0 : BufTy.Contents (Elt F) scrU.view.ty) (x2 : S1x1x1x2048.Idx → Elt F .f32)
    (a1 : BufTy.Contents (Elt F) scrD.view.ty) (x4 : S1x1x1x1024.Idx → Elt F .f32) :
    k0_pay3 (k0_pay5 nv (arg4.view.readAt (Elt F) (Rect.unit ![0, 0] S512x1024.size inb_S512x1024_S512x1024_0_0).toLoadRect (arg4.view.rep x0))
        (scrU.view.readAt (Elt F) (Rect.unit ![0, 0] S1024x2048.size inb_S1024x2048_S1024x2048_0_0).toLoadRect a0)
        (arg6.view.readAt (Elt F) (Rect.unit ![0, 0, 0, 0] S1x1x1x2048.size inb_S1x1x1x2048_S1x1x1x2048_0_0_0_0).toLoadRect (arg6.view.rep x2)))
      (scrD.view.readAt (Elt F) (Rect.unit ![0, 0] S1024x1024.size inb_S1024x1024_S1024x1024_0_0).toLoadRect a1)
      (arg8.view.readAt (Elt F) (Rect.unit ![0, 0, 0, 0] S1x1x1x1024.size inb_S1x1x1x1024_S1x1x1x1024_0_0_0_0).toLoadRect (arg8.view.rep x4))
      = tileOut nv x0 (scrU.view.read (Elt F) a0) x2 (scrD.view.read (Elt F) a1) x4 := by
  unfold tileOut
  rw [View.readAt_rep_full, View.readAt_full, View.readAt_rep_full, View.readAt_full, View.readAt_rep_full]

/-- The body at a point, on the staging buffers of its windows. -/
abbrev bodyOn : Prog (TpuEff nD τ sig (Elt F) Λ₀ .tc) PUnit :=
  cc0_moe_experts i tabE (Memref.isWhole_whole _) tabV (Memref.isWhole_whole _) tabU (Memref.isWhole_whole _) arg4 harg4 arg5 harg5 arg6 harg6 arg7 harg7 arg8 harg8 arg9 harg9 scrU (Memref.isWhole_whole _) scrD (Memref.isWhole_whole _)

/-- What the body only reads: the inputs at their blocks and the tables. -/
abbrev reads (T0 T1 : S164.Idx → Elt F .i32) (T2 : S1.Idx → Elt F .i32)
    (x0 : S512x1024.Idx → Elt F .f32) (x1 : S1x1x1024x2048.Idx → Elt F .f32) (x2 : S1x1x1x2048.Idx → Elt F .f32) (x3 : S1x1x1024x1024.Idx → Elt F .f32) (x4 : S1x1x1x1024.Idx → Elt F .f32) : sProp 𝕄 :=
  iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (tabE.view.loc (c : Thread nD τ) ↦{fullShare.right} T0)
          ∗ (tabV.view.loc (c : Thread nD τ) ↦{fullShare.right} T1)
          ∗ (tabU.view.loc (c : Thread nD τ) ↦{fullShare.right} T2))

/-- The first loop leaves its scratch buffer holding the cast matrix. -/
theorem loopU (x1 : S1x1x1024x2048.Idx → Elt F .f32) (a : BufTy.Contents (Elt F) scrU.view.ty)
    {β : Type} {kk : PUnit → Prog (TpuEff nD τ sig (Elt F) Λ₀ .tc) β} {Q : β → sProp 𝕄} :
    iprop((arg5.view.loc (c : Thread nD τ) ↦[arg5.view.set]{fullShare} arg5.view.rep x1) ∗ (scrU.view.loc (c : Thread nD τ) ↦{fullShare} a))
      ⊢ iprop((((arg5.view.loc (c : Thread nD τ) ↦[arg5.view.set]{fullShare} arg5.view.rep x1)
          ∗ (∃ b, ⌜scrU.view.read (Elt F) b = castU x1⌝ ∗ (scrU.view.loc (c : Thread nD τ) ↦{fullShare} b)))
          -∗ wp frame (wpE (defs₀ (F := F)) Variants.none c none) Set.univ (kk ⟨⟩) Q)
        -∗ wp frame (wpE (defs₀ (F := F)) Variants.none c none) Set.univ
            (Scf.Loop.for k0_t1_loop k0_t1_ok PUnit.unit (k0_t1_body (F := F) i tabE (Memref.isWhole_whole _) tabV (Memref.isWhole_whole _) tabU (Memref.isWhole_whole _) arg4 harg4 arg5 harg5 arg6 harg6 arg7 harg7 arg8 harg8 arg9 harg9 scrU (Memref.isWhole_whole _) scrD (Memref.isWhole_whole _)) >>= kk) Q) := by
  have hw : scrU.view.set = Finset.univ := (Memref.isWhole_whole _ : scrU.IsWhole).set_eq_univ
  have e0 : iprop((arg5.view.loc (c : Thread nD τ) ↦[arg5.view.set]{fullShare} arg5.view.rep x1) ∗ (∃ f, (scrU.view.loc (c : Thread nD τ) ↦[scrU.view.set]{fullShare} f) ∗ ⌜f = scrU.view.writes (Elt F) a (piecesU (F := F) c i arg4 harg4 arg5 harg5 arg6 harg6 arg7 harg7 arg8 harg8 arg9 harg9 x1 0)⌝))
      ⊢ (loopInv_k0_t1 (F := F) Variants.none c none Set.univ i tabE (Memref.isWhole_whole _) tabV (Memref.isWhole_whole _) tabU (Memref.isWhole_whole _) arg4 harg4 arg5 harg5 arg6 harg6 arg7 harg7 arg8 harg8 arg9 harg9 scrU (Memref.isWhole_whole _) scrD (Memref.isWhole_whole _) (arg5.view.rep x1) a).inv 0 PUnit.unit := .rfl
  have e1 : ∀ acc, (loopInv_k0_t1 (F := F) Variants.none c none Set.univ i tabE (Memref.isWhole_whole _) tabV (Memref.isWhole_whole _) tabU (Memref.isWhole_whole _) arg4 harg4 arg5 harg5 arg6 harg6 arg7 harg7 arg8 harg8 arg9 harg9 scrU (Memref.isWhole_whole _) scrD (Memref.isWhole_whole _) (arg5.view.rep x1) a).inv (Scf.trips k0_t1_loop.lb k0_t1_loop.ub k0_t1_loop.st) acc
      ⊢ iprop((arg5.view.loc (c : Thread nD τ) ↦[arg5.view.set]{fullShare} arg5.view.rep x1) ∗ (∃ f, (scrU.view.loc (c : Thread nD τ) ↦[scrU.view.set]{fullShare} f) ∗ ⌜f = scrU.view.writes (Elt F) a (piecesU (F := F) c i arg4 harg4 arg5 harg5 arg6 harg6 arg7 harg7 arg8 harg8 arg9 harg9 x1 k0_t1_loop.trips)⌝)) := fun _ => .rfl
  rw [hw] at e0 e1
  iintro ⟨HR, HS⟩ Hk
  iapply (exec_loop _ _ _ _ _ _ _ _ _ (loopInv_k0_t1 (F := F) Variants.none c none Set.univ i tabE (Memref.isWhole_whole _) tabV (Memref.isWhole_whole _) tabU (Memref.isWhole_whole _) arg4 harg4 arg5 harg5 arg6 harg6 arg7 harg7 arg8 harg8 arg9 harg9 scrU (Memref.isWhole_whole _) scrD (Memref.isWhole_whole _) (arg5.view.rep x1) a)) $$ [HR HS]
  · iapply e0
    isplitl [HR]; · iexact HR
    iexists a; isplitl [HS]; · iexact HS
    ipureintro
    unfold piecesU pb_k0_t1; rfl
  iintro %acc HI
  iapply Hk
  ihave HI' := e1 acc $$ HI
  icases HI' with ⟨HR, ⟨%f, HS, %hf⟩⟩
  isplitl [HR]; · iexact HR
  iexists f; isplitr
  · ipureintro
    rw [hf]
    exact read_piecesU c i arg4 harg4 arg5 harg5 arg6 harg6 arg7 harg7 arg8 harg8 arg9 harg9 x1 a
  iexact HS

/-- The second loop leaves its scratch buffer holding the cast matrix. -/
theorem loopD (x3 : S1x1x1024x1024.Idx → Elt F .f32) (a : BufTy.Contents (Elt F) scrD.view.ty)
    {β : Type} {kk : PUnit → Prog (TpuEff nD τ sig (Elt F) Λ₀ .tc) β} {Q : β → sProp 𝕄} :
    iprop((arg7.view.loc (c : Thread nD τ) ↦[arg7.view.set]{fullShare} arg7.view.rep x3) ∗ (scrD.view.loc (c : Thread nD τ) ↦{fullShare} a))
      ⊢ iprop((((arg7.view.loc (c : Thread nD τ) ↦[arg7.view.set]{fullShare} arg7.view.rep x3)
          ∗ (∃ b, ⌜scrD.view.read (Elt F) b = castD x3⌝ ∗ (scrD.view.loc (c : Thread nD τ) ↦{fullShare} b)))
          -∗ wp frame (wpE (defs₀ (F := F)) Variants.none c none) Set.univ (kk ⟨⟩) Q)
        -∗ wp frame (wpE (defs₀ (F := F)) Variants.none c none) Set.univ
            (Scf.Loop.for k0_t2_loop k0_t2_ok PUnit.unit (k0_t2_body (F := F) i tabE (Memref.isWhole_whole _) tabV (Memref.isWhole_whole _) tabU (Memref.isWhole_whole _) arg4 harg4 arg5 harg5 arg6 harg6 arg7 harg7 arg8 harg8 arg9 harg9 scrU (Memref.isWhole_whole _) scrD (Memref.isWhole_whole _)) >>= kk) Q) := by
  have hw : scrD.view.set = Finset.univ := (Memref.isWhole_whole _ : scrD.IsWhole).set_eq_univ
  have e0 : iprop((arg7.view.loc (c : Thread nD τ) ↦[arg7.view.set]{fullShare} arg7.view.rep x3) ∗ (∃ f, (scrD.view.loc (c : Thread nD τ) ↦[scrD.view.set]{fullShare} f) ∗ ⌜f = scrD.view.writes (Elt F) a (piecesD (F := F) c i arg4 harg4 arg5 harg5 arg6 harg6 arg7 harg7 arg8 harg8 arg9 harg9 x3 0)⌝))
      ⊢ (loopInv_k0_t2 (F := F) Variants.none c none Set.univ i tabE (Memref.isWhole_whole _) tabV (Memref.isWhole_whole _) tabU (Memref.isWhole_whole _) arg4 harg4 arg5 harg5 arg6 harg6 arg7 harg7 arg8 harg8 arg9 harg9 scrU (Memref.isWhole_whole _) scrD (Memref.isWhole_whole _) (arg7.view.rep x3) a).inv 0 PUnit.unit := .rfl
  have e1 : ∀ acc, (loopInv_k0_t2 (F := F) Variants.none c none Set.univ i tabE (Memref.isWhole_whole _) tabV (Memref.isWhole_whole _) tabU (Memref.isWhole_whole _) arg4 harg4 arg5 harg5 arg6 harg6 arg7 harg7 arg8 harg8 arg9 harg9 scrU (Memref.isWhole_whole _) scrD (Memref.isWhole_whole _) (arg7.view.rep x3) a).inv (Scf.trips k0_t2_loop.lb k0_t2_loop.ub k0_t2_loop.st) acc
      ⊢ iprop((arg7.view.loc (c : Thread nD τ) ↦[arg7.view.set]{fullShare} arg7.view.rep x3) ∗ (∃ f, (scrD.view.loc (c : Thread nD τ) ↦[scrD.view.set]{fullShare} f) ∗ ⌜f = scrD.view.writes (Elt F) a (piecesD (F := F) c i arg4 harg4 arg5 harg5 arg6 harg6 arg7 harg7 arg8 harg8 arg9 harg9 x3 k0_t2_loop.trips)⌝)) := fun _ => .rfl
  rw [hw] at e0 e1
  iintro ⟨HR, HS⟩ Hk
  iapply (exec_loop _ _ _ _ _ _ _ _ _ (loopInv_k0_t2 (F := F) Variants.none c none Set.univ i tabE (Memref.isWhole_whole _) tabV (Memref.isWhole_whole _) tabU (Memref.isWhole_whole _) arg4 harg4 arg5 harg5 arg6 harg6 arg7 harg7 arg8 harg8 arg9 harg9 scrU (Memref.isWhole_whole _) scrD (Memref.isWhole_whole _) (arg7.view.rep x3) a)) $$ [HR HS]
  · iapply e0
    isplitl [HR]; · iexact HR
    iexists a; isplitl [HS]; · iexact HS
    ipureintro
    unfold piecesD pb_k0_t2; rfl
  iintro %acc HI
  iapply Hk
  ihave HI' := e1 acc $$ HI
  icases HI' with ⟨HR, ⟨%f, HS, %hf⟩⟩
  isplitl [HR]; · iexact HR
  iexists f; isplitr
  · ipureintro
    rw [hf]
    exact read_piecesD c i arg4 harg4 arg5 harg5 arg6 harg6 arg7 harg7 arg8 harg8 arg9 harg9 x3 a
  iexact HS

/-- The two loops, one after the other. -/
theorem loops (x1 : S1x1x1024x2048.Idx → Elt F .f32) (x3 : S1x1x1024x1024.Idx → Elt F .f32) (a0 : BufTy.Contents (Elt F) scrU.view.ty) (a1 : BufTy.Contents (Elt F) scrD.view.ty)
    {β : Type} {kk : PUnit → Prog (TpuEff nD τ sig (Elt F) Λ₀ .tc) β} {Q : β → sProp 𝕄} :
    iprop((arg5.view.loc (c : Thread nD τ) ↦[arg5.view.set]{fullShare} arg5.view.rep x1) ∗ (scrU.view.loc (c : Thread nD τ) ↦{fullShare} a0)
        ∗ (arg7.view.loc (c : Thread nD τ) ↦[arg7.view.set]{fullShare} arg7.view.rep x3) ∗ (scrD.view.loc (c : Thread nD τ) ↦{fullShare} a1))
      ⊢ iprop((((arg5.view.loc (c : Thread nD τ) ↦[arg5.view.set]{fullShare} arg5.view.rep x1)
          ∗ (∃ b, ⌜scrU.view.read (Elt F) b = castU x1⌝ ∗ (scrU.view.loc (c : Thread nD τ) ↦{fullShare} b))
          ∗ (arg7.view.loc (c : Thread nD τ) ↦[arg7.view.set]{fullShare} arg7.view.rep x3)
          ∗ (∃ b, ⌜scrD.view.read (Elt F) b = castD x3⌝ ∗ (scrD.view.loc (c : Thread nD τ) ↦{fullShare} b)))
          -∗ wp frame (wpE (defs₀ (F := F)) Variants.none c none) Set.univ (kk ⟨⟩) Q)
        -∗ wp frame (wpE (defs₀ (F := F)) Variants.none c none) Set.univ
            (Scf.Loop.for k0_t1_loop k0_t1_ok PUnit.unit (k0_t1_body (F := F) i tabE (Memref.isWhole_whole _) tabV (Memref.isWhole_whole _) tabU (Memref.isWhole_whole _) arg4 harg4 arg5 harg5 arg6 harg6 arg7 harg7 arg8 harg8 arg9 harg9 scrU (Memref.isWhole_whole _) scrD (Memref.isWhole_whole _)) >>= fun _ =>
              Scf.Loop.for k0_t2_loop k0_t2_ok PUnit.unit (k0_t2_body (F := F) i tabE (Memref.isWhole_whole _) tabV (Memref.isWhole_whole _) tabU (Memref.isWhole_whole _) arg4 harg4 arg5 harg5 arg6 harg6 arg7 harg7 arg8 harg8 arg9 harg9 scrU (Memref.isWhole_whole _) scrD (Memref.isWhole_whole _)) >>= kk) Q) := by
  iintro ⟨H1, HS0, H3, HS1⟩ Hk
  iapply (loopU c i arg4 harg4 arg5 harg5 arg6 harg6 arg7 harg7 arg8 harg8 arg9 harg9 x1 a0) $$ [H1 HS0]
  · isplitl [H1]; · iexact H1
    iexact HS0
  iintro ⟨H1, HS0⟩
  iapply (loopD c i arg4 harg4 arg5 harg5 arg6 harg6 arg7 harg7 arg8 harg8 arg9 harg9 x3 a1) $$ [H3 HS1]
  · isplitl [H3]; · iexact H3
    iexact HS1
  iintro ⟨H3, HS1⟩
  iapply Hk
  isplitl [H1]; · iexact H1
  isplitl [HS0]; · iexact HS0
  isplitl [H3]; · iexact H3
  iexact HS1

variable (T0 T1 : S164.Idx → Elt F .i32) (T2 : S1.Idx → Elt F .i32)
    (x0 : S512x1024.Idx → Elt F .f32) (x1 : S1x1x1024x2048.Idx → Elt F .f32) (x2 : S1x1x1x2048.Idx → Elt F .f32) (x3 : S1x1x1024x1024.Idx → Elt F .f32) (x4 : S1x1x1x1024.Idx → Elt F .f32)
    (xa0 : Buf (Elt F) ((c : Thread nD τ).loc cc0_scratch0)) (xa1 : Buf (Elt F) ((c : Thread nD τ).loc cc0_scratch1))

set_option maxHeartbeats 8000000 in
/-- A tile past those in use: zeros are stored and the scratch buffers stay. -/
theorem body_past (hc : ¬ refill (F := F) i T0 T2 = 1#1) (h2 : ¬ k0_cond2 i (wordU (F := F) T2) = 1#1) (h3 : k0_cond3 i (wordU (F := F) T2) = 1#1) (K : PUnit → sProp 𝕄) :
    iprop(reads c arg4 arg5 arg6 arg7 arg8 T0 T1 T2 x0 x1 x2 x3 x4
        ∗ (∃ d, owns (c : Thread nD τ) arg9 fullShare d)
        ∗ (scrU.view.loc (c : Thread nD τ) ↦{fullShare} xa0) ∗ (scrD.view.loc (c : Thread nD τ) ↦{fullShare} xa1)
        ∗ (iprop(reads c arg4 arg5 arg6 arg7 arg8 T0 T1 T2 x0 x1 x2 x3 x4
            ∗ owns (c : Thread nD τ) arg9 fullShare (k0_pay4 (F := F))
            ∗ (scrU.view.loc (c : Thread nD τ) ↦{fullShare} xa0) ∗ (scrD.view.loc (c : Thread nD τ) ↦{fullShare} xa1)) -∗ K ⟨⟩))
      ⊢ wp frame (wpE (defs₀ (F := F)) Variants.none c none) Set.univ (bodyOn i arg4 harg4 arg5 harg5 arg6 harg6 arg7 harg7 arg8 harg8 arg9 harg9) K := by
  unfold owns bodyOn reads
  rw [cc0_moe_experts_eq_skeleton]; unfold cc0_moe_experts_skel
  iintro ⟨⟨H0, H1, H2, H3, H4, HT0, HT1, HT2⟩, ⟨%d5, %f5, -, HO5⟩, HS0, HS1, Hk⟩
  have hS0 : scrU.IsWhole := Memref.isWhole_whole _
  have hS1 : scrD.IsWhole := Memref.isWhole_whole _
  have hT0 : tabE.IsWhole := Memref.isWhole_whole _
  have hT1 : tabV.IsWhole := Memref.isWhole_whole _
  have hT2 : tabU.IsWhole := Memref.isWhole_whole _
  sl_exec! (disch := first | (guard_target = ¬(Scalar.cmpi _ _ _ = _); exact hc) | (guard_target = ¬(k0_cond2 _ _ = _); exact h2) | (guard_target = k0_cond3 _ _ = _; exact h3))
  sl_step
  iapply Hk
  isplitl [H0 H1 H2 H3 H4 HT0 HT1 HT2]
  · isplitl [H0]; · iexact H0
    isplitl [H1]; · iexact H1
    isplitl [H2]; · iexact H2
    isplitl [H3]; · iexact H3
    isplitl [H4]; · iexact H4
    isplitl [HT0]; · iexact HT0
    isplitl [HT1]; · iexact HT1
    iexact HT2
  isplitl [HO5]
  · iexists _; isplitr; swap
    · iexact HO5
    · ipureintro
      exact read_whole arg9.view _ _ _ _
  isplitl [HS0]; · iexact HS0
  iexact HS1

set_option maxHeartbeats 8000000 in
/-- A tile in use that fills the scratch buffers: its tokens through its expert. -/
theorem body_fill (hc : refill (F := F) i T0 T2 = 1#1) (h2 : k0_cond2 i (wordU (F := F) T2) = 1#1) (h3 : ¬ k0_cond3 i (wordU (F := F) T2) = 1#1) (K : PUnit → sProp 𝕄) :
    iprop(reads c arg4 arg5 arg6 arg7 arg8 T0 T1 T2 x0 x1 x2 x3 x4
        ∗ (∃ d, owns (c : Thread nD τ) arg9 fullShare d)
        ∗ (scrU.view.loc (c : Thread nD τ) ↦{fullShare} xa0) ∗ (scrD.view.loc (c : Thread nD τ) ↦{fullShare} xa1)
        ∗ (iprop(reads c arg4 arg5 arg6 arg7 arg8 T0 T1 T2 x0 x1 x2 x3 x4
            ∗ owns (c : Thread nD τ) arg9 fullShare (tileOut (wordV (F := F) i T1) x0 (castU x1) x2 (castD x3) x4)
            ∗ (∃ a, ⌜scrU.view.read (Elt F) a = castU x1⌝ ∗ (scrU.view.loc (c : Thread nD τ) ↦{fullShare} a))
            ∗ (∃ a, ⌜scrD.view.read (Elt F) a = castD x3⌝ ∗ (scrD.view.loc (c : Thread nD τ) ↦{fullShare} a))) -∗ K ⟨⟩))
      ⊢ wp frame (wpE (defs₀ (F := F)) Variants.none c none) Set.univ (bodyOn i arg4 harg4 arg5 harg5 arg6 harg6 arg7 harg7 arg8 harg8 arg9 harg9) K := by
  unfold owns bodyOn reads
  rw [cc0_moe_experts_eq_skeleton]; unfold cc0_moe_experts_skel
  iintro ⟨⟨H0, H1, H2, H3, H4, HT0, HT1, HT2⟩, ⟨%d5, %f5, -, HO5⟩, HS0, HS1, Hk⟩
  have hS0 : scrU.IsWhole := Memref.isWhole_whole _
  have hS1 : scrD.IsWhole := Memref.isWhole_whole _
  have hT0 : tabE.IsWhole := Memref.isWhole_whole _
  have hT1 : tabV.IsWhole := Memref.isWhole_whole _
  have hT2 : tabU.IsWhole := Memref.isWhole_whole _
  sl_exec! (disch := first | (guard_target = Scalar.cmpi _ _ _ = _; exact hc) | (guard_target = k0_cond2 _ _ = _; exact h2) | (guard_target = ¬(k0_cond3 _ _ = _); exact h3))
  iapply (loops c i arg4 harg4 arg5 harg5 arg6 harg6 arg7 harg7 arg8 harg8 arg9 harg9 x1 x3 xa0 xa1) $$ [H1 HS0 H3 HS1]
  · isplitl [H1]; · iexact H1
    isplitl [HS0]; · iexact HS0
    isplitl [H3]; · iexact H3
    iexact HS1
  iintro ⟨H1, ⟨%b0, %hb0, HS0⟩, H3, ⟨%b1, %hb1, HS1⟩⟩
  sl_exec! (disch := first | (guard_target = Scalar.cmpi _ _ _ = _; exact hc) | (guard_target = k0_cond2 _ _ = _; exact h2) | (guard_target = ¬(k0_cond3 _ _ = _); exact h3))
  sl_step
  iapply Hk
  isplitl [H0 H1 H2 H3 H4 HT0 HT1 HT2]
  · isplitl [H0]; · iexact H0
    isplitl [H1]; · iexact H1
    isplitl [H2]; · iexact H2
    isplitl [H3]; · iexact H3
    isplitl [H4]; · iexact H4
    isplitl [HT0]; · iexact HT0
    isplitl [HT1]; · iexact HT1
    iexact HT2
  isplitl [HO5]
  · iexists _; isplitr; swap
    · iexact HO5
    · ipureintro
      refine (read_whole arg9.view _ _ _ _).trans ?_
      rw [← hb0, ← hb1]
      exact tileOut_loads arg4 arg6 arg8 _ _ _ _ _ _
  isplitl [HS0]
  · iexists _; isplitr; swap
    · iexact HS0
    · ipureintro; exact hb0
  iexists _; isplitr; swap
  · iexact HS1
  · ipureintro; exact hb1

set_option maxHeartbeats 8000000 in
/-- A tile in use whose expert the scratch buffers hold already. -/
theorem body_keep (hc : ¬ refill (F := F) i T0 T2 = 1#1) (h2 : k0_cond2 i (wordU (F := F) T2) = 1#1) (h3 : ¬ k0_cond3 i (wordU (F := F) T2) = 1#1) (K : PUnit → sProp 𝕄) :
    iprop(reads c arg4 arg5 arg6 arg7 arg8 T0 T1 T2 x0 x1 x2 x3 x4
        ∗ (∃ d, owns (c : Thread nD τ) arg9 fullShare d)
        ∗ (scrU.view.loc (c : Thread nD τ) ↦{fullShare} xa0) ∗ (scrD.view.loc (c : Thread nD τ) ↦{fullShare} xa1)
        ∗ (iprop(reads c arg4 arg5 arg6 arg7 arg8 T0 T1 T2 x0 x1 x2 x3 x4
            ∗ owns (c : Thread nD τ) arg9 fullShare (tileOut (wordV (F := F) i T1) x0 (scrU.view.read (Elt F) xa0) x2 (scrD.view.read (Elt F) xa1) x4)
            ∗ (scrU.view.loc (c : Thread nD τ) ↦{fullShare} xa0) ∗ (scrD.view.loc (c : Thread nD τ) ↦{fullShare} xa1)) -∗ K ⟨⟩))
      ⊢ wp frame (wpE (defs₀ (F := F)) Variants.none c none) Set.univ (bodyOn i arg4 harg4 arg5 harg5 arg6 harg6 arg7 harg7 arg8 harg8 arg9 harg9) K := by
  unfold owns bodyOn reads
  rw [cc0_moe_experts_eq_skeleton]; unfold cc0_moe_experts_skel
  iintro ⟨⟨H0, H1, H2, H3, H4, HT0, HT1, HT2⟩, ⟨%d5, %f5, -, HO5⟩, HS0, HS1, Hk⟩
  have hS0 : scrU.IsWhole := Memref.isWhole_whole _
  have hS1 : scrD.IsWhole := Memref.isWhole_whole _
  have hT0 : tabE.IsWhole := Memref.isWhole_whole _
  have hT1 : tabV.IsWhole := Memref.isWhole_whole _
  have hT2 : tabU.IsWhole := Memref.isWhole_whole _
  sl_exec! (disch := first | (guard_target = ¬(Scalar.cmpi _ _ _ = _); exact hc) | (guard_target = k0_cond2 _ _ = _; exact h2) | (guard_target = ¬(k0_cond3 _ _ = _); exact h3))
  sl_step
  iapply Hk
  isplitl [H0 H1 H2 H3 H4 HT0 HT1 HT2]
  · isplitl [H0]; · iexact H0
    isplitl [H1]; · iexact H1
    isplitl [H2]; · iexact H2
    isplitl [H3]; · iexact H3
    isplitl [H4]; · iexact H4
    isplitl [HT0]; · iexact HT0
    isplitl [HT1]; · iexact HT1
    iexact HT2
  isplitl [HO5]
  · iexists _; isplitr; swap
    · iexact HO5
    · ipureintro
      refine (read_whole arg9.view _ _ _ _).trans ?_
      exact tileOut_loads arg4 arg6 arg8 _ _ _ _ _ _
  isplitl [HS0]; · iexact HS0
  iexact HS1

end Cert.Experts

end
-- ==== Proof.ExpertsTables.lean ====
/- The words the experts' call steers by: which tiles are in use, each tile's expert, and the blocks of the
   weights they name. -/
module

public import proofs.«01_k».proof.Proof.ExpertsBody
public import Idealize.ShloMosaic.Lib.WordCmp

@[expose] public section

set_option maxRecDepth 16384
set_option Elab.async false

noncomputable section

namespace Cert.Experts

open Cert.Kernel2Ideal Cert.Kernel2Ideal.Gen
open Idealize.ShloMosaic
open Idealize.ShloMosaic.TcCoe Idealize.ShloMosaic.Tactic

variable {F : FTy → Type} [FloatOps F]

/-! ## The offsets the words are read at -/

theorem off1_val : ∀ i : grid0.Coords, k0_off1 i 0 = (i 0).val := by decide +kernel
theorem off2_val : ∀ i : grid0.Coords, k0_off2 i 0 = (i 0).val - 1 := by decide +kernel
theorem off7_val : ∀ i : grid0.Coords, k0_off7 i 0 = (i 0).val := by decide +kernel

/-- The tile before tile `j`, tile 0 itself before tile 0. -/
def before (j : Fin 164) : Fin 164 := ⟨j.val - 1, by omega⟩

/-- One word read from a table is the table's word at the offset. -/
theorem word_read (T : S164.Idx → BitVec 32) (off : Fin 1 → ℕ) (inb : ∀ a, off a + S1.size a ≤ S164.size a) (k : Fin 164)
    (h : off 0 = k.val) (x : S1.Idx) : T ((Rect.unit (s := S164) off S1.size inb).emb x) = T (ix1 k) := by
  congr 1
  funext a
  obtain rfl : a = 0 := Subsingleton.elim _ _
  apply Fin.ext
  have hx : (x 0).val < 1 := (x 0).isLt
  rw [Rect.emb_apply]
  show off 0 + 1 * (x 0).val = k.val
  omega

/-- A table of one word has one index. -/
theorem one_idx (x : S1.Idx) : x = ix1 (0 : Fin 1) := by
  funext a
  obtain rfl : a = 0 := Subsingleton.elim _ _
  exact Subsingleton.elim (α := Fin 1) _ _

theorem wordE_eq (i : grid0.Coords) (T0 : S164.Idx → Elt F .i32) : wordE i T0 = T0 (ix1 (i 0 : Fin 164)) :=
  word_read T0 _ _ (i 0) (off1_val i) _
theorem wordP_eq (i : grid0.Coords) (T0 : S164.Idx → Elt F .i32) : wordP i T0 = T0 (ix1 (before (i 0))) :=
  word_read T0 _ _ (before (i 0)) (off2_val i) _
theorem wordV_eq (i : grid0.Coords) (T1 : S164.Idx → Elt F .i32) : wordV i T1 = T1 (ix1 (i 0 : Fin 164)) :=
  word_read T1 _ _ (i 0) (off7_val i) _
theorem wordU_eq (T2 : S1.Idx → Elt F .i32) : wordU T2 = T2 (ix1 (0 : Fin 1)) :=
  congrArg T2 (one_idx _)

/-! ## The decisions -/

/-- Tile `j` is in use: it is one of the first `n`. -/
def Used (n : BitVec 32) (j : ℕ) : Prop := (j : ℤ) < n.toInt

theorem Used.mono {n : BitVec 32} {j k : ℕ} (h : Used n k) (hj : j ≤ k) : Used n j := by
  unfold Used at *; omega

theorem toInt_tile (j : ℕ) (hj : j < 164) : (BitVec.ofNat 32 j).toInt = j := by
  rw [BitVec.toInt_eq_toNat_of_lt (by rw [BitVec.toNat_ofNat]; omega), BitVec.toNat_ofNat]; omega

theorem slt_iff (j : ℕ) (hj : j < 164) (n : BitVec 32) : Scalar.cmpi .slt (BitVec.ofNat 32 j) n = 1#1 ↔ Used n j := by
  show IntOp.cmpi .slt (BitVec.ofNat 32 j) n = 1#1 ↔ _
  rw [WordCmp.cmpi_slt_eq, toInt_tile j hj]
  unfold Used
  by_cases h : (j : ℤ) < n.toInt <;> simp [h]

theorem truth (b : BitVec 1) : Scalar.cmpi .ne (Scalar.extui b : BitVec 32) 0#32 = 1#1 ↔ b = 1#1 := by
  revert b; decide

theorem cond2_iff (i : grid0.Coords) (n : BitVec 32) : k0_cond2 i n = 1#1 ↔ Used n (i 0).val :=
  (truth _).trans (slt_iff _ (i 0).isLt n)

theorem xor_one (b : BitVec 1) : Scalar.xori b 1#1 = 1#1 ↔ ¬ b = 1#1 := by revert b; decide

theorem cond3_iff (i : grid0.Coords) (n : BitVec 32) : k0_cond3 i n = 1#1 ↔ ¬ Used n (i 0).val :=
  (truth _).trans ((xor_one _).trans (not_congr (slt_iff _ (i 0).isLt n)))

theorem and_or (a b d : BitVec 1) : Scalar.andi a (Scalar.ori b d) = 1#1 ↔ a = 1#1 ∧ (b = 1#1 ∨ d = 1#1) := by
  revert a b d; decide

theorem eq_zero_iff (j : ℕ) (hj : j < 164) : Scalar.cmpi .eq (BitVec.ofNat 32 j) 0#32 = 1#1 ↔ j = 0 := by
  show IntOp.cmpi .eq (BitVec.ofNat 32 j) 0#32 = 1#1 ↔ _
  rw [WordCmp.cmpi_eq_eq_toNat, BitVec.toNat_ofNat]
  have e : j % 2 ^ 32 = j := by omega
  rw [e]
  by_cases h : j = 0 <;> simp [h]

theorem ne_iff (a b : BitVec 32) : Scalar.cmpi .ne a b = 1#1 ↔ a ≠ b := by
  show IntOp.cmpi .ne a b = 1#1 ↔ _
  rw [WordCmp.cmpi_ne_eq]
  by_cases h : a = b <;> simp [h]

/-- The scratch buffers are filled at a tile in use that is the first or has another expert than the tile before. -/
theorem refill_iff (i : grid0.Coords) (T0 : S164.Idx → Elt F .i32) (T2 : S1.Idx → Elt F .i32) :
    refill i T0 T2 = 1#1 ↔ Used (T2 (ix1 (0 : Fin 1))) (i 0).val ∧ ((i 0).val = 0 ∨ T0 (ix1 (i 0 : Fin 164)) ≠ T0 (ix1 (before (i 0)))) := by
  unfold refill
  rw [truth, and_or, wordU_eq, wordE_eq, wordP_eq]
  exact and_congr (slt_iff _ (i 0).isLt _) (or_congr (eq_zero_iff _ (i 0).isLt) (ne_iff _ _))

/-! ## The blocks of the weights -/

theorem transform1_eq (pf : pre0.Contents (Elt F)) (i : grid0.Coords) :
    cc0_transform_1 k0_off1_inb numel1_S1 pf i = ![0, (pf 0 (ix1 (i 0 : Fin 164)) : BitVec 32).toNat, 0, 0] := by
  have e : (pf.at 0 (Rect.unit (s := S164) (k0_off1 i) S1.size (k0_off1_inb i)) numel1_S1 : BitVec 32) = pf 0 (ix1 (i 0 : Fin 164)) :=
    word_read (pf 0) _ _ (i 0) (off1_val i) _
  show ![0, (pf.at 0 (Rect.unit (s := S164) (k0_off1 i) S1.size (k0_off1_inb i)) numel1_S1 : BitVec 32).toNat, 0, 0] = _
  rw [e]
theorem transform2_eq (pf : pre0.Contents (Elt F)) (i : grid0.Coords) :
    cc0_transform_2 k0_off1_inb numel1_S1 pf i = ![0, (pf 0 (ix1 (i 0 : Fin 164)) : BitVec 32).toNat, 0, 0] := transform1_eq pf i
theorem transform3_eq (pf : pre0.Contents (Elt F)) (i : grid0.Coords) :
    cc0_transform_3 k0_off1_inb numel1_S1 pf i = ![0, (pf 0 (ix1 (i 0 : Fin 164)) : BitVec 32).toNat, 0, 0] := transform1_eq pf i
theorem transform4_eq (pf : pre0.Contents (Elt F)) (i : grid0.Coords) :
    cc0_transform_4 k0_off1_inb numel1_S1 pf i = ![0, (pf 0 (ix1 (i 0 : Fin 164)) : BitVec 32).toNat, 0, 0] := transform1_eq pf i

/-- A block of one expert's weights lies inside the array of all 32. -/
theorem block_inb {R C : ℕ} (e : ℕ) (he : e < 32) :
    ∀ a, ((![0, e, 0, 0] : Fin 4 → ℕ) a + 1) * (![1, 1, R, C] : Fin 4 → ℕ) a ≤ (![2, 32, R, C] : Fin 4 → ℕ) a := by
  intro a
  fin_cases a
  · show (0 + 1) * 1 ≤ 2; omega
  · show (e + 1) * 1 ≤ 32; omega
  · show (0 + 1) * R ≤ R; omega
  · show (0 + 1) * C ≤ C; omega

/-- With every tile's expert one of the 32, the tables are ones the call may run at. -/
theorem ok_tables (pf : pre0.Contents (Elt F)) (h : ∀ j : Fin 164, (pf 0 (ix1 j) : BitVec 32).toNat < 32) : ok0 pf :=
  ⟨fun i => ⟨by rw [transform1_eq]; exact block_inb _ (h (i 0)), .inl rfl⟩, fun i => ⟨by rw [transform2_eq]; exact block_inb _ (h (i 0)), .inl rfl⟩,
    fun i => ⟨by rw [transform3_eq]; exact block_inb _ (h (i 0)), .inl rfl⟩, fun i => ⟨by rw [transform4_eq]; exact block_inb _ (h (i 0)), .inl rfl⟩⟩

/-- Every point of the grid stores its block of the output. -/
theorem never_idle (pf : pre0.Contents (Elt F)) (i : grid0.Coords) : idle0 pf 5 i = false := by
  show (!(k0_cond2 i (pf.atD 2 ![0]) == 1#1) && !(k0_cond3 i (pf.atD 2 ![0]) == 1#1)) = false
  by_cases h : Used (pf.atD 2 ![0] : BitVec 32) (i 0).val
  · rw [(cond2_iff i _).2 h]; rfl
  · rw [(cond3_iff i _).2 h, Bool.and_eq_false_iff]; right; rfl

end Cert.Experts

end
-- ==== Proof.ExpertsLaunch.lean ====
/- The launch of the experts' call: what each point of its grid leaves, and the memory after all of them.

   The scratch buffers carry the weights of a tile's expert to the next tile.  So the invariant between two
   points is: if the point before was in use, the buffers hold, cast, the two weight matrices of its expert. -/
module

public import proofs.«01_k».proof.Proof.ExpertsTables
public import Idealize.ShloMosaic.Lib.Pipeline.ValueKit.Point

@[expose] public section

set_option maxRecDepth 16384
set_option Elab.async false

noncomputable section

namespace Cert.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The resources the body runs with. -/
local notation "𝕄" => MT nD τ sig Unit (Elt F) ℕ (UR sig nD τ) ℕ

/-- The staging cells' part of them. -/
abbrev EP : Emb (UR sig nD τ) 𝕄 := emb₁

variable (m : (ℓ : Loc nD τ sig) → Buf (Elt F) ℓ) (ρ : Dev nD → PrngReg)

/-! ## The tables the launch finds -/

/-- The one device. -/
abbrev dev : Dev nD := ⟨0, by decide⟩

/-- Each tile's expert, each tile's number of tokens, and the number of tiles in use. -/
abbrev tE : S164.Idx → Elt F .i32 := m ((dev : Thread nD τ).loc main_arg1)
abbrev tV : S164.Idx → Elt F .i32 := m ((dev : Thread nD τ).loc main_arg2)
abbrev tU : S1.Idx → Elt F .i32 := m ((dev : Thread nD τ).loc main_arg3)
def pf : pre0.Contents (Elt F) := fun
  | ⟨0, _⟩ => tE m
  | ⟨1, _⟩ => tV m
  | ⟨2, _⟩ => tU m
  | ⟨_ + 3, h⟩ => absurd h (by simp)

/-- Every tile's expert is one of the 32. -/
def InRange : Prop := ∀ j : Fin 164, (tE m (ix1 j) : BitVec 32).toNat < 32

variable (h : InRange m)

/-- The call at these tables. -/
def adm : (pcfg0 (F := F)).Adm := ⟨pf m, ok_tables (pf m) h⟩
abbrev cfgA : Pipeline.Cfg sig Λ₀ := cfg0 (F := F) (adm m h)
abbrev pcs : Fin 1 → Pipeline.Cfg sig Λ₀ := Pipeline.pin (pcfgs (F := F)) fun _ => adm m h

/-- Point `t`'s coordinates, and its tile. -/
abbrev crd (t : Fin (cfgA m h).N) : grid0.Coords := (cfgA m h).grid.coords t
def tile (t : Fin (cfgA m h).N) : Fin 164 := crd m h t 0
theorem tile_val (t : Fin (cfgA m h).N) : (tile m h t).val = t.val :=
  (by decide +kernel : ∀ t : Fin grid0.N, (grid0.coords t 0).val = t.val) t

/-- Each window's staging buffer at point `t`. -/
abbrev ms0_0 (t : Fin (cfgA m h).N) : Memref sig .tc .vmem S512x1024 .f32 := spec0_0.stage ((cfgA m h).slots t (0 : Fin 6))
abbrev hs0_0 (t : Fin (cfgA m h).N) : (ms0_0 m h t).IsWhole := hstage0_0 (((cfgA m h).slots t (0 : Fin 6)).cast nbuf0_0)
abbrev ms0_1 (t : Fin (cfgA m h).N) : Memref sig .tc .vmem S1x1x1024x2048 .f32 := spec0_1.stage ((cfgA m h).slots t (1 : Fin 6))
abbrev hs0_1 (t : Fin (cfgA m h).N) : (ms0_1 m h t).IsWhole := hstage0_1 (((cfgA m h).slots t (1 : Fin 6)).cast nbuf0_1)
abbrev ms0_2 (t : Fin (cfgA m h).N) : Memref sig .tc .vmem S1x1x1x2048 .f32 := spec0_2.stage ((cfgA m h).slots t (2 : Fin 6))
abbrev hs0_2 (t : Fin (cfgA m h).N) : (ms0_2 m h t).IsWhole := hstage0_2 (((cfgA m h).slots t (2 : Fin 6)).cast nbuf0_2)
abbrev ms0_3 (t : Fin (cfgA m h).N) : Memref sig .tc .vmem S1x1x1024x1024 .f32 := spec0_3.stage ((cfgA m h).slots t (3 : Fin 6))
abbrev hs0_3 (t : Fin (cfgA m h).N) : (ms0_3 m h t).IsWhole := hstage0_3 (((cfgA m h).slots t (3 : Fin 6)).cast nbuf0_3)
abbrev ms0_4 (t : Fin (cfgA m h).N) : Memref sig .tc .vmem S1x1x1x1024 .f32 := spec0_4.stage ((cfgA m h).slots t (4 : Fin 6))
abbrev hs0_4 (t : Fin (cfgA m h).N) : (ms0_4 m h t).IsWhole := hstage0_4 (((cfgA m h).slots t (4 : Fin 6)).cast nbuf0_4)
abbrev ms0_5 (t : Fin (cfgA m h).N) : Memref sig .tc .vmem S512x1024 .f32 := spec0_5.stage ((cfgA m h).slots t (5 : Fin 6))
abbrev hs0_5 (t : Fin (cfgA m h).N) : (ms0_5 m h t).IsWhole := hstage0_5 (((cfgA m h).slots t (5 : Fin 6)).cast nbuf0_5)

/-- Window `w`'s block at point `t`, read off its array at launch. -/
def iblk (c : Dev nD) (w : Fin (cfgA m h).W) (t : Fin (cfgA m h).N) : (((cfgA m h).win w).xblock (crd m h t)).Idx → Elt F ((cfgA m h).win w).elt :=
  (((cfgA m h).win w).blk t).view.read (Elt F) ((s₀ m ρ).mem (((cfgA m h).win w).arr.view.loc (c : Thread nD τ)))

/-- A tile's tokens, and its expert's weights and biases. -/
abbrev b0 (c : Dev nD) (t : Fin (cfgA m h).N) : S512x1024.Idx → Elt F .f32 := iblk m ρ h c (0 : Fin 6) t
abbrev b1 (c : Dev nD) (t : Fin (cfgA m h).N) : S1x1x1024x2048.Idx → Elt F .f32 := iblk m ρ h c (1 : Fin 6) t
abbrev b2 (c : Dev nD) (t : Fin (cfgA m h).N) : S1x1x1x2048.Idx → Elt F .f32 := iblk m ρ h c (2 : Fin 6) t
abbrev b3 (c : Dev nD) (t : Fin (cfgA m h).N) : S1x1x1024x1024.Idx → Elt F .f32 := iblk m ρ h c (3 : Fin 6) t
abbrev b4 (c : Dev nD) (t : Fin (cfgA m h).N) : S1x1x1x1024.Idx → Elt F .f32 := iblk m ρ h c (4 : Fin 6) t

/-- Point `t`'s tile is in use. -/
abbrev used (t : Fin (cfgA m h).N) : Prop := Used (tU m (ix1 (0 : Fin 1))) t.val

/-- Expert `e`'s matrices in the arrays of all of them. -/
def matU (c : Dev nD) (e : Fin 32) : S1x1x1024x2048.Idx → Elt F .f32 := fun y =>
  m ((c : Thread nD τ).loc main_arg4) (ix4 (0 : Fin 2) e (y 2 : Fin 1024) (y 3 : Fin 2048))
def matD (c : Dev nD) (e : Fin 32) : S1x1x1024x1024.Idx → Elt F .f32 := fun y =>
  m ((c : Thread nD τ).loc main_arg6) (ix4 (0 : Fin 2) e (y 2 : Fin 1024) (y 3 : Fin 1024))

/-- Point `t`'s expert. -/
def expert (t : Fin (cfgA m h).N) : Fin 32 := ⟨(tE m (ix1 (tile m h t)) : BitVec 32).toNat, h _⟩

theorem b1_eq (c : Dev nD) (t : Fin (cfgA m h).N) : b1 m ρ h c t = matU m c (expert m h t) := by
  funext y
  have e : ((cfgA m h).win (1 : Fin 6)).index t = ![0, (tE m (ix1 (tile m h t)) : BitVec 32).toNat, 0, 0] := transform1_eq (pf m) (crd m h t)
  blk_point [iblk, matU, expert, e]

theorem b3_eq (c : Dev nD) (t : Fin (cfgA m h).N) : b3 m ρ h c t = matD m c (expert m h t) := by
  funext y
  have e : ((cfgA m h).win (3 : Fin 6)).index t = ![0, (tE m (ix1 (tile m h t)) : BitVec 32).toNat, 0, 0] := transform3_eq (pf m) (crd m h t)
  blk_point [iblk, matD, expert, e]

/-! ## What a point leaves -/

instance (n : BitVec 32) (j : ℕ) : Decidable (Used n j) := inferInstanceAs (Decidable ((j : ℤ) < n.toInt))

/-- The output's block after point `t`. -/
def leaves (c : Dev nD) (t : Fin (cfgA m h).N) : S512x1024.Idx → Elt F .f32 :=
  if used m h t then tileOut (tV m (ix1 (tile m h t))) (b0 m ρ h c t) (castU (b1 m ρ h c t)) (b2 m ρ h c t) (castD (b3 m ρ h c t)) (b4 m ρ h c t)
  else k0_pay4

/-- Before position `n`, if the point before was in use, the scratch buffers hold its expert's matrices. -/
def HoldsU (c : Dev nD) (n : ℕ) (a : Buf (Elt F) (scrU.view.loc (c : Thread nD τ))) : Prop :=
  ∀ t : Fin (cfgA m h).N, t.val + 1 = n → used m h t → scrU.view.read (Elt F) a = castU (b1 m ρ h c t)
def HoldsD (c : Dev nD) (n : ℕ) (a : Buf (Elt F) (scrD.view.loc (c : Thread nD τ))) : Prop :=
  ∀ t : Fin (cfgA m h).N, t.val + 1 = n → used m h t → scrD.view.read (Elt F) a = castD (b3 m ρ h c t)

/-- The invariant before position `n`. -/
def Phi (c : Dev nD) (n : Fin ((cfgA m h).N + 1)) : sProp 𝕄 :=
  iprop((∃ a, ⌜HoldsU m ρ h c n.val a⌝ ∗ (scrU.view.loc (c : Thread nD τ) ↦{fullShare} a))
    ∗ (∃ a, ⌜HoldsD m ρ h c n.val a⌝ ∗ (scrD.view.loc (c : Thread nD τ) ↦{fullShare} a))
    ∗ (tabE.view.loc (c : Thread nD τ) ↦{fullShare.right} tE m) ∗ (tabV.view.loc (c : Thread nD τ) ↦{fullShare.right} tV m)
    ∗ (tabU.view.loc (c : Thread nD τ) ↦{fullShare.right} tU m))

/-- A tile in use whose expert is that of the tile before it finds that expert's matrices. -/
theorem kept (t : Fin (cfgA m h).N) (hu : used m h t) (hc : ¬ refill (crd m h t) (tE m) (tU m) = 1#1) :
    ∃ s : Fin (cfgA m h).N, s.val + 1 = t.val ∧ used m h s ∧ expert m h s = expert m h t := by
  have hv := tile_val m h t
  have h1 := mt (refill_iff (crd m h t) (tE m) (tU m)).2 hc
  have hu' : Used (tU m (ix1 (0 : Fin 1))) (crd m h t 0).val := by
    rw [show (crd m h t 0).val = t.val from hv]; exact hu
  have h2 : ¬ (crd m h t 0).val = 0 := fun e => h1 ⟨hu', .inl e⟩
  have h3 : tE m (ix1 (tile m h t)) = tE m (ix1 (before (tile m h t))) := by
    by_contra e; exact h1 ⟨hu', .inr e⟩
  have h4 : (crd m h t 0).val = t.val := hv
  have h5 : ¬ t.val = 0 := fun e => h2 (h4.trans e)
  refine ⟨⟨t.val - 1, by have := t.isLt; omega⟩, by show t.val - 1 + 1 = t.val; omega, hu.mono (by show t.val - 1 ≤ t.val; omega), ?_⟩
  apply Fin.ext
  show (tE m (ix1 (tile m h _)) : BitVec 32).toNat = (tE m (ix1 (tile m h t)) : BitVec 32).toNat
  rw [h3]
  congr 3
  apply Fin.ext
  rw [tile_val]
  show t.val - 1 = (tile m h t).val - 1
  rw [hv]

/-! ## The body at a point -/

/-- The body at point `t`, as the launch calls it. -/
abbrev bodyAt0 (t : Fin (cfgA m h).N) : Prog (TpuEff nD τ sig (Elt F) Λ₀ .tc) PUnit :=
  bodyOn (crd m h t) (ms0_0 m h t) (hs0_0 m h t) (ms0_1 m h t) (hs0_1 m h t) (ms0_2 m h t) (hs0_2 m h t) (ms0_3 m h t) (hs0_3 m h t) (ms0_4 m h t) (hs0_4 m h t) (ms0_5 m h t) (hs0_5 m h t)

/-- What the body only reads, at point `t`. -/
abbrev readsAt (c : Dev nD) (t : Fin (cfgA m h).N) : sProp 𝕄 :=
  reads c (ms0_0 m h t) (ms0_1 m h t) (ms0_2 m h t) (ms0_3 m h t) (ms0_4 m h t) (tE m) (tV m) (tU m)
    (b0 m ρ h c t) (b1 m ρ h c t) (b2 m ρ h c t) (b3 m ρ h c t) (b4 m ρ h c t)

set_option maxHeartbeats 1000000 in
/-- From scratch buffers as the invariant says, the body leaves its block of the output and the invariant. -/
theorem body_point (c : Dev nD) (t : Fin (cfgA m h).N) (a0 : Buf (Elt F) (scrU.view.loc (c : Thread nD τ))) (a1 : Buf (Elt F) (scrD.view.loc (c : Thread nD τ)))
    (h0 : HoldsU m ρ h c t.val a0) (h1 : HoldsD m ρ h c t.val a1) (K : PUnit → sProp 𝕄) :
    iprop(readsAt m ρ h c t
        ∗ (∃ d, owns (c : Thread nD τ) (ms0_5 m h t) fullShare d)
        ∗ (scrU.view.loc (c : Thread nD τ) ↦{fullShare} a0) ∗ (scrD.view.loc (c : Thread nD τ) ↦{fullShare} a1)
        ∗ (iprop(readsAt m ρ h c t
            ∗ owns (c : Thread nD τ) (ms0_5 m h t) fullShare (leaves m ρ h c t)
            ∗ (∃ a, ⌜HoldsU m ρ h c (t.val + 1) a⌝ ∗ (scrU.view.loc (c : Thread nD τ) ↦{fullShare} a))
            ∗ (∃ a, ⌜HoldsD m ρ h c (t.val + 1) a⌝ ∗ (scrD.view.loc (c : Thread nD τ) ↦{fullShare} a))) -∗ K ⟨⟩))
      ⊢ wp frame (wpE (defs₀ (F := F)) Variants.none c none) Set.univ (bodyAt0 m h t) K := by
  have hv : (crd m h t 0).val = t.val := tile_val m h t
  have hw : Used (wordU (F := F) (tU m)) (crd m h t 0).val ↔ used m h t := by rw [wordU_eq, hv]
  have h2 := (cond2_iff (crd m h t) (wordU (F := F) (tU m))).trans hw
  have h3 := (cond3_iff (crd m h t) (wordU (F := F) (tU m))).trans (not_congr hw)
  have hr := refill_iff (crd m h t) (tE m) (tU m)
  rw [hv] at hr
  have same : ∀ s : Fin (cfgA m h).N, s.val + 1 = t.val + 1 → s = t := fun s e => Fin.ext (by omega)
  by_cases hu : used m h t
  · by_cases hc : refill (crd m h t) (tE m) (tU m) = 1#1
    · have e := body_fill (F := F) c (crd m h t) (ms0_0 m h t) (hs0_0 m h t) (ms0_1 m h t) (hs0_1 m h t) (ms0_2 m h t) (hs0_2 m h t) (ms0_3 m h t) (hs0_3 m h t) (ms0_4 m h t) (hs0_4 m h t) (ms0_5 m h t) (hs0_5 m h t)
        (tE m) (tV m) (tU m) (b0 m ρ h c t) (b1 m ρ h c t) (b2 m ρ h c t) (b3 m ρ h c t) (b4 m ρ h c t) a0 a1 hc (h2.2 hu) (fun e => h3.1 e hu) K
      rw [wordV_eq] at e
      iintro ⟨HR, HO, HS0, HS1, Hk⟩
      iapply e
      isplitl [HR]; · iexact HR
      isplitl [HO]; · iexact HO
      isplitl [HS0]; · iexact HS0
      isplitl [HS1]; · iexact HS1
      iintro ⟨HR, HO, ⟨%a, %ha, HS0⟩, ⟨%b, %hb, HS1⟩⟩
      iapply Hk
      isplitl [HR]; · iexact HR
      isplitl [HO]
      · unfold leaves; rw [if_pos hu]; iexact HO
      isplitl [HS0]
      · iexists a; isplitr; swap
        · iexact HS0
        · ipureintro; intro s hs _; rw [same s hs]; exact ha
      · iexists b; isplitr; swap
        · iexact HS1
        · ipureintro; intro s hs _; rw [same s hs]; exact hb
    · obtain ⟨s, hs, hus, hes⟩ := kept m h t hu hc
      have hU : scrU.view.read (Elt F) a0 = castU (b1 m ρ h c t) := by
        rw [h0 s hs hus, b1_eq, b1_eq, hes]
      have hD : scrD.view.read (Elt F) a1 = castD (b3 m ρ h c t) := by
        rw [h1 s hs hus, b3_eq, b3_eq, hes]
      have e := body_keep (F := F) c (crd m h t) (ms0_0 m h t) (hs0_0 m h t) (ms0_1 m h t) (hs0_1 m h t) (ms0_2 m h t) (hs0_2 m h t) (ms0_3 m h t) (hs0_3 m h t) (ms0_4 m h t) (hs0_4 m h t) (ms0_5 m h t) (hs0_5 m h t)
        (tE m) (tV m) (tU m) (b0 m ρ h c t) (b1 m ρ h c t) (b2 m ρ h c t) (b3 m ρ h c t) (b4 m ρ h c t) a0 a1 hc (h2.2 hu) (fun e => h3.1 e hu) K
      rw [wordV_eq, hU, hD] at e
      iintro ⟨HR, HO, HS0, HS1, Hk⟩
      iapply e
      isplitl [HR]; · iexact HR
      isplitl [HO]; · iexact HO
      isplitl [HS0]; · iexact HS0
      isplitl [HS1]; · iexact HS1
      iintro ⟨HR, HO, HS0, HS1⟩
      iapply Hk
      isplitl [HR]; · iexact HR
      isplitl [HO]
      · unfold leaves; rw [if_pos hu]; iexact HO
      isplitl [HS0]
      · iexists a0; isplitr; swap
        · iexact HS0
        · ipureintro; intro s hs _; rw [same s hs]; exact hU
      · iexists a1; isplitr; swap
        · iexact HS1
        · ipureintro; intro s hs _; rw [same s hs]; exact hD
  · have e := body_past (F := F) c (crd m h t) (ms0_0 m h t) (hs0_0 m h t) (ms0_1 m h t) (hs0_1 m h t) (ms0_2 m h t) (hs0_2 m h t) (ms0_3 m h t) (hs0_3 m h t) (ms0_4 m h t) (hs0_4 m h t) (ms0_5 m h t) (hs0_5 m h t)
      (tE m) (tV m) (tU m) (b0 m ρ h c t) (b1 m ρ h c t) (b2 m ρ h c t) (b3 m ρ h c t) (b4 m ρ h c t) a0 a1 (fun e => hu (hr.1 e).1) (fun e => hu (h2.1 e)) (h3.2 hu) K
    iintro ⟨HR, HO, HS0, HS1, Hk⟩
    iapply e
    isplitl [HR]; · iexact HR
    isplitl [HO]; · iexact HO
    isplitl [HS0]; · iexact HS0
    isplitl [HS1]; · iexact HS1
    iintro ⟨HR, HO, HS0, HS1⟩
    iapply Hk
    isplitl [HR]; · iexact HR
    isplitl [HO]
    · unfold leaves; rw [if_neg hu]; iexact HO
    isplitl [HS0]
    · iexists a0; isplitr; swap
      · iexact HS0
      · ipureintro; intro s hs hus; rw [same s hs] at hus; exact absurd hus hu
    · iexists a1; isplitr; swap
      · iexact HS1
      · ipureintro; intro s hs hus; rw [same s hs] at hus; exact absurd hus hu

end Cert.Experts

end
-- ==== Proof.ExpertsRun.lean ====
/- The run of the experts' call: from any memory whose tiles name experts in range, the program ends with its
   arguments unchanged, every counter at zero, and the output what the points of the grid leave. -/
module

public import proofs.«01_k».proof.Proof.ExpertsLaunch

@[expose] public section

set_option maxRecDepth 16384
set_option Elab.async false

noncomputable section

namespace Cert.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The resources the body runs with. -/
local notation "𝕄" => MT nD τ sig Unit (Elt F) ℕ (UR sig nD τ) ℕ

variable (m : (ℓ : Loc nD τ sig) → Buf (Elt F) ℓ) (ρ : Dev nD → PrngReg) (h : InRange m)

/-- What the run holds of each window, point by point. -/
def dats (_ : Fin 1) (c : Dev nD) : Dat τ (Elt F) Unit ℕ (UR sig nD τ) ℕ (cfgA m h) c where
  A w := (s₀ m ρ).mem (((cfgA m h).win w).arr.view.loc (c : Thread nD τ))
  after w t := match w with
    | ⟨0, _⟩ => iblk m ρ h c (0 : Fin 6) t
    | ⟨1, _⟩ => iblk m ρ h c (1 : Fin 6) t
    | ⟨2, _⟩ => iblk m ρ h c (2 : Fin 6) t
    | ⟨3, _⟩ => iblk m ρ h c (3 : Fin 6) t
    | ⟨4, _⟩ => iblk m ρ h c (4 : Fin 6) t
    | ⟨5, _⟩ => leaves m ρ h c t
  Φ t := Phi m ρ h c t
  q _ := fullShare
  owed _ := 0

theorem after0_0 (c : Dev nD) (t : Fin (cfgA m h).N) : (dats m ρ h 0 c).after (0 : Fin 6) t = iblk m ρ h c (0 : Fin 6) t := rfl
theorem after0_1 (c : Dev nD) (t : Fin (cfgA m h).N) : (dats m ρ h 0 c).after (1 : Fin 6) t = iblk m ρ h c (1 : Fin 6) t := rfl
theorem after0_2 (c : Dev nD) (t : Fin (cfgA m h).N) : (dats m ρ h 0 c).after (2 : Fin 6) t = iblk m ρ h c (2 : Fin 6) t := rfl
theorem after0_3 (c : Dev nD) (t : Fin (cfgA m h).N) : (dats m ρ h 0 c).after (3 : Fin 6) t = iblk m ρ h c (3 : Fin 6) t := rfl
theorem after0_4 (c : Dev nD) (t : Fin (cfgA m h).N) : (dats m ρ h 0 c).after (4 : Fin 6) t = iblk m ρ h c (4 : Fin 6) t := rfl
theorem after0_5 (c : Dev nD) (t : Fin (cfgA m h).N) : (dats m ρ h 0 c).after (5 : Fin 6) t = leaves m ρ h c t := rfl

/-- An input's staging buffer holds its block. -/
theorem before0_0 (c : Dev nD) (t : Fin (cfgA m h).N) (d) : (dats m ρ h 0 c).before (0 : Fin 6) t d = iblk m ρ h c (0 : Fin 6) t :=
  ((dats m ρ h 0 c).before_in_eq_fetched (0 : Fin 6) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA m h).N) (d) : (dats m ρ h 0 c).before (1 : Fin 6) t d = iblk m ρ h c (1 : Fin 6) t :=
  ((dats m ρ h 0 c).before_in_eq_fetched (1 : Fin 6) rfl (fun _ => rfl) (fun _ _ _ => rfl) (fun t => by rw [after0_1]; unfold Dat.blockOf iblk; rfl) t d).trans
    (by unfold Dat.fetched Dat.blockOf iblk; rfl)
theorem before0_2 (c : Dev nD) (t : Fin (cfgA m h).N) (d) : (dats m ρ h 0 c).before (2 : Fin 6) t d = iblk m ρ h c (2 : Fin 6) t :=
  ((dats m ρ h 0 c).before_in_eq_fetched (2 : Fin 6) rfl (fun _ => rfl) (fun _ _ _ => rfl) (fun t => by rw [after0_2]; unfold Dat.blockOf iblk; rfl) t d).trans
    (by unfold Dat.fetched Dat.blockOf iblk; rfl)
theorem before0_3 (c : Dev nD) (t : Fin (cfgA m h).N) (d) : (dats m ρ h 0 c).before (3 : Fin 6) t d = iblk m ρ h c (3 : Fin 6) t :=
  ((dats m ρ h 0 c).before_in_eq_fetched (3 : Fin 6) rfl (fun _ => rfl) (fun _ _ _ => rfl) (fun t => by rw [after0_3]; unfold Dat.blockOf iblk; rfl) t d).trans
    (by unfold Dat.fetched Dat.blockOf iblk; rfl)
theorem before0_4 (c : Dev nD) (t : Fin (cfgA m h).N) (d) : (dats m ρ h 0 c).before (4 : Fin 6) t d = iblk m ρ h c (4 : Fin 6) t :=
  ((dats m ρ h 0 c).before_in_eq_fetched (4 : Fin 6) rfl (fun _ => rfl) (fun _ _ _ => rfl) (fun t => by rw [after0_4]; unfold Dat.blockOf iblk; rfl) t d).trans
    (by unfold Dat.fetched Dat.blockOf iblk; rfl)

theorem idle5 (t : Fin (cfgA m h).N) : (cfgA m h).idle (5 : Fin 6) ((cfgA m h).grid.coords t) = false := never_idle (pf m) (crd m h t)

set_option maxHeartbeats 4000000 in
/-- The body at point `t` keeps what the run holds. -/
theorem sound_body (c : Dev nD) (t : Fin (cfgA m h).N) :
    iprop((dats m ρ h 0 c).Φ t.castSucc ∗ (dats m ρ h 0 c).owesAt () t.castSucc
        ∗ (∃ d, owns (c : Thread nD τ) (ms0_0 m h t) fullShare ((dats m ρ h 0 c).before (0 : Fin 6) t d))
        ∗ (∃ d, owns (c : Thread nD τ) (ms0_1 m h t) fullShare ((dats m ρ h 0 c).before (1 : Fin 6) t d))
        ∗ (∃ d, owns (c : Thread nD τ) (ms0_2 m h t) fullShare ((dats m ρ h 0 c).before (2 : Fin 6) t d))
        ∗ (∃ d, owns (c : Thread nD τ) (ms0_3 m h t) fullShare ((dats m ρ h 0 c).before (3 : Fin 6) t d))
        ∗ (∃ d, owns (c : Thread nD τ) (ms0_4 m h t) fullShare ((dats m ρ h 0 c).before (4 : Fin 6) t d))
        ∗ (∃ d, owns (c : Thread nD τ) (ms0_5 m h t) fullShare ((dats m ρ h 0 c).before (5 : Fin 6) t d)))
      ⊢ wp frame (wpE (defs₀ (F := F)) Variants.none c none) Set.univ (bodyAt0 m h t) fun _ =>
          iprop((dats m ρ h 0 c).Φ t.succ ∗ (dats m ρ h 0 c).owesAt () t.succ
            ∗ bigSep Finset.univ fun w : Fin (cfgA m h).W =>
                match (cfgA m h).idle w ((cfgA m h).grid.coords t) with
                | true =>
                  match ((cfgA m h).win w).flush t with
                  | false => iprop(∃ d, owns (c : Thread nD τ) (((cfgA m h).win w).stage ((cfgA m h).slots t w)) fullShare ((dats m ρ h 0 c).before w t d))
                  | true => owns (c : Thread nD τ) (((cfgA m h).win w).stage ((cfgA m h).slots t w)) fullShare ((dats m ρ h 0 c).after w t)
                | false => owns (c : Thread nD τ) (((cfgA m h).win w).stage ((cfgA m h).slots t w)) fullShare ((dats m ρ h 0 c).after w t)) := by
  rw [bigSep_W0]
  rewrite [idle5 m h t]
  simp only [before0_0, before0_1, before0_2, before0_3, before0_4, after0_0, after0_1, after0_2, after0_3, after0_4, after0_5]
  rewrite [show (dats m ρ h 0 c).Φ t.succ = Phi m ρ h c t.succ from rfl, show (dats m ρ h 0 c).Φ t.castSucc = Phi m ρ h c t.castSucc from rfl,
    show (dats m ρ h 0 c).owesAt () t.succ = (dats m ρ h 0 c).owesAt () t.castSucc from rfl]
  unfold Phi; simp only [Fin.val_castSucc, Fin.val_succ]
  iintro ⟨⟨⟨%a0, %ha0, HS0⟩, ⟨%a1, %ha1, HS1⟩, HT0, HT1, HT2⟩, Ho, ⟨%d0, H0⟩, ⟨%d1, H1⟩, ⟨%d2, H2⟩, ⟨%d3, H3⟩, ⟨%d4, H4⟩, ⟨%d5, H5⟩⟩
  iapply (body_point m ρ h c t a0 a1 ha0 ha1 _)
  isplitl [H0 H1 H2 H3 H4 HT0 HT1 HT2]
  · unfold readsAt reads
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    iexact HT2
  isplitl [H5]; · iexists _; iexact H5
  isplitl [HS0]; · iexact HS0
  isplitl [HS1]; · iexact HS1
  unfold readsAt reads
  iintro ⟨⟨H0, H1, H2, H3, H4, HT0, HT1, HT2⟩, H5, HS0, HS1⟩
  isplitl [HS0 HS1 HT0 HT1 HT2]
  · isplitl [HS0]; · iexact HS0
    isplitl [HS1]; · iexact HS1
    isplitl [HT0]; · iexact HT0
    isplitl [HT1]; · iexact HT1
    iexact HT2
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  isplitl [H4]
  · iapply owns_of_rep; iexact H4
  iexact H5

theorem body_obligation (c : Dev nD) : BodyObligation (dats m ρ h 0 c) (defs₀ (F := F)) Variants.none () Set.univ := fun t => by
  rw [bigSep_W0]
  exact sound_body m ρ h c t

/-! ## The launch -/

/-- What the launch starts the staging cells with. -/
def u₀ : UR sig nD τ :=
  initOf (Pipeline.cells (pcs m h) ((launch0 (F := F)).cellOf_inj fun _ => adm m h))
    (Pipeline.launchToks (pcs m h) ((launch0 (F := F)).cellOf_inj fun _ => adm m h))

theorem share_eq (c : Dev nD) (w : Fin (cfgA m h).W) : (dats m ρ h 0 c).share w = fullShare := by unfold Dat.share; split <;> rfl

/-- The tables, one by one. -/
theorem prefHeld_eq (c : Dev nD) (q : Fin 3 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1) ∗ (((c : Thread nD τ).loc main_arg3) ↦{q 2} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

/-- Before the first point the scratch buffers hold anything. -/
theorem phi0_intro (c : Dev nD) :
    iprop(BI.emp ∗ Pipeline.prefHeld pre0 c (fun _ => fullShare.right) (adm m h).1 ∗ Pipeline.scopedRest spec0 c) ⊢ (dats m ρ h 0 c).Φ 0 := by
  rw [prefHeld_eq, scopedRest0_eq, show (dats m ρ h 0 c).Φ 0 = Phi m ρ h c 0 from rfl]
  unfold Phi
  iintro ⟨-, ⟨HT0, HT1, HT2⟩, ⟨%a0, HS0⟩, ⟨%a1, HS1⟩⟩
  isplitl [HS0]
  · iexists a0; isplitr; swap
    · iexact HS0
    · ipureintro; intro t ht; exact absurd ht (Nat.succ_ne_zero _)
  isplitl [HS1]
  · iexists a1; isplitr; swap
    · iexact HS1
    · ipureintro; intro t ht; exact absurd ht (Nat.succ_ne_zero _)
  isplitl [HT0]
  · iexact HT0
  isplitl [HT1]
  · iexact HT1
  iexact HT2

/-- After the last point the scratch buffers are given back. -/
theorem phiN_exit (c : Dev nD) : (dats m ρ h 0 c).Φ (Fin.last (cfgA m h).N) ⊢ iprop(BI.emp ∗ Pipeline.scopedRest spec0 c) := by
  rw [scopedRest0_eq, show (dats m ρ h 0 c).Φ (Fin.last (cfgA m h).N) = Phi m ρ h c (Fin.last _) from rfl]
  unfold Phi
  iintro ⟨⟨%a0, -, HS0⟩, ⟨%a1, -, HS1⟩, -, -, -⟩
  isplitr; · iempintro
  isplitl [HS0]
  · iexists a0; iexact HS0
  iexists a1; iexact HS1

/-- The memory after the run: each window's array as the points leave it, the tables as they were. -/
def QC : PUnit × MemSt nD τ sig (Elt F) → Prop := fun r =>
  ∀ c : Dev nD, (∀ w : Fin (cfgA m h).W, r.2.mem (((cfgA m h).win w).arr.view.loc (c : Thread nD τ)) = (dats m ρ h 0 c).arrAt w (cfgA m h).N)
    ∧ ∀ j, r.2.mem ((c : Thread nD τ).loc (pre0.ref j)) = (adm m h).1 j

theorem V_pre (c : Dev nD) (j : Fin 3) : m ((c : Thread nD τ).loc (pre0.ref j)) = (adm m h).1 j := by
  obtain rfl : c = dev := Subsingleton.elim (α := Fin 1) _ _
  fin_cases j <;> rfl

set_option backward.isDefEq.respectTransparency.types false in
set_option maxHeartbeats 4000000 in
/-- Every fair execution ends, with the memory above and every counter at zero. -/
theorem run_main_quiescent : θ_run (defs (F := F)) (onTc (τ := τ) (main (F := F))) (s₀ m ρ) (fun r => QC m ρ h r ∧ r.2.sem = fun _ => 0) :=
  Pipeline.θ_run_region_noSem_pf_quiescent pcfgs (fun _ => adm m h) (dats m ρ h) () ((launch0 (F := F)).cellOf_inj fun _ => adm m h) (0 : Fin 1)
    (launch0 (F := F)).win.to₀ (launch0 (F := F)).pre EP defs₀ Variants.none m ρ main
    (hbody := fun c => (body_obligation m ρ h c).loose) (hne := (launch0 (F := F)).block_pos)
    (harr := (launch0 (F := F)).arr_whole) (hstage := (launch0 (F := F)).stage_whole) (howed := fun _ _ => rfl)
    (u₀ := u₀ m h) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs m h) (dats m ρ h) 0 (launch0 (F := F)).win.arr_inj c (launch0 (F := F)).arr_whole
      (share_eq m ρ h c) _ _ fun _ => rfl)
    (hpf := V_pre m h)
    (X := fun _ => iprop(emp)) (Y := fun _ => iprop(emp)) (Z := fun _ => iprop(emp))
    (hX := fun c => by rw [unscopedRestP0_eq]; iintro -; isplitr <;> iempintro)
    (hin := phi0_intro m ρ h)
    (hout := phiN_exit m ρ h)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The argument arrays end unchanged. -/
def Unchanged (r : PUnit × MemSt nD τ sig (Elt F)) : Prop := ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)

theorem unchanged_of (r : PUnit × MemSt nD τ sig (Elt F)) (hq : QC m ρ h r) : Unchanged m r := fun c =>
  ⟨((hq c).1 (0 : Fin 6)).trans ((dats m ρ h 0 c).arrAt_in (0 : Fin 6) rfl _), ((hq c).2 0).trans (V_pre m h c 0).symm, ((hq c).2 1).trans (V_pre m h c 1).symm,
    ((hq c).2 2).trans (V_pre m h c 2).symm, ((hq c).1 (1 : Fin 6)).trans ((dats m ρ h 0 c).arrAt_in (1 : Fin 6) rfl _),
    ((hq c).1 (2 : Fin 6)).trans ((dats m ρ h 0 c).arrAt_in (2 : Fin 6) rfl _), ((hq c).1 (3 : Fin 6)).trans ((dats m ρ h 0 c).arrAt_in (3 : Fin 6) rfl _),
    ((hq c).1 (4 : Fin 6)).trans ((dats m ρ h 0 c).arrAt_in (4 : Fin 6) rfl _)⟩

include h in
/-- From any memory whose tiles name experts in range: the arguments end unchanged, the counters at zero. -/
theorem frame : θ_run (defs (F := F)) (onTc (τ := τ) (main (F := F))) ⟨m, fun _ => 0, ρ⟩ (fun r => Unchanged m r ∧ r.2.sem = fun _ => 0) :=
  (θ_run defs _ _).mono (fun r hr => ⟨unchanged_of m ρ h r hr.1, hr.2⟩) (run_main_quiescent m ρ h)

/-- The output: what the points leave of it. -/
theorem output : θ_run (defs (F := F)) (onTc (τ := τ) (main (F := F))) ⟨m, fun _ => 0, ρ⟩
    (fun r => ∀ c : Dev nD, r.2.mem ((c.tc : Thread nD τ).loc main_v0) = (dats m ρ h 0 c).arrAt (5 : Fin 6) (cfgA m h).N) :=
  (θ_run defs _ _).mono (fun r hr c => (hr.1 c).1 (5 : Fin 6)) (run_main_quiescent m ρ h)

end Cert.Experts

end
-- ==== Proof.ExpertsFrames.lean ====
/-
  The experts' call runs: from tiles that name experts in range, the arguments end unchanged and every counter
  at zero.
-/
module

public import proofs.«01_k».proof.Defs
public import proofs.«01_k».proof.Proof.Gen.Kernel2
public import proofs.«01_k».proof.Proof.Gen.Pre_experts_in_range
public import proofs.«01_k».proof.Proof.Gen.Reference2Ideal
public import proofs.«01_k».proof.Proof.Gen.Reference2Ideal.Run
public import proofs.«01_k».proof.Proof.ExpertsRun
public import proofs.«01_k».proof.Proof.Words
public import Idealize.ShloMosaic.Lib.Quiescent
public import Idealize.ShloMosaic.Lib.ReduceAll
public import Idealize.ShloMosaic.Lib.Ring
public import Idealize.ShloMosaic.Lib.Tactic

@[expose] public section

noncomputable section

namespace Cert.Claims

open Idealize.ShloMosaic Idealize.ShloMosaic.TcCoe Idealize.ShloMosaic.Tactic Idealize.SL.Sem

/-- A word at least 0 and below 32 as an integer is below 32 as a number. -/
theorem in_range (w : BitVec 32) (h0 : IntOp.cmpi .sge w 0#32 = 1#1) (h1 : IntOp.cmpi .slt w 32#32 = 1#1) : w.toNat < 32 := by
  rw [WordCmp.cmpi_sge_eq] at h0
  rw [WordCmp.cmpi_slt_eq] at h1
  have e0 : (0 : ℤ) ≤ w.toInt := of_decide_eq_true ((Cert.Words.ofBool_eq_one _).1 h0)
  have e1 : w.toInt < 32 := of_decide_eq_true ((Cert.Words.ofBool_eq_one _).1 h1)
  rw [BitVec.toInt_eq_toNat_cond] at e0 e1
  have := w.isLt
  split at e0 <;> omega

/-- What the precondition says: every tile's expert is one of the 32. -/
theorem range_of_pre {F : FTy → Type} [FloatOps F] [Cert.Pre_experts_in_range.Facts] (x : FVec F Cert.Pre_experts_in_range.S83968x1024 .f32)
    (te tv : IVec Cert.Pre_experts_in_range.S164 32) (nu : IVec Cert.Pre_experts_in_range.S1 32) (a : FVec F Cert.Pre_experts_in_range.S2x32x1024x2048 .f32)
    (b : FVec F Cert.Pre_experts_in_range.S2x32x1x2048 .f32) (d : FVec F Cert.Pre_experts_in_range.S2x32x1024x1024 .f32) (e : FVec F Cert.Pre_experts_in_range.S2x32x1x1024 .f32)
    (h : Cert.Pre_experts_in_range.fn x te tv nu a b d e = fun _ => 1#1) (j : Fin 164) : (te (ix1 j)).toNat < 32 := by
  have h0 := congrFun h (Shape.Idx.first (by decide))
  dsimp only [Cert.Pre_experts_in_range.fn] at h0
  obtain ⟨h1, h2⟩ := (Cert.Words.andi_eq_one _ _).1 (Host.reduce_andi_all _ _ _ _ _ h0 (ix1 j))
  exact in_range _ h1 h2

theorem pre_range_pi (m : (ℓ : Loc Cert.Kernel2Ideal.nD Cert.Kernel2Ideal.τ Cert.Kernel2Ideal.sig) → Buf (Elt Ideal) ℓ)
    (h : Cert.Pre_Kernel2Ideal m) : Cert.Experts.InRange m := range_of_pre _ _ _ _ _ _ _ _ (h Cert.Experts.dev)

/-- The call and its copy with exact numbers are one program. -/
theorem defs_eq : @Cert.Kernel2.defs Bits _ _ = @Cert.Kernel2Ideal.defs Bits _ _ := by sl_kernel_rfl

theorem frame_p2 : Cert.quiescent_Kernel2 := fun m g pre => by
  have h : Cert.Experts.InRange (F := Bits) m := range_of_pre _ _ _ _ _ _ _ _ (pre Cert.Experts.dev)
  have f := Cert.Experts.frame (F := Bits) m g h
  rw [defs_eq]
  exact f

theorem frame_pi2 : Cert.quiescent_Kernel2Ideal := fun m g pre => Cert.Experts.frame (F := Ideal) m g (pre_range_pi m pre)

/-- So does the reference. -/
theorem frame_ri2 : Cert.quiescent_Reference2Ideal := fun m g _ =>
  (θ_run Cert.Reference2Ideal.defs _ _).mono (fun r h => ⟨fun c => (h c).2, Idealize.ShloMosaic.sem_eq_zero_of_no_sems (by decide) r.2⟩)
    (Cert.Reference2Ideal.Value.run (F := Ideal) m g)
theorem frame_ri2_pre : Cert.quiescent_Reference2Ideal_pre_experts_in_range := fun m g _ => frame_ri2 m g trivial

/-- No number of the call is renamed. -/
theorem preserves2 : Cert.preserves_Kernel2_Kernel2Ideal := trivial

end Cert.Claims

end
-- ==== Proof.Experts.lean ====
/-
  What both programs of the experts' call compute, written once over the arrays: the tokens lie in 164 tiles
  of 512 rows, each tile has one expert, and a row of a tile in use is the expert's two matrix products with
  the gated activation between them.  The rows of a tile past its number of tokens count as zero rows, and a
  tile not in use gives zero.
-/
module

public import Idealize.ShloMosaic.Lib.Pointwise

@[expose] public section
set_option maxRecDepth 16384

noncomputable section

namespace Cert.Experts

open Idealize.ShloMosaic

/-- The arrays' shapes: the tokens and the result, the tables, the weights and the biases of the two products. -/
abbrev SX : Shape := ⟨2, ![83968, 1024]⟩
abbrev ST : Shape := ⟨1, ![164]⟩
abbrev SU : Shape := ⟨1, ![1]⟩
abbrev SW : Shape := ⟨4, ![2, 32, 1024, 2048]⟩
abbrev SB : Shape := ⟨4, ![2, 32, 1, 2048]⟩
abbrev SV : Shape := ⟨4, ![2, 32, 1024, 1024]⟩
abbrev SC : Shape := ⟨4, ![2, 32, 1, 1024]⟩

/-- Row `r` of tile `j`. -/
abbrev rowOf (j : Fin 164) (r : Fin 512) : Fin 83968 := ⟨j.val * 512 + r.val, by omega⟩
/-- The gate's column and the linear column of lane `f`. -/
abbrev gateCol (f : Fin 1024) : Fin 2048 := ⟨f.val, by omega⟩
abbrev linCol (f : Fin 1024) : Fin 2048 := ⟨1024 + f.val, by omega⟩

/-- The gated activation. -/
def act (g u : EReal) : EReal :=
  (min (Ideal.ofBits .f32 0x40E00000#32) (max (Ideal.ofBits .f32 0xC0E00000#32) u) + 1)
    * min g (Ideal.ofBits .f32 0x40E00000#32)
    * Ideal.div 1
        (1 + Ideal.exp (-(Ideal.ofBits .f32 0x3FD9DB23#32 * min g (Ideal.ofBits .f32 0x40E00000#32))))

variable (x : FVec Ideal SX .f32) (te tv : IVec ST 32) (nu : IVec SU 32)
  (w : FVec Ideal SW .f32) (b : FVec Ideal SB .f32) (v : FVec Ideal SV .f32) (d : FVec Ideal SC .f32)

/-- A tile's token, zero past the tile's number of tokens. -/
def token (j : Fin 164) (r : Fin 512) (k : Fin 1024) : EReal :=
  if (r.val : ℤ) < (tv (ix1 j)).toInt then x (ix2 (rowOf j r) k) else 0

/-- The first product with its bias, for expert `e`. -/
def hid (e : Fin 32) (j : Fin 164) (r : Fin 512) (f : Fin 2048) : EReal :=
  (∑ k : Fin 1024, token x tv j r k * w (ix4 0 e k f)) + b (ix4 0 e 0 f)

/-- The second product of the activations with its bias. -/
def second (e : Fin 32) (j : Fin 164) (r : Fin 512) (o : Fin 1024) : EReal :=
  (∑ f : Fin 1024, act (hid x tv w b e j r (gateCol f)) (hid x tv w b e j r (linCol f)) * v (ix4 0 e f o)) + d (ix4 0 e 0 o)

/-- The result's row `r` of tile `j`, whose expert is `E j`. -/
def tileRow (E : Fin 164 → Fin 32) (j : Fin 164) (r : Fin 512) (o : Fin 1024) : EReal :=
  if (j.val : ℤ) < (nu (ix1 0)).toInt then second x tv w b v d (E j) j r o else 0

/-- The result. -/
def result (E : Fin 164 → Fin 32) : FVec Ideal SX .f32 := fun y =>
  tileRow x tv nu w b v d E ⟨(y 0).val / 512, by have : (y 0).val < 83968 := (y 0).isLt; omega⟩
    ⟨(y 0).val % 512, Nat.mod_lt _ (by omega)⟩ ⟨(y 1).val, (y 1).isLt⟩

theorem result_at (E : Fin 164 → Fin 32) (j : Fin 164) (r : Fin 512) (o : Fin 1024) :
    result x tv nu w b v d E (ix2 (rowOf j r) o) = tileRow x tv nu w b v d E j r o := by
  unfold result
  have hj : (j.val * 512 + r.val) / 512 = j.val := by omega
  have hr : (j.val * 512 + r.val) % 512 = r.val := by omega
  exact congrArg₂ (fun p q => tileRow x tv nu w b v d E p q o) (Fin.ext hj) (Fin.ext hr)

/-- The pattern of zero denotes it. -/
theorem bits_zero : Ideal.ofBits .f32 0x00000000#32 = 0 := by simp [Ideal.ofBits, Ideal.ieee]

/-- Two signed words compare as their values. -/
theorem slt_word (p q : BitVec 32) : IntOp.cmpi .slt p q = 1 ↔ p.toInt < q.toInt := by
  unfold IntOp.cmpi BitVec.slt
  by_cases h : p.toInt < q.toInt <;> simp [h]

/-- A choice by a comparison of words. -/
theorem select_word (p q : BitVec 32) (a b : EReal) :
    Scalar.select (IntOp.cmpi .slt p q) a b = if p.toInt < q.toInt then a else b := by
  unfold Scalar.select
  by_cases h : p.toInt < q.toInt
  · rw [if_pos ((slt_word p q).2 h), if_pos h]
  · rw [if_neg (fun e => h ((slt_word p q).1 e)), if_neg h]

/-- A product under a comparison of words. -/
theorem select_mul (p q : BitVec 32) (a b : EReal) :
    Scalar.select (IntOp.cmpi .slt p q) (a * b) 0 = (if p.toInt < q.toInt then a else 0) * b := by
  rw [select_word]
  split
  · rfl
  · rw [zero_mul]

/-- A small number as a word. -/
theorem small_word (n : ℕ) (h : n < 2 ^ 31) : (BitVec.ofNat 32 n).toInt = n := by
  rw [BitVec.toInt_eq_toNat_cond, BitVec.toNat_ofNat]
  have : n % 2 ^ 32 = n := Nat.mod_eq_of_lt (by omega)
  rw [this, if_pos (by omega)]

end Cert.Experts

end
-- ==== Proof.ExpertsValue.lean ====
/-
  The experts' kernel read at an index: a point of the grid in use leaves its tile's rows of the result, and any
  other point leaves zero.
-/
module

public import proofs.«01_k».proof.Proof.ExpertsRun
public import proofs.«01_k».proof.Proof.Experts

@[expose] public section
set_option maxRecDepth 16384
set_option Elab.async false

noncomputable section

namespace Cert.Experts

open Cert.Kernel2Ideal Cert.Kernel2Ideal.Gen
open Idealize.ShloMosaic Idealize.ShloMosaic.TcCoe Idealize.ShloMosaic.Tactic

theorem pay4_at (r : Fin 512) (o : Fin 1024) : k0_pay4 (F := Ideal) (ix2 r o) = 0 := by
  pointwise [k0_pay4]

theorem pay3_at (A : FVec Ideal S512x1024 .bf16) (M : Vec Ideal S1024x1024 .bf16) (B : Vec Ideal S1x1x1x1024 .f32) (r : Fin 512) (o : Fin 1024) :
    k0_pay3 (F := Ideal) A M B (ix2 r o) = (∑ f : Fin 1024, A (ix2 r f) * M (ix2 f o)) + B (ix4 0 0 0 o) := by
  pointwise [k0_pay3]

theorem pay5_at (n : Elt Ideal .i32) (X : Vec Ideal S512x1024 .f32) (M : Vec Ideal S1024x2048 .bf16) (B : Vec Ideal S1x1x1x2048 .f32)
    (H : Fin 2048 → EReal) (r : Fin 512) (f : Fin 1024)
    (hH : ∀ f, H f = (∑ k : Fin 1024, (if (r.val : ℤ) < (n : BitVec 32).toInt then X (ix2 r k) else 0) * M (ix2 k f)) + B (ix4 0 0 0 f)) :
    k0_pay5 (F := Ideal) n X M B (ix2 r f) = act (H (gateCol f)) (H (linCol f)) := by
  pointwise [k0_pay5]
  simp only [select_mul, small_word r.val (by omega), zero_sub]
  rw [hH, hH]
  rfl

/-! ## The blocks -/

variable (m : (ℓ : Loc nD τ sig) → Buf (Elt Ideal) ℓ) (ρ : Dev nD → PrngReg) (h : InRange m)

/-- The argument arrays. -/
abbrev argx (c : Dev nD) : FVec Ideal SX .f32 := m ((c : Thread nD τ).loc main_arg0)
abbrev argw (c : Dev nD) : FVec Ideal SW .f32 := m ((c : Thread nD τ).loc main_arg4)
abbrev argb (c : Dev nD) : FVec Ideal SB .f32 := m ((c : Thread nD τ).loc main_arg5)
abbrev argv (c : Dev nD) : FVec Ideal SV .f32 := m ((c : Thread nD τ).loc main_arg6)
abbrev argd (c : Dev nD) : FVec Ideal SC .f32 := m ((c : Thread nD τ).loc main_arg7)

theorem off_tile (i : grid0.Coords) : cc0_transform_0 i = ![(i 0).val, 0] := by
  funext a; fin_cases a
  · show (BitVec.ofNat 32 (i 0).val).toNat = (i 0).val
    have : (i 0).val < 164 := (i 0).isLt
    rw [BitVec.toNat_ofNat]; omega
  · rfl

theorem b0_at (c : Dev nD) (t : Fin (cfgA m h).N) (r : Fin 512) (k : Fin 1024) :
    b0 m ρ h c t (ix2 r k) = argx m c (ix2 (rowOf (tile m h t) r) k) := by
  have e : ((cfgA m h).win (0 : Fin 6)).index t = ![(tile m h t).val, 0] := off_tile (crd m h t)
  blk_point [iblk, e]

theorem b2_at (c : Dev nD) (t : Fin (cfgA m h).N) (f : Fin 2048) :
    b2 m ρ h c t (ix4 0 0 0 f) = argb m c (ix4 0 (expert m h t) 0 f) := by
  have e : ((cfgA m h).win (2 : Fin 6)).index t = ![0, (tE m (ix1 (tile m h t)) : BitVec 32).toNat, 0, 0] := transform2_eq (pf m) (crd m h t)
  blk_point [iblk, expert, e]

theorem b4_at (c : Dev nD) (t : Fin (cfgA m h).N) (f : Fin 1024) :
    b4 m ρ h c t (ix4 0 0 0 f) = argd m c (ix4 0 (expert m h t) 0 f) := by
  have e : ((cfgA m h).win (4 : Fin 6)).index t = ![0, (tE m (ix1 (tile m h t)) : BitVec 32).toNat, 0, 0] := transform4_eq (pf m) (crd m h t)
  blk_point [iblk, expert, e]

theorem castU_at (c : Dev nD) (t : Fin (cfgA m h).N) (k : Fin 1024) (f : Fin 2048) :
    castU (b1 m ρ h c t) (ix2 k f) = argw m c (ix4 0 (expert m h t) k f) := by
  rw [b1_eq]; rfl

theorem castD_at (c : Dev nD) (t : Fin (cfgA m h).N) (k : Fin 1024) (f : Fin 1024) :
    castD (b3 m ρ h c t) (ix2 k f) = argv m c (ix4 0 (expert m h t) k f) := by
  rw [b3_eq]; rfl

/-- What a point leaves is its tile's rows of the result. -/
theorem leaves_at (c : Dev nD) (t : Fin (cfgA m h).N) (r : Fin 512) (o : Fin 1024) :
    leaves m ρ h c t (ix2 r o) = tileRow (argx m c) (tV m) (tU m) (argw m c) (argb m c) (argv m c) (argd m c)
      (fun j => ⟨(tE m (ix1 j) : BitVec 32).toNat, h j⟩) (tile m h t) r o := by
  have hu : used m h t ↔ ((tile m h t).val : ℤ) < (tU m (ix1 0) : BitVec 32).toInt := by rw [tile_val]; rfl
  unfold leaves tileRow
  by_cases hc : used m h t
  · rw [if_pos hc, if_pos (hu.1 hc)]
    unfold tileOut second
    rw [pay3_at, b4_at]
    refine congrArg (· + _) (Finset.sum_congr rfl fun f _ => ?_)
    rw [castD_at, pay5_at (H := hid (argx m c) (tV m) (argw m c) (argb m c) (expert m h t) (tile m h t) r)]
    · rfl
    · intro f
      unfold hid token
      simp only [b0_at, castU_at, b2_at]
  · rw [if_neg hc, if_neg (mt hu.2 hc), pay4_at]

theorem emb_at (t : Fin (cfgA m h).N) (r : Fin 512) (o : Fin 1024) (G : FVec Ideal SX .f32) :
    G ((((cfgA m h).win (5 : Fin 6)).blk t).view.emb (ix2 r o)) = G (ix2 (rowOf (tile m h t) r) o) := by
  have e : ((cfgA m h).win (5 : Fin 6)).index t = ![(tile m h t).val, 0] := off_tile (crd m h t)
  blk_point [e]

theorem index5 (t : Fin (cfgA m h).N) : ((cfgA m h).win (5 : Fin 6)).index t = ![t.val, 0] := by
  have e : ((cfgA m h).win (5 : Fin 6)).index t = ![(tile m h t).val, 0] := off_tile (crd m h t)
  rw [e, tile_val]

/-- Every point writes its block back. -/
theorem flush5 (t : Fin (cfgA m h).N) : ((cfgA m h).win (5 : Fin 6)).flush t = true := by
  refine (Pipeline.Window.flush_out _ rfl t).2 ?_
  by_cases hl : t.val + 1 = (cfgA m h).N
  · exact .inl hl
  · have ht := t.isLt
    have hl' : t.val + 1 < (cfgA m h).grid.N := Nat.lt_of_le_of_ne ht hl
    refine .inr ⟨hl', fun e => ?_⟩
    rw [index5, index5] at e
    have := congrFun e 0
    simp at this

/-- Every element of the output lies in some point's block. -/
theorem cover5 (i : SX.Idx) : ∃ t : Fin (cfgA m h).N,
    ((cfgA m h).win (5 : Fin 6)).flush t = true ∧ i ∈ (((cfgA m h).win (5 : Fin 6)).blk t).view.set := by
  have h0 : (i 0).val < 83968 := (i 0).isLt
  have h1 : (i 1).val < 1024 := (i 1).isLt
  have hN : (cfgA m h).N = 164 := by show grid0.N = 164; decide +kernel
  refine ⟨⟨(i 0).val / 512, by omega⟩, flush5 m h _, ?_⟩
  refine (((cfgA m h).win (5 : Fin 6)).emb_mem_blk_iff _ i).2 fun a => ?_
  rw [index5]
  match a with
  | ⟨0, _⟩ =>
    show (i 0).val / 512 * 512 ≤ (i 0).val ∧ (i 0).val < (i 0).val / 512 * 512 + 512
    omega
  | ⟨1, _⟩ =>
    show 0 * 1024 ≤ (i 1).val ∧ (i 1).val < 0 * 1024 + 1024
    omega

/-- THE RESULT of the launch. -/
theorem final (c : Dev nD) : (dats m ρ h 0 c).arrAt (5 : Fin 6) (cfgA m h).N
    = result (argx m c) (tV m) (tU m) (argw m c) (argb m c) (argv m c) (argd m c) (fun j => ⟨(tE m (ix1 j) : BitVec 32).toNat, h j⟩) := by
  refine (dats m ρ h 0 c).arrAt_eq_of_emb (5 : Fin 6) _ (fun t _ y => ?_) (cover5 m h)
  · obtain ⟨r, o, rfl⟩ : ∃ (r : Fin 512) (o : Fin 1024), y = ix2 r o := ⟨y 0, y 1, eq_ix2 y⟩
    refine Eq.trans ?_ ((emb_at m h t r o _).trans (result_at _ _ _ _ _ _ _ _ _ _ _)).symm
    exact leaves_at m ρ h c t r o

end Cert.Experts

end
-- ==== Proof.ExpertsReference.lean ====
/-
  The reference of the experts' call read at an index: it gathers each tile's expert's matrices and biases, and
  computes from them what Proof/Experts.lean says.
-/
module

public import proofs.«01_k».proof.Proof.Gen.Reference2Ideal.Run
public import proofs.«01_k».proof.Proof.Experts
public import Idealize.ShloMosaic.Lib.ValueIdxCore

@[expose] public section
set_option maxRecDepth 16384

noncomputable section

namespace Cert.Reference2Ideal.Value

open Cert.Reference2Ideal Cert.Reference2Ideal.Gen Idealize.ShloMosaic Idealize.ShloMosaic.TcCoe

/-! ## The parts of the result -/

variable (x : FVec Ideal S83968x1024 .f32) (te tv : IVec S164 32) (nu : IVec S1 32)
  (w : FVec Ideal S2x32x1024x2048 .f32) (b : FVec Ideal S2x32x1x2048 .f32)
  (v : FVec Ideal S2x32x1024x1024 .f32) (d : FVec Ideal S2x32x1x1024 .f32)

/-- The experts' numbers, as the gathers take them. -/
def nums : IVec S164x1 32 :=
  broadcastInDim S164x1 ![0] bcast_S164_S164x1_0 (select (cmpi .slt te (broadcastInDim S164 ![] bcast_S_S164 (constantI S_ 32 0#32))) (addi te (broadcastInDim S164 ![] bcast_S_S164 (constantI S_ 32 32#32))) te)

/-- The tokens tile by tile, zero past a tile's number. -/
def toks : FVec Ideal S164x512x1024 .f32 :=
  select (broadcastInDim S164x512x1024 ![0, 1, 2] bcast_S164x512x1_S164x512x1024_0_1_2 (cmpi .slt (broadcastInDim S164x512x1 ![0, 1, 2] bcast_S1x512x1_S164x512x1_0_1_2 (broadcastInDim S1x512x1 ![1] bcast_S512_S1x512x1_1 (iotaInDim S512 32 0))) (broadcastInDim S164x512x1 ![0, 1, 2] bcast_S164x1x1_S164x512x1_0_1_2 (broadcastInDim S164x1x1 ![0] bcast_S164_S164x1x1_0 tv)))) (shapeCast _ x shapeCasts_S83968x1024_S164x512x1024) (broadcastInDim S164x512x1024 ![] bcast_S_S164x512x1024 (id (constant S_ .f32 0x00000000#32)))

/-- The gathered matrices and biases. -/
def matG (n : IVec S164x1 32) : FVec Ideal S164x1024x2048 .f32 :=
  Host.gather gather_S32x1024x2048_S164x1_S164x1024x2048_12_0_n_n_0_1_110242048 (shapeCast _ (extractStridedSlice S1x32x1024x2048 ![0, 0, 0, 0] w slices_S2x32x1024x2048_S1x32x1024x2048_0_0_0_0) shapeCasts_S1x32x1024x2048_S32x1024x2048) n
def biasG (n : IVec S164x1 32) : FVec Ideal S164x2048 .f32 :=
  Host.gather gather_S32x2048_S164x1_S164x2048_1_0_n_n_0_1_12048 (shapeCast _ (extractStridedSlice S1x32x1x2048 ![0, 0, 0, 0] b slices_S2x32x1x2048_S1x32x1x2048_0_0_0_0) shapeCasts_S1x32x1x2048_S32x2048) n
def matH (n : IVec S164x1 32) : FVec Ideal S164x1024x1024 .f32 :=
  Host.gather gather_S32x1024x1024_S164x1_S164x1024x1024_12_0_n_n_0_1_110241024 (shapeCast _ (extractStridedSlice S1x32x1024x1024 ![0, 0, 0, 0] v slices_S2x32x1024x1024_S1x32x1024x1024_0_0_0_0) shapeCasts_S1x32x1024x1024_S32x1024x1024) n
def biasH (n : IVec S164x1 32) : FVec Ideal S164x1024 .f32 :=
  Host.gather gather_S32x1024_S164x1_S164x1024_1_0_n_n_0_1_11024 (shapeCast _ (extractStridedSlice S1x32x1x1024 ![0, 0, 0, 0] d slices_S2x32x1x1024_S1x32x1x1024_0_0_0_0) shapeCasts_S1x32x1x1024_S32x1024) n

/-- The first product with its bias. -/
def prod1 (X : FVec Ideal S164x512x1024 .f32) (M : FVec Ideal S164x1024x2048 .f32) (B : FVec Ideal S164x2048 .f32) : FVec Ideal S164x512x2048 .f32 :=
  addf (Host.dotGeneral dot_S164x512x1024_S164x1024x2048_S164x512x2048_2_1_1_2_0_0 none X M) (broadcastInDim S164x512x2048 ![0, 1, 2] bcast_S164x1x2048_S164x512x2048_0_1_2 (broadcastInDim S164x1x2048 ![0, 2] bcast_S164x2048_S164x1x2048_0_2 B))

/-- The activations. -/
def acts (H : FVec Ideal S164x512x2048 .f32) : FVec Ideal S164x512x1024 .f32 :=
  mulf (mulf (addf (minimumf (broadcastInDim S164x512x1024 ![] bcast_S_S164x512x1024 (id (constant S_ .f32 0x40E00000#32))) (maximumf (broadcastInDim S164x512x1024 ![] bcast_S_S164x512x1024 (id (constant S_ .f32 0xC0E00000#32))) (extractStridedSlice S164x512x1024 ![0, 0, 1024] H slices_S164x512x2048_S164x512x1024_0_0_1024))) (broadcastInDim S164x512x1024 ![] bcast_S_S164x512x1024 (constant S_ .f32 0x3F800000#32))) (minimumf (extractStridedSlice S164x512x1024 ![0, 0, 0] H slices_S164x512x2048_S164x512x1024_0_0_0) (broadcastInDim S164x512x1024 ![] bcast_S_S164x512x1024 (constant S_ .f32 0x40E00000#32)))) (Host.divf (broadcastInDim S164x512x1024 ![] bcast_S_S164x512x1024 (constant S_ .f32 0x3F800000#32)) (addf (broadcastInDim S164x512x1024 ![] bcast_S_S164x512x1024 (constant S_ .f32 0x3F800000#32)) (Host.exp (Host.negf (mulf (broadcastInDim S164x512x1024 ![] bcast_S_S164x512x1024 (constant S_ .f32 0x3FD9DB23#32)) (minimumf (extractStridedSlice S164x512x1024 ![0, 0, 0] H slices_S164x512x2048_S164x512x1024_0_0_0) (broadcastInDim S164x512x1024 ![] bcast_S_S164x512x1024 (constant S_ .f32 0x40E00000#32))))))))

/-- The second product with its bias. -/
def prod2 (A : FVec Ideal S164x512x1024 .f32) (M : FVec Ideal S164x1024x1024 .f32) (B : FVec Ideal S164x1024 .f32) : FVec Ideal S164x512x1024 .f32 :=
  addf (Host.dotGeneral dot_S164x512x1024_S164x1024x1024_S164x512x1024_2_1_1_2_0_0 none A M) (broadcastInDim S164x512x1024 ![0, 1, 2] bcast_S164x1x1024_S164x512x1024_0_1_2 (broadcastInDim S164x1x1024 ![0, 2] bcast_S164x1024_S164x1x1024_0_2 B))

/-- The tiles in use, the others zero, row after row. -/
def kept (Y : FVec Ideal S164x512x1024 .f32) : FVec Ideal S83968x1024 .f32 :=
  shapeCast _ (select (broadcastInDim S164x512x1024 ![0, 1, 2] bcast_S164x1x1_S164x512x1024_0_1_2 (cmpi .slt (broadcastInDim S164x1x1 ![0] bcast_S164_S164x1x1_0 (iotaInDim S164 32 0)) (broadcastInDim S164x1x1 ![] bcast_S_S164x1x1 (shapeCast _ nu shapeCasts_S1_S_)))) Y (broadcastInDim S164x512x1024 ![] bcast_S_S164x512x1024 (id (constant S_ .f32 0x00000000#32)))) shapeCasts_S164x512x1024_S83968x1024

/-- The result. -/
def res : FVec Ideal S83968x1024 .f32 :=
  kept nu (prod2 (acts (prod1 (toks x tv) (matG w (nums te)) (biasG b (nums te)))) (matH v (nums te)) (biasH d (nums te)))

/-- The reference's composed term is these, one over another. -/
theorem res_eq (m : (ℓ : Loc nD τ sig) → Buf (Elt Ideal) ℓ) (c : Dev nD) : res_main_v75 (F := Ideal) m c
    = res (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) := by
  unfold res_main_v75 res kept prod2 acts prod1 toks matG biasG matH biasH nums
  rfl

/-! ## The gathers -/

/-- A gather of planes: entry `(j, p, q)` of the result is entry `(k, p, q)` of the operand, where `k` is the
    number the indices hold for `j`. -/
theorem plane {N A B R : ℕ} (hN : N ≤ 32)
    (wf : GatherDims.WF ⟨3, ![N, A, B]⟩ ⟨2, ![R, 1]⟩ ⟨3, ![R, A, B]⟩ [1, 2] [0] [] [0] [] 1 ![1, A, B])
    (X : (⟨3, ![N, A, B]⟩ : Shape).Idx → EReal) (n : IVec ⟨2, ![R, 1]⟩ 32) (j : Fin R) (p : Fin A) (q : Fin B)
    (k : Fin N) (hk : (n (ix2 j 0)).toInt = k.val) :
    Host.gather (⟨[1, 2], [0], [], [], [0], 1, ![1, A, B], wf⟩ : GatherDims ⟨3, ![N, A, B]⟩ ⟨2, ![R, 1]⟩ ⟨3, ![R, A, B]⟩) X n (ix3 j p q)
      = X (ix3 k p q) := by
  unfold Host.gather
  refine congrArg X (funext fun a => Fin.ext ?_)
  set D : GatherDims ⟨3, ![N, A, B]⟩ ⟨2, ![R, 1]⟩ ⟨3, ![R, A, B]⟩ := ⟨[1, 2], [0], [], [], [0], 1, ![1, A, B], wf⟩ with hD
  show D.start (ix3 j p q) n a + D.batchCoord (ix3 j p q) a + D.offCoord (ix3 j p q) a = _
  rw [D.batchCoord_eq_zero _ _ List.not_mem_nil, Nat.add_zero]
  match a with
  | ⟨0, _⟩ =>
    rw [D.offCoord_eq_zero _ ⟨0, _⟩ (fun h => ((D.mem_sKept _).1 h).1 (List.mem_singleton.2 rfl)), Nat.add_zero]
    show D.start (ix3 j p q) n (0 : Fin 3) = k.val
    unfold GatherDims.start
    rw [dif_pos (show (0 : Fin 3) ∈ D.startIndexMap from List.mem_singleton.2 rfl)]
    have hsi : D.siIdx (ix3 j p q) ⟨List.idxOf (0 : Fin 3) D.startIndexMap, List.idxOf_lt_length_iff.2 (List.mem_singleton.2 rfl)⟩ = ix2 j 0 := by
      funext e; refine Fin.ext ?_
      match e with
      | ⟨0, _⟩ => rfl
      | ⟨1, _⟩ => rfl
    rw [hsi, hk]
    show min ((k.val : ℤ)).toNat (N - 1) = k.val
    omega
  | ⟨1, _⟩ =>
    unfold GatherDims.start GatherDims.offCoord
    rw [dif_neg (fun h => absurd (List.mem_singleton.1 h) (by simp)), dif_pos ((D.mem_sKept _).2 ⟨fun h => absurd (List.mem_singleton.1 h) (by simp), List.not_mem_nil⟩), Nat.zero_add]
    rfl
  | ⟨2, _⟩ =>
    unfold GatherDims.start GatherDims.offCoord
    rw [dif_neg (fun h => absurd (List.mem_singleton.1 h) (by simp)), dif_pos ((D.mem_sKept _).2 ⟨fun h => absurd (List.mem_singleton.1 h) (by simp), List.not_mem_nil⟩), Nat.zero_add]
    rfl

/-- A gather of rows. -/
theorem row {N A R : ℕ} (hN : N ≤ 32)
    (wf : GatherDims.WF ⟨2, ![N, A]⟩ ⟨2, ![R, 1]⟩ ⟨2, ![R, A]⟩ [1] [0] [] [0] [] 1 ![1, A])
    (X : (⟨2, ![N, A]⟩ : Shape).Idx → EReal) (n : IVec ⟨2, ![R, 1]⟩ 32) (j : Fin R) (p : Fin A)
    (k : Fin N) (hk : (n (ix2 j 0)).toInt = k.val) :
    Host.gather (⟨[1], [0], [], [], [0], 1, ![1, A], wf⟩ : GatherDims ⟨2, ![N, A]⟩ ⟨2, ![R, 1]⟩ ⟨2, ![R, A]⟩) X n (ix2 j p)
      = X (ix2 k p) := by
  unfold Host.gather
  refine congrArg X (funext fun a => Fin.ext ?_)
  set D : GatherDims ⟨2, ![N, A]⟩ ⟨2, ![R, 1]⟩ ⟨2, ![R, A]⟩ := ⟨[1], [0], [], [], [0], 1, ![1, A], wf⟩ with hD
  show D.start (ix2 j p) n a + D.batchCoord (ix2 j p) a + D.offCoord (ix2 j p) a = _
  rw [D.batchCoord_eq_zero _ _ List.not_mem_nil, Nat.add_zero]
  match a with
  | ⟨0, _⟩ =>
    rw [D.offCoord_eq_zero _ ⟨0, _⟩ (fun h => ((D.mem_sKept _).1 h).1 (List.mem_singleton.2 rfl)), Nat.add_zero]
    show D.start (ix2 j p) n (0 : Fin 2) = k.val
    unfold GatherDims.start
    rw [dif_pos (show (0 : Fin 2) ∈ D.startIndexMap from List.mem_singleton.2 rfl)]
    have hsi : D.siIdx (ix2 j p) ⟨List.idxOf (0 : Fin 2) D.startIndexMap, List.idxOf_lt_length_iff.2 (List.mem_singleton.2 rfl)⟩ = ix2 j 0 := by
      funext e; refine Fin.ext ?_
      match e with
      | ⟨0, _⟩ => rfl
      | ⟨1, _⟩ => rfl
    rw [hsi, hk]
    show min ((k.val : ℤ)).toNat (N - 1) = k.val
    omega
  | ⟨1, _⟩ =>
    unfold GatherDims.start GatherDims.offCoord
    rw [dif_neg (fun h => absurd (List.mem_singleton.1 h) (by simp)), dif_pos ((D.mem_sKept _).2 ⟨fun h => absurd (List.mem_singleton.1 h) (by simp), List.not_mem_nil⟩), Nat.zero_add]
    rfl

/-! ## The parts at an index -/

open Cert.Experts

/-- An expert in range is its number as the gathers take it. -/
theorem nums_at (j : Fin 164) (h : (te (ix1 j)).toNat < 32) : (nums te (ix2 j 0)).toInt = (te (ix1 j)).toNat := by
  have e : (te (ix1 j)).toInt = (te (ix1 j)).toNat := by
    rw [BitVec.toInt_eq_toNat_cond, if_pos (by omega)]
  pointwise [nums]
  unfold Scalar.select
  rw [if_neg (fun hs => ?_), e]
  have := (slt_word _ _).1 hs
  rw [e] at this
  simp at this
  omega

variable (E : Fin 164 → Fin 32) (n : IVec S164x1 32) (hn : ∀ j, (n (ix2 j 0)).toInt = (E j).val)

include hn
theorem matG_at (j : Fin 164) (p : Fin 1024) (q : Fin 2048) : matG w n (ix3 j p q) = w (ix4 0 (E j) p q) := by
  unfold matG
  refine (plane (by decide) gather_S32x1024x2048_S164x1_S164x1024x2048_12_0_n_n_0_1_110242048_wf _ n j p q (E j) (hn j)).trans ?_
  pointwise
theorem biasG_at (j : Fin 164) (q : Fin 2048) : biasG b n (ix2 j q) = b (ix4 0 (E j) 0 q) := by
  unfold biasG
  refine (row (by decide) gather_S32x2048_S164x1_S164x2048_1_0_n_n_0_1_12048_wf _ n j q (E j) (hn j)).trans ?_
  pointwise
theorem matH_at (j : Fin 164) (p : Fin 1024) (q : Fin 1024) : matH v n (ix3 j p q) = v (ix4 0 (E j) p q) := by
  unfold matH
  refine (plane (by decide) gather_S32x1024x1024_S164x1_S164x1024x1024_12_0_n_n_0_1_110241024_wf _ n j p q (E j) (hn j)).trans ?_
  pointwise
theorem biasH_at (j : Fin 164) (q : Fin 1024) : biasH d n (ix2 j q) = d (ix4 0 (E j) 0 q) := by
  unfold biasH
  refine (row (by decide) gather_S32x1024_S164x1_S164x1024_1_0_n_n_0_1_11024_wf _ n j q (E j) (hn j)).trans ?_
  pointwise
omit hn

theorem toks_at (j : Fin 164) (r : Fin 512) (k : Fin 1024) : toks x tv (ix3 j r k) = token x tv j r k := by
  pointwise [toks]
  rw [select_word, small_word r.val (by omega)]
  exact if_congr Iff.rfl rfl bits_zero

theorem prod1_at (X : FVec Ideal S164x512x1024 .f32) (M : FVec Ideal S164x1024x2048 .f32) (B : FVec Ideal S164x2048 .f32)
    (j : Fin 164) (r : Fin 512) (f : Fin 2048) :
    prod1 X M B (ix3 j r f) = (∑ k : Fin 1024, X (ix3 j r k) * M (ix3 j k f)) + B (ix2 j f) := by
  pointwise [prod1]

theorem acts_at (H : FVec Ideal S164x512x2048 .f32) (j : Fin 164) (r : Fin 512) (f : Fin 1024) :
    acts H (ix3 j r f) = act (H (ix3 j r (gateCol f))) (H (ix3 j r (linCol f))) := by
  unfold act
  pointwise [acts]
  rfl

theorem prod2_at (A : FVec Ideal S164x512x1024 .f32) (M : FVec Ideal S164x1024x1024 .f32) (B : FVec Ideal S164x1024 .f32)
    (j : Fin 164) (r : Fin 512) (o : Fin 1024) :
    prod2 A M B (ix3 j r o) = (∑ f : Fin 1024, A (ix3 j r f) * M (ix3 j f o)) + B (ix2 j o) := by
  pointwise [prod2]

theorem kept_at (Y : FVec Ideal S164x512x1024 .f32) (j : Fin 164) (r : Fin 512) (o : Fin 1024) :
    kept nu Y (ix2 (rowOf j r) o) = if (j.val : ℤ) < (nu (ix1 0)).toInt then Y (ix3 j r o) else 0 := by
  have hj : (j.val * 512 + r.val) / 512 = j.val := by omega
  have hr : (j.val * 512 + r.val) % 512 = r.val := by omega
  pointwise [kept]
  rw [select_word, small_word _ (by omega)]
  simp only [hj, hr]
  exact if_congr Iff.rfl rfl bits_zero

/-- THE REFERENCE'S RESULT, where every tile's expert is one of the 32. -/
theorem res_result (h : ∀ j : Fin 164, (te (ix1 j)).toNat < 32) :
    res x te tv nu w b v d = result x tv nu w b v d fun j => ⟨(te (ix1 j)).toNat, h j⟩ := by
  have hn := fun j => nums_at te j (h j)
  funext y
  obtain ⟨a, o, rfl⟩ : ∃ (a : Fin 83968) (o : Fin 1024), y = ix2 a o := ⟨y 0, y 1, eq_ix2 y⟩
  obtain ⟨j, r, rfl⟩ : ∃ (j : Fin 164) (r : Fin 512), a = rowOf j r :=
    ⟨⟨a.val / 512, by omega⟩, ⟨a.val % 512, by omega⟩, Fin.ext (by show a.val = a.val / 512 * 512 + a.val % 512; omega)⟩
  rw [result_at]
  unfold res tileRow second hid
  rw [kept_at]
  refine if_congr Iff.rfl ?_ rfl
  simp only [prod2_at, acts_at, prod1_at, toks_at, matG_at w (fun j => ⟨(te (ix1 j)).toNat, h j⟩) _ hn, biasG_at b (fun j => ⟨(te (ix1 j)).toNat, h j⟩) _ hn,
    matH_at v (fun j => ⟨(te (ix1 j)).toNat, h j⟩) _ hn, biasH_at d (fun j => ⟨(te (ix1 j)).toNat, h j⟩) _ hn]

end Cert.Reference2Ideal.Value

end
-- ==== Proof.ExpertsClaims.lean ====
/-
  The value claim of the experts' call: from tiles that name experts in range, kernel and reference leave the
  same array, that of Proof/Experts.lean.
-/
module

public import proofs.«01_k».proof.Proof.ExpertsFrames
public import proofs.«01_k».proof.Proof.ExpertsValue
public import proofs.«01_k».proof.Proof.ExpertsReference
public import Idealize.ShloMosaic.Lib.Claim

@[expose] public section

noncomputable section

namespace Cert.Claims

open Idealize.ShloMosaic Idealize.ShloMosaic.TcCoe Idealize.SL.Sem

/-- THE VALUE CLAIM of the experts' call. -/
theorem algebraic2 : Cert.algebraic_Kernel2Ideal_Reference2Ideal := fun m g m' g' pre agree => by
  have h := pre_range_pi m pre
  refine ⟨fun c => (Cert.Experts.dats m g h 0 c).arrAt (5 : Fin 6) (Cert.Experts.cfgA m h).N, ?_, ?_⟩
  · exact (θ_run Cert.Kernel2Ideal.defs _ _).mono (fun r hr c => ⟨(hr.1 c).1 (5 : Fin 6), Cert.Experts.unchanged_of m g h r hr.1 c⟩)
      (Cert.Experts.run_main_quiescent (F := Ideal) m g h)
  · refine (θ_run Cert.Reference2Ideal.defs _ _).mono (fun r hr c => ?_) (Cert.Reference2Ideal.Value.run (F := Ideal) m' g')
    refine ⟨(hr c).1.trans ?_, (hr c).2⟩
    obtain ⟨e0, e1, e2, e3, e4, e5, e6, e7⟩ := agree c
    obtain rfl : c = Cert.Experts.dev := Subsingleton.elim (α := Fin 1) _ _
    rw [Cert.Reference2Ideal.Value.res_eq, e0, e1, e2, e3, e4, e5, e6, e7]
    exact (Cert.Reference2Ideal.Value.res_result _ _ _ _ _ _ _ _ h).trans (Cert.Experts.final m g h Cert.Experts.dev).symm

end Cert.Claims

end
-- ==== Proof.Input.lean ====
/-
  What both programs of the input projection compute, written once over the arrays: every token is normed,
  scaled and shifted by its segment's row of the modulation, and projected; the query, key and value columns
  are convolved with five taps along the tokens of their segment and pass a gated activation; the gate's
  columns are the projection itself.  The first 256 tokens are one segment, the other 8192 the other.
-/
module

public import Idealize.ShloMosaic.Lib.Pointwise

@[expose] public section
set_option maxRecDepth 16384

noncomputable section

namespace Cert.Input

open Idealize.ShloMosaic

/-- The arrays' shapes: tokens, modulation, gains, projection, taps and results. -/
abbrev SX : Shape := ⟨3, ![2, 8448, 1024]⟩
abbrev SM : Shape := ⟨2, ![8, 6144]⟩
abbrev SG : Shape := ⟨2, ![1, 1024]⟩
abbrev SW : Shape := ⟨2, ![1024, 2848]⟩
abbrev SC : Shape := ⟨2, ![8, 1536]⟩
abbrev SO : Shape := ⟨3, ![2, 8448, 512]⟩

variable (x : FVec Ideal SX .f32) (mo : FVec Ideal SM .f32) (g : FVec Ideal SG .f32) (w : FVec Ideal SW .f32)
  (cw : FVec Ideal SC .f32)

/-- The modulation's row of token `t` of batch `b`: the first 256 tokens share row 2. -/
def modRow (b : Fin 2) (t : Fin 8448) : Fin 8 := if t.val < 256 then 2 else ⟨b.val, by omega⟩

/-- The inverse of the root mean square of a row. -/
def rms (f : Fin 1024 → EReal) : EReal :=
  Ideal.rsqrt (Ideal.div (∑ k, f k * f k) (Ideal.ofBits .f32 0x44800000#32) + Ideal.ofBits .f32 0x358637BD#32)

/-- The normed and modulated token: row `f`, gains `g`, shifts `s` and scales `d`. -/
def normed (f g s d : Fin 1024 → EReal) (k : Fin 1024) : EReal := f k * rms f * g k * (1 + d k) + s k

/-- The projection of a token, column `c`. -/
def proj (b : Fin 2) (t : Fin 8448) (c : Fin 2848) : EReal :=
  ∑ k : Fin 1024, normed (fun k => x (ix3 b t k)) (fun k => g (ix2 0 k))
    (fun k => mo (ix2 (modRow b t) ⟨k.val, by omega⟩)) (fun k => mo (ix2 (modRow b t) ⟨1024 + k.val, by omega⟩)) k
      * w (ix2 k c)

/-- The kernel keeps the projection's columns in another order: column `c` of its order is column `src c`. -/
def src (c : Fin 2848) : Fin 2848 :=
  if h : c.val < 2048 then c else if h' : c.val < 2816 then ⟨c.val + 32, by omega⟩ else ⟨c.val - 768, by omega⟩

theorem src_val (c : Fin 2848) : (src c).val = if c.val < 2048 then c.val else if c.val < 2816 then c.val + 32 else c.val - 768 := by
  unfold src; split_ifs <;> rfl
theorem src_lt (c : Fin 2848) (h : c.val < 2048) : src c = c := by unfold src; rw [dif_pos h]

/-- Tap `j` of token `t` reads token `t + j - 2`, where that is a token of the same segment. -/
abbrev Near (t j : ℕ) : Prop := 2 ≤ t + j ∧ t + j - 2 < 8448 ∧ (t + j - 2 < 256 ↔ t < 256)

/-- What tap `j` reads, zero outside the segment. -/
def tap (b : Fin 2) (t : Fin 8448) (j : Fin 5) (c : Fin 1536) : EReal :=
  if h : Near t.val j.val then proj x mo g w b ⟨t.val + j.val - 2, h.2.1⟩ ⟨c.val, by omega⟩ else 0

/-- The convolution. -/
def conv (b : Fin 2) (t : Fin 8448) (c : Fin 1536) : EReal :=
  tap x mo g w b t 0 c * cw (ix2 0 c) + tap x mo g w b t 1 c * cw (ix2 1 c) + tap x mo g w b t 2 c * cw (ix2 2 c)
    + tap x mo g w b t 3 c * cw (ix2 3 c) + tap x mo g w b t 4 c * cw (ix2 4 c)

/-- The gated activation. -/
def silu (y : EReal) : EReal := y * Ideal.div 1 (1 + Ideal.exp (-y))

/-- The activated convolution. -/
def lane (b : Fin 2) (t : Fin 8448) (c : Fin 1536) : EReal := silu (conv x mo g w cw b t c)

/-- The two results without a norm: the value heads and the gate. -/
def resV : FVec Ideal SO .f32 := fun y =>
  lane x mo g w cw (y 0) (y 1) ⟨1024 + (y 2).val, by have : (y 2).val < 512 := (y 2).isLt; omega⟩
def resZ : FVec Ideal SO .f32 := fun y =>
  proj x mo g w (y 0) (y 1) ⟨1536 + (y 2).val, by have : (y 2).val < 512 := (y 2).isLt; omega⟩

/-- Lane `j` of the head of lane `c`. -/
def mate (c : Fin 1024) (j : Fin 64) : Fin 1536 := ⟨64 * (c.val / 64) + j.val, by omega⟩

/-- A lane over the root of the sum of its head's squares. -/
def unit (b : Fin 2) (t : Fin 8448) (c : Fin 1024) : EReal :=
  lane x mo g w cw b t ⟨c.val, by omega⟩ * Ideal.rsqrt ((∑ j : Fin 64, lane x mo g w cw b t (mate c j) * lane x mo g w cw b t (mate c j))
    + Ideal.ofBits .f32 0x358637BD#32)

/-- The two results with a norm: the queries, scaled by an eighth, and the keys. -/
def resQ : FVec Ideal SO .f32 := fun y =>
  unit x mo g w cw (y 0) (y 1) ⟨(y 2).val, by have : (y 2).val < 512 := (y 2).isLt; omega⟩ * Ideal.ofBits .f32 0x3E000000#32
def resK : FVec Ideal SO .f32 := fun y =>
  unit x mo g w cw (y 0) (y 1) ⟨512 + (y 2).val, by have : (y 2).val < 512 := (y 2).isLt; omega⟩

theorem resQ_at (b : Fin 2) (t : Fin 8448) (o : Fin 512) :
    resQ x mo g w cw (ix3 b t o) = unit x mo g w cw b t ⟨o.val, by omega⟩ * Ideal.ofBits .f32 0x3E000000#32 := rfl
theorem resK_at (b : Fin 2) (t : Fin 8448) (o : Fin 512) :
    resK x mo g w cw (ix3 b t o) = unit x mo g w cw b t ⟨512 + o.val, by omega⟩ := rfl
theorem resV_at (b : Fin 2) (t : Fin 8448) (o : Fin 512) :
    resV x mo g w cw (ix3 b t o) = lane x mo g w cw b t ⟨1024 + o.val, by omega⟩ := rfl
theorem resZ_at (b : Fin 2) (t : Fin 8448) (o : Fin 512) :
    resZ x mo g w (ix3 b t o) = proj x mo g w b t ⟨1536 + o.val, by omega⟩ := rfl

end Cert.Input

end
-- ==== Proof.InputFinite.lean ====
/-
  Where modulation, gains, projection and taps are reals, the query and key lanes are reals, whatever the tokens:
  a token with an infinite entry is normed to zeros.
-/
module

public import proofs.«01_k».proof.Proof.Input

@[expose] public section
set_option maxRecDepth 16384

noncomputable section

namespace Cert.Input

open Idealize.ShloMosaic

/-- A real among the extended reals. -/
def IsReal (e : EReal) : Prop := ∃ a : ℝ, e = a

theorem IsReal.add {a b : EReal} (ha : IsReal a) (hb : IsReal b) : IsReal (a + b) := by
  obtain ⟨a, rfl⟩ := ha; obtain ⟨b, rfl⟩ := hb; exact ⟨a + b, (EReal.coe_add a b).symm⟩
theorem IsReal.mul {a b : EReal} (ha : IsReal a) (hb : IsReal b) : IsReal (a * b) := by
  obtain ⟨a, rfl⟩ := ha; obtain ⟨b, rfl⟩ := hb; exact ⟨a * b, (EReal.coe_mul a b).symm⟩
theorem isReal_zero : IsReal 0 := ⟨0, rfl⟩
theorem isReal_sum {n : ℕ} {f : Fin n → EReal} (h : ∀ k, IsReal (f k)) : IsReal (∑ k, f k) :=
  Finset.sum_induction f IsReal (fun _ _ => IsReal.add) isReal_zero fun k _ => h k

/-- The two constants of the norm are positive reals. -/
theorem bits_eps : ∃ e : ℝ, 0 < e ∧ Ideal.ofBits .f32 0x358637BD#32 = e := by
  refine ⟨8796093 * 2 ^ (-43 : ℤ), by positivity, ?_⟩
  simp only [Ideal.ofBits, Ideal.ieee]; norm_num [Nat.shiftRight_eq_div_pow]; decide
theorem bits_width : Ideal.ofBits .f32 0x44800000#32 = ((1024 : ℝ) : EReal) := by
  simp only [Ideal.ofBits, Ideal.ieee]; norm_num [Nat.shiftRight_eq_div_pow]; decide

theorem square_nonneg (a : EReal) : 0 ≤ a * a := by
  induction a using EReal.rec with
  | bot => simp
  | coe a => rw [← EReal.coe_mul]; exact_mod_cast mul_self_nonneg a
  | top => simp

/-- A normed entry is a real. -/
theorem isReal_norm (f : Fin 1024 → EReal) (k : Fin 1024) : IsReal (f k * rms f) := by
  obtain ⟨e, he, hb⟩ := bits_eps
  unfold rms
  rw [hb, bits_width]
  by_cases h : ∃ j, f j * f j = ⊤
  · obtain ⟨j, hj⟩ := h
    have hs : ∑ k, f k * f k = ⊤ := top_le_iff.1 (hj ▸ Finset.single_le_sum (f := fun k => f k * f k) (fun k _ => square_nonneg (f k)) (Finset.mem_univ j))
    rw [hs]
    have hd : Ideal.div ⊤ ((1024 : ℝ) : EReal) = ⊤ := by
      unfold Ideal.div
      rw [if_neg (by exact_mod_cast (by norm_num : (1024 : ℝ) ≠ 0)), ← EReal.coe_inv]
      exact EReal.top_mul_coe_of_pos (by norm_num)
    rw [hd, EReal.top_add_coe, Ideal.rsqrt_top, mul_zero]
    exact isReal_zero
  · have hr : ∀ k, IsReal (f k) := by
      intro k
      induction hk : f k using EReal.rec with
      | bot => exact absurd ⟨k, by rw [hk]; rfl⟩ h
      | coe a => exact ⟨a, rfl⟩
      | top => exact absurd ⟨k, by rw [hk]; rfl⟩ h
    obtain ⟨s, hs⟩ := isReal_sum fun k => (hr k).mul (hr k)
    have hp : (0 : ℝ) ≤ s := by
      have : (0 : EReal) ≤ (s : EReal) := hs ▸ Finset.sum_nonneg fun k _ => square_nonneg (f k)
      exact_mod_cast this
    refine (hr k).mul ?_
    rw [hs]
    have hd : Ideal.div (s : EReal) ((1024 : ℝ) : EReal) = ((s * 1024⁻¹ : ℝ) : EReal) := by
      unfold Ideal.div
      rw [if_neg (by exact_mod_cast (by norm_num : (1024 : ℝ) ≠ 0)), ← EReal.coe_inv, ← EReal.coe_mul]
    have hq : 0 < s * 1024⁻¹ + e := by positivity
    rw [hd, ← EReal.coe_add, Ideal.rsqrt_coe, if_neg (not_lt.2 hq.le), if_neg hq.ne']
    exact ⟨_, rfl⟩

/-- The gated activation of a real is one. -/
theorem isReal_silu {y : EReal} (h : IsReal y) : IsReal (silu y) := by
  obtain ⟨a, rfl⟩ := h
  unfold silu
  refine IsReal.mul ⟨a, rfl⟩ ?_
  have hp : (0 : ℝ) < 1 + Real.exp (-a) := by positivity
  rw [← EReal.coe_neg, Ideal.exp_coe, show (1 : EReal) + (Real.exp (-a) : EReal) = ((1 + Real.exp (-a) : ℝ) : EReal) from
    (EReal.coe_add 1 _).symm]
  unfold Ideal.div
  rw [if_neg (by exact_mod_cast hp.ne'), ← EReal.coe_inv, one_mul]
  exact ⟨_, rfl⟩

variable (x : FVec Ideal SX .f32) (mo : FVec Ideal SM .f32) (g : FVec Ideal SG .f32) (w : FVec Ideal SW .f32)
  (cw : FVec Ideal SC .f32)

/-- The parameters are reals where the query and key lanes read them. -/
structure Finite : Prop where
  mod : ∀ (r : Fin 3) (k : Fin 2048), IsReal (mo (ix2 ⟨r.val, by omega⟩ ⟨k.val, by omega⟩))
  gain : ∀ k : Fin 1024, IsReal (g (ix2 0 k))
  col : ∀ (k c : Fin 1024), IsReal (w (ix2 k ⟨c.val, by omega⟩))
  tap : ∀ (j : Fin 5) (c : Fin 1024), IsReal (cw (ix2 ⟨j.val, by omega⟩ ⟨c.val, by omega⟩))

variable {mo g w cw}

theorem Finite.row (H : Finite mo g w cw) (b : Fin 2) (t : Fin 8448) (k : Fin 6144) (hk : k.val < 2048) : IsReal (mo (ix2 (modRow b t) k)) := by
  unfold modRow
  split
  · exact H.mod 2 ⟨k.val, hk⟩
  · exact H.mod ⟨b.val, by omega⟩ ⟨k.val, hk⟩

theorem isReal_proj (H : Finite mo g w cw) (b : Fin 2) (t : Fin 8448) (c : Fin 2848) (hc : c.val < 1024) : IsReal (proj x mo g w b t c) := by
  unfold proj normed
  refine isReal_sum fun k => IsReal.mul (IsReal.add (IsReal.mul (IsReal.mul (isReal_norm (fun k => x (ix3 b t k)) k) (H.gain k)) (IsReal.add ⟨1, rfl⟩ ?_)) ?_) (H.col k ⟨c.val, hc⟩)
  · exact H.row b t _ (by simp only; omega)
  · exact H.row b t _ (by simp only; omega)

theorem isReal_tap (H : Finite mo g w cw) (b : Fin 2) (t : Fin 8448) (j : Fin 5) (c : Fin 1536) (hc : c.val < 1024) : IsReal (tap x mo g w b t j c) := by
  unfold tap
  split
  · exact isReal_proj x H _ _ _ hc
  · exact isReal_zero

/-- The query and key lanes are reals. -/
theorem isReal_lane (H : Finite mo g w cw) (b : Fin 2) (t : Fin 8448) (c : Fin 1536) (hc : c.val < 1024) : IsReal (lane x mo g w cw b t c) := by
  unfold lane conv
  exact isReal_silu ((((((isReal_tap x H b t 0 c hc).mul (H.tap 0 ⟨c.val, hc⟩)).add ((isReal_tap x H b t 1 c hc).mul (H.tap 1 ⟨c.val, hc⟩))).add
    ((isReal_tap x H b t 2 c hc).mul (H.tap 2 ⟨c.val, hc⟩))).add ((isReal_tap x H b t 3 c hc).mul (H.tap 3 ⟨c.val, hc⟩))).add
    ((isReal_tap x H b t 4 c hc).mul (H.tap 4 ⟨c.val, hc⟩)))

/-- A sum over 512 lanes weighted by whether they are of lane `o`'s head is the sum over that head. -/
theorem sum_head (f : Fin 512 → EReal) (o : Fin 512) :
    ∑ k : Fin 512, f k * (if k.val / 64 = o.val / 64 then (1 : EReal) else 0) = ∑ j : Fin 64, f ⟨64 * (o.val / 64) + j.val, by omega⟩ := by
  simp only [mul_ite, mul_one, mul_zero]
  rw [← Finset.sum_filter]
  refine Finset.sum_nbij' (fun k => ⟨k.val % 64, by omega⟩) (fun j => ⟨64 * (o.val / 64) + j.val, by omega⟩) ?_ ?_ ?_ ?_ ?_
  · intro k _; exact Finset.mem_univ _
  · intro j _; simp only [Finset.mem_filter, Finset.mem_univ, true_and]; omega
  · intro k hk; simp only [Finset.mem_filter, Finset.mem_univ, true_and] at hk; exact Fin.ext (by simp only; omega)
  · intro j _; exact Fin.ext (by simp only; omega)
  · intro k hk; simp only [Finset.mem_filter, Finset.mem_univ, true_and] at hk; exact congrArg f (Fin.ext (by simp only; omega))

/-- Nothing is left of a real without itself. -/
theorem sub_self_of_real {a : EReal} (h : IsReal a) : a - a = 0 := by
  obtain ⟨a, rfl⟩ := h
  rw [← EReal.coe_sub, sub_self]; rfl

/-- The head's sum of squares, taken twice: of the squares, and of what is left of them without themselves. -/
theorem head_sum {f : Fin 512 → EReal} (h : ∀ k, IsReal (f k)) (o : Fin 512) :
    (∑ k : Fin 512, f k * f k * (if k.val / 64 = o.val / 64 then (1 : EReal) else 0))
      + ∑ k : Fin 512, (f k * f k - f k * f k) * (if k.val / 64 = o.val / 64 then (1 : EReal) else 0)
      = ∑ j : Fin 64, f ⟨64 * (o.val / 64) + j.val, by omega⟩ * f ⟨64 * (o.val / 64) + j.val, by omega⟩ := by
  rw [sum_head (fun k => f k * f k) o]
  simp only [sub_self_of_real ((h _).mul (h _)), zero_mul, Finset.sum_const_zero, add_zero]

end Cert.Input

end
-- ==== Proof.InputBlock.lean ====
/-
  The input projection's body at one point: its 272 rows are the block's own 256 between eight before and eight
  after, and the stored blocks are the projection and the convolution of the block's own rows.
-/
module

public import proofs.«01_k».proof.Proof.Gen.Kernel3Ideal.Skeleton
public import proofs.«01_k».proof.Proof.Input
public import proofs.«01_k».proof.Proof.Experts
public import proofs.«01_k».proof.Proof.InputFinite
public import Idealize.ShloMosaic.Lib.ValueIdxCore

@[expose] public section
set_option maxRecDepth 16384

noncomputable section

namespace Cert.Kernel3Ideal.Block

open Cert.Kernel3Ideal Cert.Kernel3Ideal.Gen Cert.Input Idealize.ShloMosaic Idealize.ShloMosaic.TcCoe

/-- Row `R` of the 272. -/
def rows (xp : Vec Ideal S1x8x1024 .f32) (xo : Vec Ideal S1x256x1024 .f32) (xn : Vec Ideal S1x8x1024 .f32)
    (R : Fin 272) (k : Fin 1024) : EReal :=
  if h : R.val < 8 then xp (ix3 0 ⟨R.val, h⟩ k)
  else if h' : R.val < 264 then xo (ix3 0 ⟨R.val - 8, by omega⟩ k) else xn (ix3 0 ⟨R.val - 264, by omega⟩ k)

theorem pay3_at (xp : Vec Ideal S1x8x1024 .f32) (xo : Vec Ideal S1x256x1024 .f32) (xn : Vec Ideal S1x8x1024 .f32)
    (g : Vec Ideal S1x1024 .f32) (R : Fin 272) (k : Fin 1024) :
    k0_pay3 (F := Ideal) xp xo xn g (ix2 R k) = rows xp xo xn R k * rms (rows xp xo xn R) * g (ix2 0 k) := by
  have hR := R.isLt
  have e : ∀ k, (if h : R.val < 8 then xp (ix3 0 ⟨R.val, h⟩ k)
      else if h' : R.val - 8 < 256 then xo (ix3 0 ⟨R.val - 8, h'⟩ k) else xn (ix3 0 ⟨R.val - 8 - 256, by omega⟩ k))
      = rows xp xo xn R k := by
    intro k
    unfold rows
    split_ifs <;> first | rfl | omega
  unfold rms
  pointwise [k0_pay3]
  simp only [e]

theorem first_word : ∀ i : Fin 33, Scalar.cmpi .slt (Scalar.muli (BitVec.ofNat 32 i.val) 256#32) 256#32
    = if i.val = 0 then 1#1 else 0#1 := by decide +kernel

theorem pay4_at (i : grid0.Coords) (a b : Vec Ideal S1x1024 .f32) (k : Fin 1024) :
    k0_pay4 (F := Ideal) i a b (ix2 0 k) = if (i 1).val = 0 then b (ix2 0 k) else a (ix2 0 k) := by
  unfold k0_pay4
  simp only [first_word (i 1)]
  unfold Scalar.select
  by_cases h : (i 1).val = 0 <;> simp [h]

theorem pay5_at (i : grid0.Coords) (a b : Vec Ideal S1x1024 .f32) (R : Fin 272) (k : Fin 1024) :
    k0_pay5 (F := Ideal) i a b (ix2 R k) = 1 + if (i 1).val = 0 then b (ix2 0 k) else a (ix2 0 k) := by
  pointwise [k0_pay5]
  rw [first_word (i 1)]
  unfold Scalar.select
  by_cases h : (i 1).val = 0 <;> simp [h]

theorem pay6_at (n : FVec Ideal S272x1024 .f32) (s : Vec Ideal S1x1024 .f32) (d : FVec Ideal S272x1024 .f32)
    (w : Vec Ideal S1024x2944 .bf16) (R : Fin 272) (c : Fin 2944) :
    k0_pay6 (F := Ideal) n s d w (ix2 R c) = ∑ k : Fin 1024, (n (ix2 R k) * d (ix2 R k) + s (ix2 0 k)) * w (ix2 k c) := by
  pointwise [k0_pay6]

theorem pay7_at (n : FVec Ideal S272x1024 .f32) (s : Vec Ideal S1x1024 .f32) (d : FVec Ideal S272x1024 .f32)
    (w : Vec Ideal S1024x2944 .bf16) (r : Fin 256) (o : Fin 512) :
    k0_pay7 (F := Ideal) n s d w (ix3 0 r o)
      = k0_pay6 (F := Ideal) n s d w (ix2 ⟨8 + r.val, by omega⟩ ⟨1536 + o.val, by omega⟩) := by
  pointwise [k0_pay7]

/-- The halo's conditions. -/
abbrev lo (i : Fin 33) : Prop := i.val = 0 ∨ i.val = 1
abbrev hi (i : Fin 33) : Prop := i.val = 0 ∨ i.val = 32

theorem lo_word : ∀ i : Fin 33, Scalar.ori (Scalar.cmpi .eq (Scalar.muli (BitVec.ofNat 32 i.val) 256#32) 0#32)
    (Scalar.cmpi .eq (Scalar.muli (BitVec.ofNat 32 i.val) 256#32) 256#32) = if lo i then 1#1 else 0#1 := by
  decide +kernel
theorem hi_word : ∀ i : Fin 33, Scalar.ori (Scalar.cmpi .eq (Scalar.addi (Scalar.muli (BitVec.ofNat 32 i.val) 256#32) 256#32) 256#32)
    (Scalar.cmpi .eq (Scalar.addi (Scalar.muli (BitVec.ofNat 32 i.val) 256#32) 256#32) 8448#32) = if hi i then 1#1 else 0#1 := by
  decide +kernel

theorem pay8_at (i : Fin 33) (n : FVec Ideal S272x1024 .f32) (s : Vec Ideal S1x1024 .f32) (d : FVec Ideal S272x1024 .f32)
    (w : Vec Ideal S1024x2944 .bf16) (R : Fin 272) (c : Fin 1536) :
    k0_pay8 (F := Ideal) (Scalar.muli (BitVec.ofNat 32 i.val) 256#32)
        (Scalar.addi (Scalar.muli (BitVec.ofNat 32 i.val) 256#32) 256#32) n s d w (ix2 R c)
      = if (R.val < 8 ∧ lo i) ∨ (264 ≤ R.val ∧ hi i) then 0
        else k0_pay6 (F := Ideal) n s d w (ix2 R ⟨c.val, by omega⟩) := by
  unfold k0_pay8
  simp only [lo_word, hi_word]
  generalize k0_pay6 (F := Ideal) n s d w = P
  have hR := R.isLt
  pointwise
  unfold Scalar.select
  by_cases h : R.val < 8
  · by_cases hl : lo i
    · simp [h, hl]
    · simp [h, hl, show ¬ 264 ≤ R.val by omega]
  · by_cases h' : R.val - 8 < 256
    · simp only [h, h', dite_true, dite_false, false_and, false_or, show ¬ 264 ≤ R.val by omega, if_false]
      exact congrArg (fun q => P (ix2 q _)) (Fin.ext (by simp only; omega))
    · by_cases hh : hi i
      · simp [h, h', hh, show 264 ≤ R.val by omega]
      · simp only [h, h', hh, dite_false, false_and, and_false, or_false, if_false, show ¬ ((0 : BitVec 1) = 1#1) by decide]
        exact congrArg (fun q => P (ix2 q _)) (Fin.ext (by simp only; omega))

theorem act_at (v0 v1 : BitVec 32) (n : FVec Ideal S272x1024 .f32) (s : Vec Ideal S1x1024 .f32) (d : FVec Ideal S272x1024 .f32)
    (w : Vec Ideal S1024x2944 .bf16) (c0 c1 c2 c3 c4 : Vec Ideal S1x1536 .f32) (r : Fin 256) (c : Fin 1536)
    (P : FVec Ideal S272x1536 .f32) (hP : k0_pay8 (F := Ideal) v0 v1 n s d w = P) :
    k0_pay11 (F := Ideal) (k0_pay8 v0 v1 n s d w) (k0_pay9 v0 v1 n s d w c0 c1 c2) (k0_pay10 v0 v1 n s d w) c3 c4 (ix2 r c)
      = silu (P (ix2 ⟨6 + r.val, by omega⟩ c) * c0 (ix2 0 c) + P (ix2 ⟨7 + r.val, by omega⟩ c) * c1 (ix2 0 c)
        + P (ix2 ⟨8 + r.val, by omega⟩ c) * c2 (ix2 0 c) + P (ix2 ⟨9 + r.val, by omega⟩ c) * c3 (ix2 0 c)
        + P (ix2 ⟨10 + r.val, by omega⟩ c) * c4 (ix2 0 c)) := by
  unfold silu k0_pay11 k0_pay9 k0_pay10
  simp only [hP]
  pointwise
  rw [show ∀ y : EReal, 0 - y = -y from fun y => by rw [sub_eq_add_neg, zero_add]]

/-- The matrix of the lanes of one head. -/
abbrev Heads (B : Vec Ideal S512x512 .bf16) : Prop := ∀ k o : Fin 512, B (ix2 k o) = if k.val / 64 = o.val / 64 then (1 : EReal) else 0

theorem pay14_at (v0 : FVec Ideal S272x1536 .f32) (v1 v2 : FVec Ideal S256x1536 .f32) (v3 v4 : Vec Ideal S1x1536 .f32)
    (B : Vec Ideal S512x512 .bf16) (hB : Heads B) (A : FVec Ideal S256x1536 .f32) (hA : k0_pay11 (F := Ideal) v0 v1 v2 v3 v4 = A)
    (r : Fin 256) (o : Fin 512) (h : ∀ k : Fin 512, IsReal (A (ix2 r ⟨k.val, by omega⟩))) :
    k0_pay14 (F := Ideal) v0 v1 v2 v3 v4 B (ix3 0 r o)
      = A (ix2 r ⟨o.val, by omega⟩) * Ideal.rsqrt ((∑ j : Fin 64, A (ix2 r ⟨64 * (o.val / 64) + j.val, by omega⟩)
          * A (ix2 r ⟨64 * (o.val / 64) + j.val, by omega⟩)) + Ideal.ofBits .f32 0x358637BD#32) * Ideal.ofBits .f32 0x3E000000#32 := by
  rw [← head_sum h o]
  subst hA
  generalize hA : k0_pay11 (F := Ideal) v0 v1 v2 v3 v4 = A
  pointwise [k0_pay14, k0_pay12]
  simp only [hA, hB]
  done

theorem pay18_at (v0 : FVec Ideal S272x1536 .f32) (v1 v2 : FVec Ideal S256x1536 .f32) (v3 v4 : Vec Ideal S1x1536 .f32)
    (B : Vec Ideal S512x512 .bf16) (hB : Heads B) (A : FVec Ideal S256x1536 .f32) (hA : k0_pay11 (F := Ideal) v0 v1 v2 v3 v4 = A)
    (r : Fin 256) (o : Fin 512) (h : ∀ k : Fin 512, IsReal (A (ix2 r ⟨512 + k.val, by omega⟩))) :
    k0_pay18 (F := Ideal) (k0_pay12 B) (k0_pay13 v0 v1 v2 v3 v4) (k0_pay16 v0 v1 v2 v3 v4) (k0_pay17 v0 v1 v2 v3 v4)
        (constant S256x512 .f32 0x00000000#32) (ix3 0 r o)
      = A (ix2 r ⟨512 + o.val, by omega⟩) * Ideal.rsqrt ((∑ j : Fin 64, A (ix2 r ⟨512 + (64 * (o.val / 64) + j.val), by omega⟩)
          * A (ix2 r ⟨512 + (64 * (o.val / 64) + j.val), by omega⟩)) + Ideal.ofBits .f32 0x358637BD#32) := by
  rw [← head_sum h o]
  pointwise [k0_pay18, k0_pay17, k0_pay16, k0_pay15, k0_pay13, k0_pay12]
  simp only [hA, hB]
  done

theorem pay19_at (y : FVec Ideal S256x1536 .f32) (r : Fin 256) (o : Fin 512) :
    k0_pay19 (F := Ideal) y (ix3 0 r o) = y (ix2 r ⟨1024 + o.val, by omega⟩) := by
  pointwise [k0_pay19]

/-! ## What the stored blocks are, where the loads read the arrays -/

variable (x : FVec Ideal SX .f32) (mo : FVec Ideal SM .f32) (g : FVec Ideal SG .f32) (w : FVec Ideal SW .f32)
  (cw : FVec Ideal SC .f32)

/-- What the loads of a point read: block `i` of batch `b`, the eight rows before and after it, the gains, the
    modulation's rows and the columns of the projection. -/
structure Reads (b : Fin 2) (i : grid0.Coords) (xp : Vec Ideal S1x8x1024 .f32) (xo : Vec Ideal S1x256x1024 .f32)
    (xn : Vec Ideal S1x8x1024 .f32) (gb sA sB dA dB : Vec Ideal S1x1024 .f32) (W : Vec Ideal S1024x2944 .bf16) : Prop where
  row : ∀ (R : Fin 272) (k : Fin 1024) (h : 8 ≤ 256 * (i 1).val + R.val) (h' : 256 * (i 1).val + R.val - 8 < 8448),
    rows xp xo xn R k = x (ix3 b ⟨256 * (i 1).val + R.val - 8, h'⟩ k)
  gain : ∀ k, gb (ix2 0 k) = g (ix2 0 k)
  shift : ∀ k : Fin 1024, sA (ix2 0 k) = mo (ix2 ⟨b.val, by omega⟩ ⟨k.val, by omega⟩)
  shift' : ∀ k : Fin 1024, sB (ix2 0 k) = mo (ix2 2 ⟨k.val, by omega⟩)
  scale : ∀ k : Fin 1024, dA (ix2 0 k) = mo (ix2 ⟨b.val, by omega⟩ ⟨1024 + k.val, by omega⟩)
  scale' : ∀ k : Fin 1024, dB (ix2 0 k) = mo (ix2 2 ⟨1024 + k.val, by omega⟩)
  cols : ∀ (k : Fin 1024) (c : Fin 2944) (h : c.val < 2848), W (ix2 k c) = w (ix2 k (src ⟨c.val, h⟩))

variable {b : Fin 2} {i : grid0.Coords} {xp : Vec Ideal S1x8x1024 .f32} {xo : Vec Ideal S1x256x1024 .f32}
  {xn : Vec Ideal S1x8x1024 .f32} {gb sA sB dA dB : Vec Ideal S1x1024 .f32} {W : Vec Ideal S1024x2944 .bf16}

theorem proj_at (H : Reads x mo g w b i xp xo xn gb sA sB dA dB W) (R : Fin 272) (c : Fin 2944) (hc : c.val < 2848)
    (h : 8 ≤ 256 * (i 1).val + R.val) (h' : 256 * (i 1).val + R.val - 8 < 8448)
    (hs : 256 * (i 1).val + R.val - 8 < 256 ↔ (i 1).val = 0) :
    k0_pay6 (F := Ideal) (k0_pay3 xp xo xn gb) (k0_pay4 i sA sB) (k0_pay5 i dA dB) W (ix2 R c)
      = proj x mo g w b ⟨256 * (i 1).val + R.val - 8, h'⟩ (src ⟨c.val, hc⟩) := by
  rw [pay6_at]
  unfold proj normed
  refine Finset.sum_congr rfl fun k _ => ?_
  rw [pay3_at, pay4_at, pay5_at, H.cols k c hc, H.gain, H.shift, H.shift', H.scale, H.scale', H.row R k h h',
    show rows xp xo xn R = fun k => x (ix3 b ⟨256 * (i 1).val + R.val - 8, h'⟩ k) from funext fun k => H.row R k h h']
  unfold modRow
  by_cases h0 : (i 1).val = 0
  · simp only [if_pos h0, if_pos (hs.2 h0)]
  · simp only [if_neg h0, if_neg (fun e => h0 (hs.1 e))]

/-- THE GATE'S BLOCK. -/
theorem gate_block (H : Reads x mo g w b i xp xo xn gb sA sB dA dB W) (r : Fin 256) (o : Fin 512) (t : Fin 8448)
    (ht : t.val = 256 * (i 1).val + r.val) :
    k0_pay7 (F := Ideal) (k0_pay3 xp xo xn gb) (k0_pay4 i sA sB) (k0_pay5 i dA dB) W (ix3 0 r o)
      = resZ x mo g w (ix3 b t o) := by
  have ht' := t.isLt
  rw [pay7_at, proj_at x mo g w H _ _ (by simp only; omega) (by simp only; omega) (by simp only; omega) (by simp only; omega),
    resZ_at, src_lt _ (by simp only; omega)]
  exact congrArg (fun q => proj x mo g w b q _) (Fin.ext (by simp only; omega))

/-- What a tap reads off the block's masked rows. -/
theorem tap_at (H : Reads x mo g w b i xp xo xn gb sA sB dA dB W) (r : Fin 256) (j : Fin 5) (c : Fin 1536) (t : Fin 8448)
    (ht : t.val = 256 * (i 1).val + r.val) (R : Fin 272) (hR : R.val = 6 + j.val + r.val) :
    k0_pay8 (F := Ideal) (Scalar.muli (BitVec.ofNat 32 (i 1).val) 256#32)
        (Scalar.addi (Scalar.muli (BitVec.ofNat 32 (i 1).val) 256#32) 256#32)
        (k0_pay3 xp xo xn gb) (k0_pay4 i sA sB) (k0_pay5 i dA dB) W (ix2 R c)
      = tap x mo g w b t j c := by
  have ht' := t.isLt
  have hi' : (i 1).val < 33 := (i 1).isLt
  have hj := j.isLt
  have hr := r.isLt
  rw [pay8_at (i 1)]
  unfold tap
  by_cases hn : Near t.val j.val
  · obtain ⟨h1, h2, h3⟩ := id hn
    rw [dif_pos hn, if_neg (by unfold lo hi; omega),
      proj_at x mo g w H _ _ (by simp only; omega) (by omega) (by omega) (by omega),
      src_lt _ (by simp only; omega)]
    exact congrArg (fun q => proj x mo g w b q _) (Fin.ext (by simp only; omega))
  · rw [dif_neg hn, if_pos]
    unfold lo hi
    unfold Near at hn
    omega

/-- The activated convolution of the block's rows. -/
theorem lane_block (H : Reads x mo g w b i xp xo xn gb sA sB dA dB W) (c0 c1 c2 c3 c4 : Vec Ideal S1x1536 .f32)
    (h0 : ∀ c, c0 (ix2 0 c) = cw (ix2 0 c)) (h1 : ∀ c, c1 (ix2 0 c) = cw (ix2 1 c)) (h2 : ∀ c, c2 (ix2 0 c) = cw (ix2 2 c))
    (h3 : ∀ c, c3 (ix2 0 c) = cw (ix2 3 c)) (h4 : ∀ c, c4 (ix2 0 c) = cw (ix2 4 c))
    (r : Fin 256) (c : Fin 1536) (t : Fin 8448) (ht : t.val = 256 * (i 1).val + r.val) (v0 v1 : BitVec 32)
    (hv0 : v0 = Scalar.muli (BitVec.ofNat 32 (i 1).val) 256#32) (hv1 : v1 = Scalar.addi v0 256#32) :
    k0_pay11 (F := Ideal) (k0_pay8 v0 v1 (k0_pay3 xp xo xn gb) (k0_pay4 i sA sB) (k0_pay5 i dA dB) W)
        (k0_pay9 v0 v1 (k0_pay3 xp xo xn gb) (k0_pay4 i sA sB) (k0_pay5 i dA dB) W c0 c1 c2)
        (k0_pay10 v0 v1 (k0_pay3 xp xo xn gb) (k0_pay4 i sA sB) (k0_pay5 i dA dB) W) c3 c4 (ix2 r c)
      = lane x mo g w cw b t c := by
  subst hv1; subst hv0
  rw [act_at _ _ _ _ _ _ _ _ _ _ _ _ _ _ rfl]
  unfold lane conv
  rw [tap_at x mo g w H r 0 c t ht _ (by simp), tap_at x mo g w H r 1 c t ht _ (by simp), tap_at x mo g w H r 2 c t ht _ (by simp),
    tap_at x mo g w H r 3 c t ht _ (by simp), tap_at x mo g w H r 4 c t ht _ (by simp), h0, h1, h2, h3, h4]

/-- A stored row of queries and of keys, where the lanes are those of the row's token. -/
theorem query_block (H : Finite mo g w cw) (v0 : FVec Ideal S272x1536 .f32) (v1 v2 : FVec Ideal S256x1536 .f32)
    (v3 v4 : Vec Ideal S1x1536 .f32) (B : Vec Ideal S512x512 .bf16) (hB : Heads B) (b : Fin 2) (t : Fin 8448) (r : Fin 256)
    (hl : ∀ k : Fin 1536, k0_pay11 (F := Ideal) v0 v1 v2 v3 v4 (ix2 r k) = lane x mo g w cw b t k) (o : Fin 512) :
    k0_pay14 (F := Ideal) v0 v1 v2 v3 v4 B (ix3 0 r o) = resQ x mo g w cw (ix3 b t o) := by
  rw [pay14_at v0 v1 v2 v3 v4 B hB _ rfl r o (fun k => by rw [hl]; exact isReal_lane x H b t _ (by simp only; omega)), resQ_at]
  unfold unit mate
  simp only [hl]

theorem key_block (H : Finite mo g w cw) (v0 : FVec Ideal S272x1536 .f32) (v1 v2 : FVec Ideal S256x1536 .f32)
    (v3 v4 : Vec Ideal S1x1536 .f32) (B : Vec Ideal S512x512 .bf16) (hB : Heads B) (b : Fin 2) (t : Fin 8448) (r : Fin 256)
    (hl : ∀ k : Fin 1536, k0_pay11 (F := Ideal) v0 v1 v2 v3 v4 (ix2 r k) = lane x mo g w cw b t k) (o : Fin 512) :
    k0_pay18 (F := Ideal) (k0_pay12 B) (k0_pay13 v0 v1 v2 v3 v4) (k0_pay16 v0 v1 v2 v3 v4) (k0_pay17 v0 v1 v2 v3 v4)
        (constant S256x512 .f32 0x00000000#32) (ix3 0 r o) = resK x mo g w cw (ix3 b t o) := by
  rw [pay18_at v0 v1 v2 v3 v4 B hB _ rfl r o (fun k => by rw [hl]; exact isReal_lane x H b t _ (by simp only; omega)), resK_at]
  unfold unit mate
  have hd : 64 * ((512 + o.val) / 64) = 512 + 64 * (o.val / 64) := by omega
  simp only [hl, hd, Nat.add_assoc]

end Cert.Kernel3Ideal.Block

end
-- ==== Proof.InputValue.lean ====
/-
  The arrays the input projection leaves: the blocks of its operands at a grid point, and the stored blocks side by
  side as the results of the whole arguments.
-/
module

public import proofs.«01_k».proof.Proof.Gen.Kernel3Ideal.Value
public import proofs.«01_k».proof.Proof.InputBlock
public import Idealize.ShloMosaic.Lib.Pipeline.ValueKit
public import Idealize.ShloMosaic.Lib.Claim

@[expose] public section
set_option maxRecDepth 16384

noncomputable section

namespace Cert.Kernel3Ideal.Value

open Cert.Kernel3Ideal Cert.Kernel3Ideal.Gen Cert.Kernel3Ideal.Block Cert.Input
open Idealize.ShloMosaic Idealize.ShloMosaic.TcCoe Idealize.SL.Sem
open Idealize.ShloMosaic.Pipeline (Dat)

variable (m : (ℓ : Loc nD τ sig) → Buf (Elt Ideal) ℓ) (c : Dev nD)

/-- The arguments. -/
abbrev argx : FVec Ideal SX .f32 := m ((c : Thread nD τ).loc main_arg0)
abbrev argm : FVec Ideal SM .f32 := m ((c : Thread nD τ).loc main_arg1)
abbrev argg : FVec Ideal SG .f32 := m ((c : Thread nD τ).loc main_arg2)
abbrev argw : FVec Ideal SW .f32 := m ((c : Thread nD τ).loc main_arg3)
abbrev argc : FVec Ideal SC .f32 := m ((c : Thread nD τ).loc main_arg6)

/-- The windows' block numbers and the grid's coordinates, at each of the 66 points. -/
theorem idx_val : ∀ t : Fin cfg0.N, win0_0.index t = ![t.val / 33, t.val % 33, 0]
   ∧ win0_1.index t = ![t.val / 33, t.val % 33 * 32 - 1, 0] ∧ win0_2.index t = ![t.val / 33, min ((t.val % 33 + 1) * 32) 1055, 0]
   ∧ win0_3.index t = ![0, 0] ∧ win0_4.index t = ![0, 0] ∧ win0_5.index t = ![0, 0] ∧ win0_8.index t = ![0, 0]
   ∧ win0_12.index t = ![0, 0] ∧ win0_13.index t = ![t.val / 33, t.val % 33, 0] ∧ win0_14.index t = ![t.val / 33, t.val % 33, 0]
   ∧ win0_15.index t = ![t.val / 33, t.val % 33, 0] ∧ win0_20.index t = ![t.val / 33, t.val % 33, 0]
   ∧ (grid0.coords t 0).val = t.val / 33 ∧ (grid0.coords t 1).val = t.val % 33 ∧ t.val < 66 :=
  (by decide +kernel : ∀ t : Fin grid0.N, _)

theorem pt_lt (t : Fin cfg0.N) : t.val < 66 := (idx_val t).2.2.2.2.2.2.2.2.2.2.2.2.2.2
theorem coord0 (t : Fin cfg0.N) : (grid0.coords t 0).val = t.val / 33 := (idx_val t).2.2.2.2.2.2.2.2.2.2.2.2.1
theorem coord1 (t : Fin cfg0.N) : (grid0.coords t 1).val = t.val % 33 := (idx_val t).2.2.2.2.2.2.2.2.2.2.2.2.2.1

/-- The batch of a point. -/
def batch (t : Fin cfg0.N) : Fin 2 := ⟨t.val / 33, by have := pt_lt t; omega⟩

/-! ## The arrays the host prepares -/

/-- The projection's columns in the kernel's order, filled up with zeros. -/
def columns (w : FVec Ideal S1024x2848 .f32) : FVec Ideal S1024x2944 .bf16 :=
  truncf .bf16 (concatenate S1024x2944 1 [⟨S1024x512, extractStridedSlice S1024x512 ![0, 0] w slices_S1024x2848_S1024x512_0_0⟩, ⟨S1024x512, extractStridedSlice S1024x512 ![0, 512] w slices_S1024x2848_S1024x512_0_512⟩, ⟨S1024x512, extractStridedSlice S1024x512 ![0, 1024] w slices_S1024x2848_S1024x512_0_1024⟩, ⟨S1024x512, extractStridedSlice S1024x512 ![0, 1536] w slices_S1024x2848_S1024x512_0_1536⟩, ⟨S1024x512, extractStridedSlice S1024x512 ![0, 2080] w slices_S1024x2848_S1024x512_0_2080⟩, ⟨S1024x128, extractStridedSlice S1024x128 ![0, 2592] w slices_S1024x2848_S1024x128_0_2592⟩, ⟨S1024x128, extractStridedSlice S1024x128 ![0, 2720] w slices_S1024x2848_S1024x128_0_2720⟩, ⟨S1024x16, extractStridedSlice S1024x16 ![0, 2048] w slices_S1024x2848_S1024x16_0_2048⟩, ⟨S1024x16, extractStridedSlice S1024x16 ![0, 2064] w slices_S1024x2848_S1024x16_0_2064⟩, ⟨S1024x96, broadcastInDim S1024x96 ![] bcast_S_S1024x96 (constant S_ .f32 0x00000000#32)⟩] concatenates_S1024x512_S1024x512_S1024x512_S1024x512_S1024x512_S1024x128_S1024x128_S1024x16_S1024x16_S1024x96_S1024x2944_d1) bitsLt_bf16_f32

theorem w_eq : V m c main_v19 = columns (argw m c) := by
  unfold V
  simp only [hostOps0, hostOps0_1, hostOps0_2, List.flatten_cons, List.flatten_nil, List.append_nil,
    List.cons_append, List.nil_append]
  after_results
  rfl

/-- Each of the first 2848 columns is the projection's at `src`. -/
theorem columns_at (w : FVec Ideal S1024x2848 .f32) (k : Fin 1024) (o : Fin 2944) (h : o.val < 2848) :
    columns w (ix2 k o) = w (ix2 k (src ⟨o.val, h⟩)) := by
  have e := src_val ⟨o.val, h⟩
  generalize src ⟨o.val, h⟩ = q at e ⊢
  have e1 : o.val < 2048 → q.val = o.val := fun h => by rw [e, if_pos h]
  have e2 : ¬ o.val < 2048 → o.val < 2816 → q.val = o.val + 32 := fun h h' => by rw [e, if_neg h, if_pos h']
  have e3 : ¬ o.val < 2816 → q.val = o.val - 768 := fun h => by rw [e, if_neg (by simp only; omega), if_neg h]
  clear e
  pointwise [columns]
  split_ifs <;> first | omega | exact congrArg (fun q => w (ix2 k q)) (Fin.ext (by simp only; omega))

/-- The heads of the 512 lanes: the lane's number over 64, rounded down. -/
def headOf : IVec S512 32 :=
  select (andi (cmpi .ne (signi (iotaInDim S512 32 0)) (broadcastInDim S512 ![] bcast_S_S512 (signi (constantI S_ 32 64#32))))
      (cmpi .ne (Host.remsi (iotaInDim S512 32 0) (broadcastInDim S512 ![] bcast_S_S512 (constantI S_ 32 64#32)))
        (broadcastInDim S512 ![] bcast_S_S512 (constantI S_ 32 0#32))))
    (subi (Host.divsi (iotaInDim S512 32 0) (broadcastInDim S512 ![] bcast_S_S512 (constantI S_ 32 64#32)))
      (broadcastInDim S512 ![] bcast_S_S512 (constantI S_ 32 1#32)))
    (Host.divsi (iotaInDim S512 32 0) (broadcastInDim S512 ![] bcast_S_S512 (constantI S_ 32 64#32)))

/-- Which pairs of lanes are of one head, as ones and zeros. -/
def pairs (h : IVec S512 32) : FVec Ideal S512x512 .bf16 :=
  uitofp .bf16 (cmpi .eq (broadcastInDim S512x512 ![0, 1] bcast_S512x1_S512x512_0_1 (broadcastInDim S512x1 ![0] bcast_S512_S512x1_0 h))
    (broadcastInDim S512x512 ![0, 1] bcast_S1x512_S512x512_0_1 (broadcastInDim S1x512 ![1] bcast_S512_S1x512_1 h)))

theorem bd_eq : V m c main_v7 = pairs headOf := by
  unfold V
  simp only [hostOps0, hostOps0_1, hostOps0_2, List.flatten_cons, List.flatten_nil, List.append_nil,
    List.cons_append, List.nil_append]
  after_results
  rfl

theorem headOf_at : ∀ k : Fin 512, headOf (ix1 k) = BitVec.ofNat 32 (k.val / 64) := by decide +kernel

theorem bit_one : FloatOps.uitofp (F := Ideal) FTy.bf16 1#1 = (1 : EReal) := by
  show (((1#1).toNat : ℝ) : EReal) = 1
  simp
theorem bit_zero : FloatOps.uitofp (F := Ideal) FTy.bf16 0#1 = (0 : EReal) := by
  show (((0#1).toNat : ℝ) : EReal) = 0
  simp

theorem pairs_at (h : IVec S512 32) (k o : Fin 512) :
    pairs h (ix2 k o) = if h (ix1 k) = h (ix1 o) then (1 : EReal) else 0 := by
  pointwise [pairs]
  unfold IntOp.cmpi
  by_cases e : h (ix1 k) = h (ix1 o)
  · simp only [e, beq_self_eq_true, if_pos]
    exact bit_one
  · simp only [e, beq_eq_false_iff_ne.mpr e, if_false]
    exact bit_zero

/-- The array of ones and zeros holds a one where two lanes are of one head. -/
theorem heads : Heads (pairs headOf) := fun k o => by
  rw [pairs_at, headOf_at, headOf_at]
  have hk : k.val / 64 < 8 := by omega
  have ho : o.val / 64 < 8 := by omega
  by_cases h : k.val / 64 = o.val / 64
  · rw [h, if_pos rfl, if_pos rfl]
  · rw [if_neg h, if_neg]
    intro e
    have := congrArg BitVec.toNat e
    simp only [BitVec.toNat_ofNat] at this
    omega

/-! ## The blocks of a point -/

theorem blk_0 (t : Fin cfg0.N) (r : Fin 256) (k : Fin 1024) : iblk m c 0 t (ix3 0 r k)
    = argx m c (ix3 (batch t) ⟨256 * (t.val % 33) + r.val, by omega⟩ k) := by
  blk_point [iblk, V, idx_val t, batch]
theorem blk_1 (t : Fin cfg0.N) (r : Fin 8) (k : Fin 1024) : iblk m c 1 t (ix3 0 r k)
    = argx m c (ix3 (batch t) ⟨8 * (t.val % 33 * 32 - 1) + r.val, by omega⟩ k) := by
  blk_point [iblk, V, idx_val t, batch]
theorem blk_2 (t : Fin cfg0.N) (r : Fin 8) (k : Fin 1024) : iblk m c 2 t (ix3 0 r k)
    = argx m c (ix3 (batch t) ⟨8 * min ((t.val % 33 + 1) * 32) 1055 + r.val, by omega⟩ k) := by
  blk_point [iblk, V, idx_val t, batch]
theorem blk_3 (t : Fin cfg0.N) (r : Fin 8) (k : Fin 6144) : iblk m c 3 t (ix2 r k) = argm m c (ix2 r k) := by
  blk_point [iblk, V, idx_val t, batch]
theorem blk_4 (t : Fin cfg0.N) (k : Fin 1024) : iblk m c 4 t (ix2 0 k) = argg m c (ix2 0 k) := by
  blk_point [iblk, V, idx_val t, batch]
theorem blk_5 (t : Fin cfg0.N) (k : Fin 1024) (o : Fin 2944) : iblk m c 5 t (ix2 k o) = V m c main_v19 (ix2 k o) := by
  blk_point [iblk, V, idx_val t, batch]
theorem blk_8 (t : Fin cfg0.N) (r : Fin 8) (k : Fin 1536) : iblk m c 8 t (ix2 r k) = argc m c (ix2 r k) := by
  blk_point [iblk, V, idx_val t, batch]

theorem blk_12 (t : Fin cfg0.N) (k o : Fin 512) : iblk m c 12 t (ix2 k o) = V m c main_v7 (ix2 k o) := by
  blk_point [iblk, V, idx_val t, batch]
theorem heads_blk (t : Fin cfg0.N) : Heads (iblk m c 12 t) := fun k o => by rw [blk_12, bd_eq]; exact heads k o

/-- What the 272 rows are. -/
theorem rows_at (t : Fin cfg0.N) (R : Fin 272) (k : Fin 1024) (h : 8 ≤ 256 * (t.val % 33) + R.val)
    (h' : 256 * (t.val % 33) + R.val - 8 < 8448) :
    rows (iblk m c 1 t) (iblk m c 0 t) (iblk m c 2 t) R k
      = argx m c (ix3 (batch t) ⟨256 * (t.val % 33) + R.val - 8, h'⟩ k) := by
  have hR := R.isLt
  unfold rows
  split_ifs with h1 h2
  · rw [blk_1]; exact congrArg (fun q => argx m c (ix3 _ q k)) (Fin.ext (by simp only; omega))
  · rw [blk_0]; exact congrArg (fun q => argx m c (ix3 _ q k)) (Fin.ext (by simp only; omega))
  · rw [blk_2]; exact congrArg (fun q => argx m c (ix3 _ q k)) (Fin.ext (by simp only; omega))

/-! ## The loads of a point -/

theorem offs : ∀ t : Fin cfg0.N, k0_off1 (grid0.coords t) 0 = (batch t).val ∧ k0_off1 (grid0.coords t) 1 = 0
    ∧ k0_off2 (grid0.coords t) 0 = (batch t).val ∧ k0_off2 (grid0.coords t) 1 = 1024 := by decide +kernel

/-- What a point's loads read. -/
theorem reads (t : Fin cfg0.N) : Reads (argx m c) (argm m c) (argg m c) (argw m c) (batch t) (grid0.coords t)
    (iblk m c 1 t) (iblk m c 0 t) (iblk m c 2 t) (iblk m c 4 t)
    (View.ld (iblk m c 3 t) (Rect.unit (s := S8x6144) (k0_off1 (grid0.coords t)) ![1, 1024] (k0_off1_inb (grid0.coords t))))
    (View.ld (iblk m c 3 t) (Rect.unit (s := S8x6144) ![2, 0] ![1, 1024] inb_S8x6144_S1x1024_2_0))
    (View.ld (iblk m c 3 t) (Rect.unit (s := S8x6144) (k0_off2 (grid0.coords t)) ![1, 1024] (k0_off2_inb (grid0.coords t))))
    (View.ld (iblk m c 3 t) (Rect.unit (s := S8x6144) ![2, 1024] ![1, 1024] inb_S8x6144_S1x1024_2_1024))
    (iblk m c 5 t) where
  row R k h h' := by
    simp only [coord1] at h h' ⊢
    exact rows_at m c t R k h h'
  gain k := blk_4 m c t k
  shift k := by
    rw [← blk_3 m c t]
    obtain ⟨h0, h1, -⟩ := offs t
    exact congrArg (iblk m c 3 t) (funext fun a => by fin_cases a <;> exact Fin.ext (by simp [Rect.unit, h0, h1, modRow]))
  shift' k := by
    rw [← blk_3 m c t]
    exact congrArg (iblk m c 3 t) (funext fun a => by fin_cases a <;> exact Fin.ext (by simp [Rect.unit]))
  scale k := by
    rw [← blk_3 m c t]
    obtain ⟨-, -, h0, h1⟩ := offs t
    exact congrArg (iblk m c 3 t) (funext fun a => by fin_cases a <;> exact Fin.ext (by simp [Rect.unit, h0, h1, modRow]))
  scale' k := by
    rw [← blk_3 m c t]
    exact congrArg (iblk m c 3 t) (funext fun a => by fin_cases a <;> exact Fin.ext (by simp [Rect.unit]))
  cols k o h := by rw [blk_5, w_eq, columns_at _ k o h]

/-- A row of taps. -/
theorem taps_at (t : Fin cfg0.N) (n : ℕ) (hn : n < 8) (inb : ∀ a, (![n, 0] : Fin 2 → ℕ) a + (![1, 1536] : Fin 2 → ℕ) a ≤ S8x1536.size a)
    (o : Fin 1536) : View.ld (iblk m c 8 t) (Rect.unit (s := S8x1536) ![n, 0] ![1, 1536] inb) (ix2 0 o) = argc m c (ix2 ⟨n, hn⟩ o) := by
  rw [← blk_8 m c t]
  exact congrArg (iblk m c 8 t) (funext fun a => by fin_cases a <;> exact Fin.ext (by simp [Rect.unit]))

theorem emb_13 (t : Fin cfg0.N) (r : Fin 256) (o : Fin 512) (G : FVec Ideal SO .f32) :
    G (((cfg0.win 13).blk t).view.emb (ix3 0 r o)) = G (ix3 (batch t) ⟨256 * (t.val % 33) + r.val, by omega⟩ o) := by
  blk_point [iblk, V, idx_val t, batch]
theorem emb_14 (t : Fin cfg0.N) (r : Fin 256) (o : Fin 512) (G : FVec Ideal SO .f32) :
    G (((cfg0.win 14).blk t).view.emb (ix3 0 r o)) = G (ix3 (batch t) ⟨256 * (t.val % 33) + r.val, by omega⟩ o) := by
  blk_point [iblk, V, idx_val t, batch]
theorem emb_15 (t : Fin cfg0.N) (r : Fin 256) (o : Fin 512) (G : FVec Ideal SO .f32) :
    G (((cfg0.win 15).blk t).view.emb (ix3 0 r o)) = G (ix3 (batch t) ⟨256 * (t.val % 33) + r.val, by omega⟩ o) := by
  blk_point [iblk, V, idx_val t, batch]
theorem emb_20 (t : Fin cfg0.N) (r : Fin 256) (o : Fin 512) (G : FVec Ideal SO .f32) :
    G (((cfg0.win 20).blk t).view.emb (ix3 0 r o)) = G (ix3 (batch t) ⟨256 * (t.val % 33) + r.val, by omega⟩ o) := by
  blk_point [iblk, V, idx_val t, batch]

/-- THE GATE the launch leaves. -/
theorem final_z : (dats m 0 c).arrAt 20 (cfgs 0).N = resZ (argx m c) (argm m c) (argg m c) (argw m c) := by
  refine (dats m 0 c).arrAt_eq_of_covers 20 _ (by decide +kernel) fun t _ y => ?_
  have hv := idx_val t
  blk_simp
  rw [after0_20]; unfold outsAt0; frame_out
  obtain ⟨z, r, o, rfl⟩ : ∃ (z : Fin 1) (r : Fin 256) (o : Fin 512), y = ix3 z r o := ⟨y 0, y 1, y 2, eq_ix3 y⟩
  obtain rfl : z = 0 := Subsingleton.elim _ _
  exact (gate_block _ _ _ _ (reads m c t) r o ⟨256 * (t.val % 33) + r.val, by omega⟩ (by simp only [coord1])).trans (emb_20 t r o _).symm

/-- THE VALUE HEADS the launch leaves. -/
theorem final_v : (dats m 0 c).arrAt 15 (cfgs 0).N = resV (argx m c) (argm m c) (argg m c) (argw m c) (argc m c) := by
  refine (dats m 0 c).arrAt_eq_of_covers 15 _ (by decide +kernel) fun t _ y => ?_
  have hv := idx_val t
  blk_simp
  rw [after0_15]; unfold outsAt0; frame_out
  obtain ⟨z, r, o, rfl⟩ : ∃ (z : Fin 1) (r : Fin 256) (o : Fin 512), y = ix3 z r o := ⟨y 0, y 1, y 2, eq_ix3 y⟩
  obtain rfl : z = 0 := Subsingleton.elim _ _
  refine (pay19_at _ r o).trans ((lane_block _ _ _ _ (argc m c) (reads m c t) _ _ _ _ _ (taps_at m c t 0 (by decide) _)
    (taps_at m c t 1 (by decide) _) (taps_at m c t 2 (by decide) _) (taps_at m c t 3 (by decide) _) (taps_at m c t 4 (by decide) _)
    r _ ⟨256 * (t.val % 33) + r.val, by omega⟩ (by simp only [coord1]) _ _ rfl rfl).trans (emb_15 t r o (resV (argx m c) (argm m c) (argg m c) (argw m c) (argc m c))).symm)

/-- THE QUERIES the launch leaves. -/
theorem final_q (H : Finite (argm m c) (argg m c) (argw m c) (argc m c)) :
    (dats m 0 c).arrAt 13 (cfgs 0).N = resQ (argx m c) (argm m c) (argg m c) (argw m c) (argc m c) := by
  refine (dats m 0 c).arrAt_eq_of_covers 13 _ (by decide +kernel) fun t _ y => ?_
  have hv := idx_val t
  blk_simp
  rw [after0_13]; unfold outsAt0; frame_out
  obtain ⟨z, r, o, rfl⟩ : ∃ (z : Fin 1) (r : Fin 256) (o : Fin 512), y = ix3 z r o := ⟨y 0, y 1, y 2, eq_ix3 y⟩
  obtain rfl : z = 0 := Subsingleton.elim _ _
  exact (query_block (argx m c) _ _ _ _ H _ _ _ _ _ _ (heads_blk m c t) (batch t) ⟨256 * (t.val % 33) + r.val, by omega⟩ r (fun k =>
    lane_block _ _ _ _ (argc m c) (reads m c t) _ _ _ _ _ (taps_at m c t 0 (by decide) _)
    (taps_at m c t 1 (by decide) _) (taps_at m c t 2 (by decide) _) (taps_at m c t 3 (by decide) _) (taps_at m c t 4 (by decide) _)
    r _ ⟨256 * (t.val % 33) + r.val, by omega⟩ (by simp only [coord1]) _ _ rfl rfl) o).trans
    (emb_13 t r o (resQ (argx m c) (argm m c) (argg m c) (argw m c) (argc m c))).symm

/-- THE KEYS the launch leaves. -/
theorem final_k (H : Finite (argm m c) (argg m c) (argw m c) (argc m c)) :
    (dats m 0 c).arrAt 14 (cfgs 0).N = resK (argx m c) (argm m c) (argg m c) (argw m c) (argc m c) := by
  refine (dats m 0 c).arrAt_eq_of_covers 14 _ (by decide +kernel) fun t _ y => ?_
  have hv := idx_val t
  blk_simp
  rw [after0_14]; unfold outsAt0; frame_out
  obtain ⟨z, r, o, rfl⟩ : ∃ (z : Fin 1) (r : Fin 256) (o : Fin 512), y = ix3 z r o := ⟨y 0, y 1, y 2, eq_ix3 y⟩
  obtain rfl : z = 0 := Subsingleton.elim _ _
  exact (key_block (argx m c) _ _ _ _ H _ _ _ _ _ _ (heads_blk m c t) (batch t) ⟨256 * (t.val % 33) + r.val, by omega⟩ r (fun k =>
    lane_block _ _ _ _ (argc m c) (reads m c t) _ _ _ _ _ (taps_at m c t 0 (by decide) _)
    (taps_at m c t 1 (by decide) _) (taps_at m c t 2 (by decide) _) (taps_at m c t 3 (by decide) _) (taps_at m c t 4 (by decide) _)
    r _ ⟨256 * (t.val % 33) + r.val, by omega⟩ (by simp only [coord1]) _ _ rfl rfl) o).trans
    (emb_14 t r o (resK (argx m c) (argm m c) (argg m c) (argw m c) (argc m c))).symm

end Cert.Kernel3Ideal.Value

end
-- ==== Proof.InputReference.lean ====
/-
  The reference of the input projection read at an index: its two segments, each projected and convolved by itself,
  one after the other are what Proof/Input.lean says.
-/
module

public import proofs.«01_k».proof.Proof.Gen.Reference3Ideal.Run
public import proofs.«01_k».proof.Proof.Input
public import proofs.«01_k».proof.Proof.Experts
public import Idealize.ShloMosaic.Lib.ValueIdxCore

@[expose] public section
set_option maxRecDepth 16384

noncomputable section

namespace Cert.Reference3Ideal.Value

open Cert.Reference3Ideal Cert.Reference3Ideal.Gen Cert.Input Idealize.ShloMosaic Idealize.ShloMosaic.TcCoe Idealize.ShloMosaic.StableHlo

/-! ## The parts of the results: the context's and the latents' -/

/-- The normed and modulated tokens. -/
def hidC (x : FVec Ideal S2x8448x1024 .f32) (mo : FVec Ideal S8x6144 .f32) (g : FVec Ideal S1x1024 .f32) : FVec Ideal S2x256x1024 .f32 :=
  addf (mulf (mulf (mulf (extractStridedSlice S2x256x1024 ![0, 0, 0] x slices_S2x8448x1024_S2x256x1024_0_0_0) (broadcastInDim S2x256x1024 ![0, 1, 2] bcast_S2x256x1_S2x256x1024_0_1_2 (Host.rsqrt (addf (Host.divf (broadcastInDim S2x256x1 ![0, 1] bcast_S2x256_S2x256x1_0_1 (Host.reduceAdd (mulf (extractStridedSlice S2x256x1024 ![0, 0, 0] x slices_S2x8448x1024_S2x256x1024_0_0_0) (extractStridedSlice S2x256x1024 ![0, 0, 0] x slices_S2x8448x1024_S2x256x1024_0_0_0)) (constant S_ .f32 0x00000000#32) reducesTo_S2x256x1024_S2x256_d2 h_S_)) (broadcastInDim S2x256x1 ![] bcast_S_S2x256x1 (constant S_ .f32 0x44800000#32))) (broadcastInDim S2x256x1 ![] bcast_S_S2x256x1 (constant S_ .f32 0x358637BD#32)))))) (broadcastInDim S2x256x1024 ![0, 1, 2] bcast_S1x1x1024_S2x256x1024_0_1_2 (broadcastInDim S1x1x1024 ![2] bcast_S1024_S1x1x1024_2 (shapeCast _ g shapeCasts_S1x1024_S1024)))) (broadcastInDim S2x256x1024 ![0, 1, 2] bcast_S1x1x1024_S2x256x1024_0_1_2 (broadcastInDim S1x1x1024 ![2] bcast_S1024_S1x1x1024_2 (addf (broadcastInDim S1024 ![] bcast_S_S1024 (constant S_ .f32 0x3F800000#32)) (extractStridedSlice S1024 ![1024] (shapeCast _ (extractStridedSlice S1x6144 ![2, 0] mo slices_S8x6144_S1x6144_2_0) shapeCasts_S1x6144_S6144) slices_S6144_S1024_1024))))) (broadcastInDim S2x256x1024 ![0, 1, 2] bcast_S1x1x1024_S2x256x1024_0_1_2 (broadcastInDim S1x1x1024 ![2] bcast_S1024_S1x1x1024_2 (extractStridedSlice S1024 ![0] (shapeCast _ (extractStridedSlice S1x6144 ![2, 0] mo slices_S8x6144_S1x6144_2_0) shapeCasts_S1x6144_S6144) slices_S6144_S1024_0)))
def hidX (x : FVec Ideal S2x8448x1024 .f32) (mo : FVec Ideal S8x6144 .f32) (g : FVec Ideal S1x1024 .f32) : FVec Ideal S2x8192x1024 .f32 :=
  addf (mulf (mulf (mulf (extractStridedSlice S2x8192x1024 ![0, 256, 0] x slices_S2x8448x1024_S2x8192x1024_0_256_0) (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf (extractStridedSlice S2x8192x1024 ![0, 256, 0] x slices_S2x8448x1024_S2x8192x1024_0_256_0) (extractStridedSlice S2x8192x1024 ![0, 256, 0] x slices_S2x8448x1024_S2x8192x1024_0_256_0)) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (shapeCast _ g shapeCasts_S1x1024_S1024)))) (broadcastInDim S2x8192x1024 ![0, 1, 2] bcast_S2x1x1024_S2x8192x1024_0_1_2 (addf (broadcastInDim S2x1x1024 ![] bcast_S_S2x1x1024 (constant S_ .f32 0x3F800000#32)) (extractStridedSlice S2x1x1024 ![0, 0, 1024] (broadcastInDim S2x1x6144 ![0, 2] bcast_S2x6144_S2x1x6144_0_2 (extractStridedSlice S2x6144 ![0, 0] mo slices_S8x6144_S2x6144_0_0)) slices_S2x1x6144_S2x1x1024_0_0_1024)))) (broadcastInDim S2x8192x1024 ![0, 1, 2] bcast_S2x1x1024_S2x8192x1024_0_1_2 (extractStridedSlice S2x1x1024 ![0, 0, 0] (broadcastInDim S2x1x6144 ![0, 2] bcast_S2x6144_S2x1x6144_0_2 (extractStridedSlice S2x6144 ![0, 0] mo slices_S8x6144_S2x6144_0_0)) slices_S2x1x6144_S2x1x1024_0_0_0))

/-- Their projection. -/
def projC (H : FVec Ideal S2x256x1024 .f32) (w : FVec Ideal S1024x2848 .f32) : FVec Ideal S2x256x2848 .f32 :=
  Host.dotGeneral dot_S2x256x1024_S1024x2848_S2x256x2848_2_0_01_1_n_n none H w
def projX (H : FVec Ideal S2x8192x1024 .f32) (w : FVec Ideal S1024x2848 .f32) : FVec Ideal S2x8192x2848 .f32 :=
  Host.dotGeneral dot_S2x8192x1024_S1024x2848_S2x8192x2848_2_0_01_1_n_n none H w

/-- Its first 1536 columns between two zero rows on either side. -/
def padC (P : FVec Ideal S2x256x2848 .f32) : FVec Ideal S2x260x1536 .f32 :=
  pad S2x260x1536 ![0, 2, 0] ![0, 2, 0] ![0, 0, 0] (extractStridedSlice S2x256x1536 ![0, 0, 0] P slices_S2x256x2848_S2x256x1536_0_0_0) (sitofp .f32 (constantI S_ 32 0#32)) pads_S2x256x1536_S2x260x1536_000_220_000 h_S_
def padX (P : FVec Ideal S2x8192x2848 .f32) : FVec Ideal S2x8196x1536 .f32 :=
  pad S2x8196x1536 ![0, 2, 0] ![0, 2, 0] ![0, 0, 0] (extractStridedSlice S2x8192x1536 ![0, 0, 0] P slices_S2x8192x2848_S2x8192x1536_0_0_0) (sitofp .f32 (constantI S_ 32 0#32)) pads_S2x8192x1536_S2x8196x1536_000_220_000 h_S_

/-- The five taps added up. -/
def tapsC (Q : FVec Ideal S2x260x1536 .f32) (cw : FVec Ideal S8x1536 .f32) : FVec Ideal S2x256x1536 .f32 :=
  addf (addf (addf (addf (addf (broadcastInDim S2x256x1536 ![] bcast_S_S2x256x1536 (constant S_ .f32 0x00000000#32)) (mulf (extractStridedSlice S2x256x1536 ![0, 0, 0] Q slices_S2x260x1536_S2x256x1536_0_0_0) (broadcastInDim S2x256x1536 ![0, 1, 2] bcast_S1x1x1536_S2x256x1536_0_1_2 (broadcastInDim S1x1x1536 ![2] bcast_S1536_S1x1x1536_2 (shapeCast _ (extractStridedSlice S1x1536 ![0, 0] cw slices_S8x1536_S1x1536_0_0) shapeCasts_S1x1536_S1536))))) (mulf (extractStridedSlice S2x256x1536 ![0, 1, 0] Q slices_S2x260x1536_S2x256x1536_0_1_0) (broadcastInDim S2x256x1536 ![0, 1, 2] bcast_S1x1x1536_S2x256x1536_0_1_2 (broadcastInDim S1x1x1536 ![2] bcast_S1536_S1x1x1536_2 (shapeCast _ (extractStridedSlice S1x1536 ![1, 0] cw slices_S8x1536_S1x1536_1_0) shapeCasts_S1x1536_S1536))))) (mulf (extractStridedSlice S2x256x1536 ![0, 2, 0] Q slices_S2x260x1536_S2x256x1536_0_2_0) (broadcastInDim S2x256x1536 ![0, 1, 2] bcast_S1x1x1536_S2x256x1536_0_1_2 (broadcastInDim S1x1x1536 ![2] bcast_S1536_S1x1x1536_2 (shapeCast _ (extractStridedSlice S1x1536 ![2, 0] cw slices_S8x1536_S1x1536_2_0) shapeCasts_S1x1536_S1536))))) (mulf (extractStridedSlice S2x256x1536 ![0, 3, 0] Q slices_S2x260x1536_S2x256x1536_0_3_0) (broadcastInDim S2x256x1536 ![0, 1, 2] bcast_S1x1x1536_S2x256x1536_0_1_2 (broadcastInDim S1x1x1536 ![2] bcast_S1536_S1x1x1536_2 (shapeCast _ (extractStridedSlice S1x1536 ![3, 0] cw slices_S8x1536_S1x1536_3_0) shapeCasts_S1x1536_S1536))))) (mulf (extractStridedSlice S2x256x1536 ![0, 4, 0] Q slices_S2x260x1536_S2x256x1536_0_4_0) (broadcastInDim S2x256x1536 ![0, 1, 2] bcast_S1x1x1536_S2x256x1536_0_1_2 (broadcastInDim S1x1x1536 ![2] bcast_S1536_S1x1x1536_2 (shapeCast _ (extractStridedSlice S1x1536 ![4, 0] cw slices_S8x1536_S1x1536_4_0) shapeCasts_S1x1536_S1536))))
def tapsX (Q : FVec Ideal S2x8196x1536 .f32) (cw : FVec Ideal S8x1536 .f32) : FVec Ideal S2x8192x1536 .f32 :=
  addf (addf (addf (addf (addf (broadcastInDim S2x8192x1536 ![] bcast_S_S2x8192x1536 (constant S_ .f32 0x00000000#32)) (mulf (extractStridedSlice S2x8192x1536 ![0, 0, 0] Q slices_S2x8196x1536_S2x8192x1536_0_0_0) (broadcastInDim S2x8192x1536 ![0, 1, 2] bcast_S1x1x1536_S2x8192x1536_0_1_2 (broadcastInDim S1x1x1536 ![2] bcast_S1536_S1x1x1536_2 (shapeCast _ (extractStridedSlice S1x1536 ![0, 0] cw slices_S8x1536_S1x1536_0_0) shapeCasts_S1x1536_S1536))))) (mulf (extractStridedSlice S2x8192x1536 ![0, 1, 0] Q slices_S2x8196x1536_S2x8192x1536_0_1_0) (broadcastInDim S2x8192x1536 ![0, 1, 2] bcast_S1x1x1536_S2x8192x1536_0_1_2 (broadcastInDim S1x1x1536 ![2] bcast_S1536_S1x1x1536_2 (shapeCast _ (extractStridedSlice S1x1536 ![1, 0] cw slices_S8x1536_S1x1536_1_0) shapeCasts_S1x1536_S1536))))) (mulf (extractStridedSlice S2x8192x1536 ![0, 2, 0] Q slices_S2x8196x1536_S2x8192x1536_0_2_0) (broadcastInDim S2x8192x1536 ![0, 1, 2] bcast_S1x1x1536_S2x8192x1536_0_1_2 (broadcastInDim S1x1x1536 ![2] bcast_S1536_S1x1x1536_2 (shapeCast _ (extractStridedSlice S1x1536 ![2, 0] cw slices_S8x1536_S1x1536_2_0) shapeCasts_S1x1536_S1536))))) (mulf (extractStridedSlice S2x8192x1536 ![0, 3, 0] Q slices_S2x8196x1536_S2x8192x1536_0_3_0) (broadcastInDim S2x8192x1536 ![0, 1, 2] bcast_S1x1x1536_S2x8192x1536_0_1_2 (broadcastInDim S1x1x1536 ![2] bcast_S1536_S1x1x1536_2 (shapeCast _ (extractStridedSlice S1x1536 ![3, 0] cw slices_S8x1536_S1x1536_3_0) shapeCasts_S1x1536_S1536))))) (mulf (extractStridedSlice S2x8192x1536 ![0, 4, 0] Q slices_S2x8196x1536_S2x8192x1536_0_4_0) (broadcastInDim S2x8192x1536 ![0, 1, 2] bcast_S1x1x1536_S2x8192x1536_0_1_2 (broadcastInDim S1x1x1536 ![2] bcast_S1536_S1x1x1536_2 (shapeCast _ (extractStridedSlice S1x1536 ![4, 0] cw slices_S8x1536_S1x1536_4_0) shapeCasts_S1x1536_S1536))))

/-- The gated activation. -/
def actC (Y : FVec Ideal S2x256x1536 .f32) : FVec Ideal S2x256x1536 .f32 :=
  mulf Y (Host.divf (broadcastInDim S2x256x1536 ![] bcast_S_S2x256x1536 (constant S_ .f32 0x3F800000#32)) (addf (broadcastInDim S2x256x1536 ![] bcast_S_S2x256x1536 (constant S_ .f32 0x3F800000#32)) (Host.exp (Host.negf Y))))
def actX (Y : FVec Ideal S2x8192x1536 .f32) : FVec Ideal S2x8192x1536 .f32 :=
  mulf Y (Host.divf (broadcastInDim S2x8192x1536 ![] bcast_S_S2x8192x1536 (constant S_ .f32 0x3F800000#32)) (addf (broadcastInDim S2x8192x1536 ![] bcast_S_S2x8192x1536 (constant S_ .f32 0x3F800000#32)) (Host.exp (Host.negf Y))))

variable (x : FVec Ideal S2x8448x1024 .f32) (mo : FVec Ideal S8x6144 .f32) (g : FVec Ideal S1x1024 .f32)
  (w : FVec Ideal S1024x2848 .f32) (cw : FVec Ideal S8x1536 .f32)

/-- The activated convolutions of both segments. -/
def lanes : FVec Ideal S2x8448x1536 .f32 :=
  concatenate S2x8448x1536 1 [⟨S2x256x1536, actC (tapsC (padC (projC (hidC x mo g) w)) cw)⟩, ⟨S2x8192x1536, actX (tapsX (padX (projX (hidX x mo g) w)) cw)⟩] concatenates_S2x256x1536_S2x8192x1536_S2x8448x1536_d1

/-- The value heads. -/
def outV : FVec Ideal S2x8448x512 .f32 :=
  extractStridedSlice S2x8448x512 ![0, 0, 1024] (lanes x mo g w cw) slices_S2x8448x1536_S2x8448x512_0_0_1024

/-- The gate's columns of both segments. -/
def outZ : FVec Ideal S2x8448x512 .f32 :=
  concatenate S2x8448x512 1 [⟨S2x256x512, extractStridedSlice S2x256x512 ![0, 0, 1536] (projC (hidC x mo g) w) slices_S2x256x2848_S2x256x512_0_0_1536⟩, ⟨S2x8192x512, extractStridedSlice S2x8192x512 ![0, 0, 1536] (projX (hidX x mo g) w) slices_S2x8192x2848_S2x8192x512_0_0_1536⟩] concatenates_S2x256x512_S2x8192x512_S2x8448x512_d1

/-- The lanes of the queries and of the keys by head, and a lane over the root of its head's sum of squares. -/
def headQ (L : FVec Ideal S2x8448x1536 .f32) : FVec Ideal S2x8448x8x64 .f32 :=
  shapeCast _ (extractStridedSlice S2x8448x512 ![0, 0, 0] L slices_S2x8448x1536_S2x8448x512_0_0_0) shapeCasts_S2x8448x512_S2x8448x8x64
def headK (L : FVec Ideal S2x8448x1536 .f32) : FVec Ideal S2x8448x8x64 .f32 :=
  shapeCast _ (extractStridedSlice S2x8448x512 ![0, 0, 512] L slices_S2x8448x1536_S2x8448x512_0_0_512) shapeCasts_S2x8448x512_S2x8448x8x64
def units (H : FVec Ideal S2x8448x8x64 .f32) : FVec Ideal S2x8448x8x64 .f32 :=
  mulf H (broadcastInDim S2x8448x8x64 ![0, 1, 2, 3] bcast_S2x8448x8x1_S2x8448x8x64_0_1_2_3 (Host.rsqrt (addf (broadcastInDim S2x8448x8x1 ![0, 1, 2] bcast_S2x8448x8_S2x8448x8x1_0_1_2 (Host.reduceAdd (mulf H H) (constant S_ .f32 0x00000000#32) reducesTo_S2x8448x8x64_S2x8448x8_d3 h_S_)) (broadcastInDim S2x8448x8x1 ![] bcast_S_S2x8448x8x1 (constant S_ .f32 0x358637BD#32)))))

/-- The queries and the keys. -/
def scaled (H : FVec Ideal S2x8448x8x64 .f32) : FVec Ideal S2x8448x8x64 .f32 :=
  mulf H (broadcastInDim S2x8448x8x64 ![] bcast_S_S2x8448x8x64 (constant S_ .f32 0x3E000000#32))
def flat (H : FVec Ideal S2x8448x8x64 .f32) : FVec Ideal S2x8448x512 .f32 := shapeCast _ H shapeCasts_S2x8448x8x64_S2x8448x512
def outQ (L : FVec Ideal S2x8448x1536 .f32) : FVec Ideal S2x8448x512 .f32 := flat (scaled (units (headQ L)))
def outK (L : FVec Ideal S2x8448x1536 .f32) : FVec Ideal S2x8448x512 .f32 := flat (units (headK L))

/-- The reference's composed terms are these. -/
theorem lanes_eq (m : (ℓ : Loc nD τ sig) → Buf (Elt Ideal) ℓ) (c : Dev nD) : res_main_v144 (F := Ideal) (launchContents m c)
    = lanes (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg6)) := by
  unfold res_main_v144 res_main_v136 res_main_v100 res_main_v91 res_main_v55 res_main_v53 res_main_v30 res_main_v28 res_main_v27 res_main_v2 res_main_v0
    lanes actC actX tapsC tapsX padC padX projC projX hidC hidX
  rfl
theorem projC_eq (m : (ℓ : Loc nD τ sig) → Buf (Elt Ideal) ℓ) (c : Dev nD) : res_main_v27 (F := Ideal) (launchContents m c)
    = projC (hidC (m ((c.tc : Thread nD τ).loc main_arg0)) (m ((c.tc : Thread nD τ).loc main_arg1)) (m ((c.tc : Thread nD τ).loc main_arg2)))
        (m ((c.tc : Thread nD τ).loc main_arg3)) := by
  unfold res_main_v27 res_main_v2 res_main_v0 projC hidC
  rfl
theorem projX_eq (m : (ℓ : Loc nD τ sig) → Buf (Elt Ideal) ℓ) (c : Dev nD) : res_main_v53 (F := Ideal) (launchContents m c)
    = projX (hidX (m ((c.tc : Thread nD τ).loc main_arg0)) (m ((c.tc : Thread nD τ).loc main_arg1)) (m ((c.tc : Thread nD τ).loc main_arg2)))
        (m ((c.tc : Thread nD τ).loc main_arg3)) := by
  unfold res_main_v53 res_main_v30 res_main_v28 projX hidX
  rfl

/-- The run's results are these. -/
theorem outQ_of (m : (ℓ : Loc nD τ sig) → Buf (Elt Ideal) ℓ) (c : Dev nD) : (shapeCast _ (mulf (mulf (res_main_v149 (launchContents m c)) (broadcastInDim S2x8448x8x64 ![0, 1, 2, 3] bcast_S2x8448x8x1_S2x8448x8x64_0_1_2_3 (Host.rsqrt (addf (broadcastInDim S2x8448x8x1 ![0, 1, 2] bcast_S2x8448x8_S2x8448x8x1_0_1_2 (Host.reduceAdd (mulf (res_main_v149 (launchContents m c)) (res_main_v149 (launchContents m c))) (constant S_ .f32 0x00000000#32) reducesTo_S2x8448x8x64_S2x8448x8_d3 h_S_)) (broadcastInDim S2x8448x8x1 ![] bcast_S_S2x8448x8x1 (constant S_ .f32 0x358637BD#32)))))) (broadcastInDim S2x8448x8x64 ![] bcast_S_S2x8448x8x64 (constant S_ .f32 0x3E000000#32))) shapeCasts_S2x8448x8x64_S2x8448x512 : FVec Ideal S2x8448x512 .f32)
    = outQ (lanes (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg6))) := by
  rw [← lanes_eq]
  unfold res_main_v149 outQ flat scaled units headQ
  rfl
theorem outK_of (m : (ℓ : Loc nD τ sig) → Buf (Elt Ideal) ℓ) (c : Dev nD) : (shapeCast _ (mulf (res_main_v161 (launchContents m c)) (broadcastInDim S2x8448x8x64 ![0, 1, 2, 3] bcast_S2x8448x8x1_S2x8448x8x64_0_1_2_3 (Host.rsqrt (addf (broadcastInDim S2x8448x8x1 ![0, 1, 2] bcast_S2x8448x8_S2x8448x8x1_0_1_2 (Host.reduceAdd (mulf (res_main_v161 (launchContents m c)) (res_main_v161 (launchContents m c))) (constant S_ .f32 0x00000000#32) reducesTo_S2x8448x8x64_S2x8448x8_d3 h_S_)) (broadcastInDim S2x8448x8x1 ![] bcast_S_S2x8448x8x1 (constant S_ .f32 0x358637BD#32)))))) shapeCasts_S2x8448x8x64_S2x8448x512 : FVec Ideal S2x8448x512 .f32)
    = outK (lanes (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg6))) := by
  rw [← lanes_eq]
  unfold res_main_v161 outK flat units headK
  rfl
theorem outV_of (m : (ℓ : Loc nD τ sig) → Buf (Elt Ideal) ℓ) (c : Dev nD) : (extractStridedSlice S2x8448x512 ![0, 0, 1024] (res_main_v144 (launchContents m c)) slices_S2x8448x1536_S2x8448x512_0_0_1024 : FVec Ideal S2x8448x512 .f32)
    = outV (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg6)) := by
  unfold outV
  rw [← lanes_eq]
theorem outZ_of (m : (ℓ : Loc nD τ sig) → Buf (Elt Ideal) ℓ) (c : Dev nD) : (concatenate S2x8448x512 1 [⟨S2x256x512, (extractStridedSlice S2x256x512 ![0, 0, 1536] (res_main_v27 (launchContents m c)) slices_S2x256x2848_S2x256x512_0_0_1536)⟩, ⟨S2x8192x512, (extractStridedSlice S2x8192x512 ![0, 0, 1536] (res_main_v53 (launchContents m c)) slices_S2x8192x2848_S2x8192x512_0_0_1536)⟩] concatenates_S2x256x512_S2x8192x512_S2x8448x512_d1 : FVec Ideal S2x8448x512 .f32)
    = outZ (m ((c.tc : Thread nD τ).loc main_arg0)) (m ((c.tc : Thread nD τ).loc main_arg1)) (m ((c.tc : Thread nD τ).loc main_arg2))
        (m ((c.tc : Thread nD τ).loc main_arg3)) := by
  unfold outZ
  rw [projC_eq, projX_eq]

/-! ## The parts at an index -/

/-- Token `t` of the context and of the latents among all. -/
abbrev ctxTok (t : Fin 256) : Fin 8448 := ⟨t.val, by omega⟩
abbrev latTok (t : Fin 8192) : Fin 8448 := ⟨256 + t.val, by omega⟩

theorem projC_at (b : Fin 2) (t : Fin 256) (c : Fin 2848) :
    projC (hidC x mo g) w (ix3 b t c) = proj x mo g w b (ctxTok t) c := by
  unfold proj normed rms
  pointwise [projC, hidC]
  simp only [modRow, show (ctxTok t).val < 256 from t.isLt, if_true]
theorem projX_at (b : Fin 2) (t : Fin 8192) (c : Fin 2848) :
    projX (hidX x mo g) w (ix3 b t c) = proj x mo g w b (latTok t) c := by
  unfold proj normed rms
  pointwise [projX, hidX]
  simp only [modRow, show ¬ (latTok t).val < 256 by simp only; omega, if_false]

/-- The padding's zero. -/
theorem int_zero : (FloatOps.sitofp (F := Ideal) .f32 (0#32 : BitVec 32) : EReal) = 0 := by
  show (((0#32 : BitVec 32).toInt : ℝ) : EReal) = 0
  simp

theorem padC_at (P : FVec Ideal S2x256x2848 .f32) (b : Fin 2) (r : Fin 260) (c : Fin 1536) :
    padC P (ix3 b r c) = if h : 2 ≤ r.val ∧ r.val - 2 < 256 then P (ix3 b ⟨r.val - 2, h.2⟩ ⟨c.val, by omega⟩) else 0 := by
  pointwise [padC]
  rw [int_zero]
theorem padX_at (P : FVec Ideal S2x8192x2848 .f32) (b : Fin 2) (r : Fin 8196) (c : Fin 1536) :
    padX P (ix3 b r c) = if h : 2 ≤ r.val ∧ r.val - 2 < 8192 then P (ix3 b ⟨r.val - 2, h.2⟩ ⟨c.val, by omega⟩) else 0 := by
  pointwise [padX]
  rw [int_zero]

theorem tapsC_at (Q : FVec Ideal S2x260x1536 .f32) (b : Fin 2) (t : Fin 256) (c : Fin 1536) :
    tapsC Q cw (ix3 b t c) = Q (ix3 b ⟨t.val, by omega⟩ c) * cw (ix2 0 c) + Q (ix3 b ⟨1 + t.val, by omega⟩ c) * cw (ix2 1 c)
      + Q (ix3 b ⟨2 + t.val, by omega⟩ c) * cw (ix2 2 c) + Q (ix3 b ⟨3 + t.val, by omega⟩ c) * cw (ix2 3 c)
      + Q (ix3 b ⟨4 + t.val, by omega⟩ c) * cw (ix2 4 c) := by
  pointwise [tapsC]
theorem tapsX_at (Q : FVec Ideal S2x8196x1536 .f32) (b : Fin 2) (t : Fin 8192) (c : Fin 1536) :
    tapsX Q cw (ix3 b t c) = Q (ix3 b ⟨t.val, by omega⟩ c) * cw (ix2 0 c) + Q (ix3 b ⟨1 + t.val, by omega⟩ c) * cw (ix2 1 c)
      + Q (ix3 b ⟨2 + t.val, by omega⟩ c) * cw (ix2 2 c) + Q (ix3 b ⟨3 + t.val, by omega⟩ c) * cw (ix2 3 c)
      + Q (ix3 b ⟨4 + t.val, by omega⟩ c) * cw (ix2 4 c) := by
  pointwise [tapsX]

theorem actC_at (Y : FVec Ideal S2x256x1536 .f32) (i : S2x256x1536.Idx) : actC Y i = silu (Y i) := by
  unfold silu
  pointwise [actC]
theorem actX_at (Y : FVec Ideal S2x8192x1536 .f32) (i : S2x8192x1536.Idx) : actX Y i = silu (Y i) := by
  unfold silu
  pointwise [actX]

/-! ## The results -/

/-- A tap of the context reads what the spec's tap reads. -/
theorem ctx_tap (b : Fin 2) (t : Fin 256) (j : Fin 5) (c : Fin 1536) (r : Fin 260) (hr : r.val = j.val + t.val) :
    padC (projC (hidC x mo g) w) (ix3 b r c) = tap x mo g w b (ctxTok t) j c := by
  have ht := t.isLt
  rw [padC_at]
  unfold tap
  by_cases h : 2 ≤ r.val ∧ r.val - 2 < 256
  · rw [dif_pos h, dif_pos (show Near (ctxTok t).val j.val from ⟨by simp only; omega, by simp only; omega, by simp only; omega⟩), projC_at]
    exact congrArg (fun q => proj x mo g w b q _) (Fin.ext (by simp only; omega))
  · rw [dif_neg h, dif_neg (show ¬ Near (ctxTok t).val j.val from fun e => h ⟨by have := e.1; simp only at this; omega,
      by have := e.2.2.2 ht; simp only at this; omega⟩)]
theorem lat_tap (b : Fin 2) (t : Fin 8192) (j : Fin 5) (c : Fin 1536) (r : Fin 8196) (hr : r.val = j.val + t.val) :
    padX (projX (hidX x mo g) w) (ix3 b r c) = tap x mo g w b (latTok t) j c := by
  have ht := t.isLt
  have hj := j.isLt
  rw [padX_at]
  unfold tap
  by_cases h : 2 ≤ r.val ∧ r.val - 2 < 8192
  · rw [dif_pos h, dif_pos (show Near (latTok t).val j.val from ⟨by simp only; omega, by simp only; omega, by simp only; omega⟩), projX_at]
    exact congrArg (fun q => proj x mo g w b q _) (Fin.ext (by simp only; omega))
  · rw [dif_neg h, dif_neg]
    intro e
    obtain ⟨e1, e2, e3⟩ := e
    simp only at e1 e2 e3
    omega

/-- The lanes of both segments are the activated convolution. -/
theorem lanes_at (b : Fin 2) (t : Fin 8448) (c : Fin 1536) : lanes x mo g w cw (ix3 b t c) = lane x mo g w cw b t c := by
  have ht := t.isLt
  unfold lane conv
  pointwise [lanes]
  by_cases h : t.val < 256
  · rw [dif_pos h, actC_at, tapsC_at, ctx_tap x mo g w b ⟨t.val, h⟩ 0 c _ (by simp), ctx_tap x mo g w b ⟨t.val, h⟩ 1 c _ (by simp),
      ctx_tap x mo g w b ⟨t.val, h⟩ 2 c _ (by simp), ctx_tap x mo g w b ⟨t.val, h⟩ 3 c _ (by simp), ctx_tap x mo g w b ⟨t.val, h⟩ 4 c _ (by simp)]
  · rw [dif_neg h, actX_at, tapsX_at, lat_tap x mo g w b ⟨t.val - 256, by omega⟩ 0 c _ (by simp),
      lat_tap x mo g w b ⟨t.val - 256, by omega⟩ 1 c _ (by simp), lat_tap x mo g w b ⟨t.val - 256, by omega⟩ 2 c _ (by simp),
      lat_tap x mo g w b ⟨t.val - 256, by omega⟩ 3 c _ (by simp), lat_tap x mo g w b ⟨t.val - 256, by omega⟩ 4 c _ (by simp),
      show latTok ⟨t.val - 256, by omega⟩ = t from Fin.ext (by simp only; omega)]

theorem headQ_at (L : FVec Ideal S2x8448x1536 .f32) (b : Fin 2) (t : Fin 8448) (h : Fin 8) (j : Fin 64) :
    headQ L (ix4 b t h j) = L (ix3 b t ⟨64 * h.val + j.val, by omega⟩) := by
  pointwise [headQ]
  exact congrArg (fun q => L (ix3 b t q)) (Fin.ext (by simp only; omega))
theorem headK_at (L : FVec Ideal S2x8448x1536 .f32) (b : Fin 2) (t : Fin 8448) (h : Fin 8) (j : Fin 64) :
    headK L (ix4 b t h j) = L (ix3 b t ⟨512 + (64 * h.val + j.val), by omega⟩) := by
  pointwise [headK]
  exact congrArg (fun q => L (ix3 b t q)) (Fin.ext (by simp only; omega))
theorem units_at (H : FVec Ideal S2x8448x8x64 .f32) (b : Fin 2) (t : Fin 8448) (h : Fin 8) (j : Fin 64) :
    units H (ix4 b t h j) = H (ix4 b t h j) * Ideal.rsqrt ((∑ i : Fin 64, H (ix4 b t h i) * H (ix4 b t h i))
      + Ideal.ofBits .f32 0x358637BD#32) := by
  pointwise [units]

theorem scaled_at (H : FVec Ideal S2x8448x8x64 .f32) (i : S2x8448x8x64.Idx) : scaled H i = H i * Ideal.ofBits .f32 0x3E000000#32 := by
  pointwise [scaled]
theorem flat_at (H : FVec Ideal S2x8448x8x64 .f32) (b : Fin 2) (t : Fin 8448) (o : Fin 512) :
    flat H (ix3 b t o) = H (ix4 b t ⟨o.val / 64, by omega⟩ ⟨o.val % 64, by omega⟩) := by
  pointwise [flat]

/-- THE REFERENCE'S QUERIES. -/
theorem outQ_eq : outQ (lanes x mo g w cw) = resQ x mo g w cw := by
  funext y
  obtain ⟨b, t, o, rfl⟩ : ∃ (b : Fin 2) (t : Fin 8448) (o : Fin 512), y = ix3 b t o := ⟨y 0, y 1, y 2, eq_ix3 y⟩
  rw [resQ_at]
  unfold outQ unit mate
  rw [flat_at, scaled_at, units_at]
  simp only [headQ_at, lanes_at, Nat.div_add_mod]

/-- THE REFERENCE'S KEYS. -/
theorem outK_eq : outK (lanes x mo g w cw) = resK x mo g w cw := by
  funext y
  obtain ⟨b, t, o, rfl⟩ : ∃ (b : Fin 2) (t : Fin 8448) (o : Fin 512), y = ix3 b t o := ⟨y 0, y 1, y 2, eq_ix3 y⟩
  rw [resK_at]
  unfold outK unit mate
  rw [flat_at, units_at]
  have hd : 64 * ((512 + o.val) / 64) = 512 + 64 * (o.val / 64) := by omega
  simp only [headK_at, lanes_at, Nat.div_add_mod, hd, Nat.add_assoc]

/-- THE REFERENCE'S VALUE HEADS. -/
theorem outV_eq : outV x mo g w cw = resV x mo g w cw := by
  funext y
  obtain ⟨b, t, o, rfl⟩ : ∃ (b : Fin 2) (t : Fin 8448) (o : Fin 512), y = ix3 b t o := ⟨y 0, y 1, y 2, eq_ix3 y⟩
  rw [resV_at, ← lanes_at]
  pointwise [outV]

/-- THE REFERENCE'S GATE. -/
theorem outZ_eq : outZ x mo g w = resZ x mo g w := by
  funext y
  obtain ⟨b, t, o, rfl⟩ : ∃ (b : Fin 2) (t : Fin 8448) (o : Fin 512), y = ix3 b t o := ⟨y 0, y 1, y 2, eq_ix3 y⟩
  have ht := t.isLt
  rw [resZ_at]
  pointwise [outZ]
  by_cases h : t.val < 256
  · rw [dif_pos h, projC_at]
  · rw [dif_neg h, projX_at, show latTok ⟨t.val - 256, by omega⟩ = t from Fin.ext (by simp only; omega)]

end Cert.Reference3Ideal.Value

end
-- ==== Proof.InputClaims.lean ====
/-
  The claims of the input projection's call: its frames, its reference's, and its results as the reference's.
-/
module

public import proofs.«01_k».proof.Defs
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Pre_finite_parameters
public import proofs.«01_k».proof.Proof.Claims
public import proofs.«01_k».proof.Proof.InputValue
public import proofs.«01_k».proof.Proof.InputReference
public import Idealize.ShloMosaic.Lib.Quiescent

@[expose] public section

noncomputable section

namespace Cert.Claims

open Idealize.ShloMosaic Idealize.SL.Sem

/-- What the precondition says: the modulation, the gains, the columns and the taps the queries and keys meet are reals. -/
theorem finite_of_pre3 [Cert.Pre_finite_parameters.Facts] (x : FVec Ideal Cert.Input.SX .f32) (mo : FVec Ideal Cert.Input.SM .f32)
    (g : FVec Ideal Cert.Input.SG .f32) (w : FVec Ideal Cert.Input.SW .f32) (cw : FVec Ideal Cert.Input.SC .f32)
    (a4 a5 : FVec Ideal Cert.Pre_finite_parameters.S8448x128 .f32) (a7 : FVec Ideal Cert.Pre_finite_parameters.S8x128 .f32)
    (a8 : FVec Ideal Cert.Pre_finite_parameters.S1x512 .f32) (a9 : FVec Ideal Cert.Pre_finite_parameters.S1x128 .f32)
    (h : Cert.Pre_finite_parameters.fn (F := Ideal) x mo g w a4 a5 cw a7 a8 a9 = fun _ => 1#1) : Cert.Input.Finite mo g w cw := by
  have h0 := congrFun h (Shape.Idx.first (by decide))
  dsimp only [Cert.Pre_finite_parameters.fn, Cert.Pre_finite_parameters.fn_part1] at h0
  obtain ⟨h1, hc⟩ := (Cert.Words.andi_eq_one _ _).1 h0
  obtain ⟨h2, hw⟩ := (Cert.Words.andi_eq_one _ _).1 h1
  obtain ⟨hm, hg⟩ := (Cert.Words.andi_eq_one _ _).1 h2
  refine ⟨fun r k => ?_, fun k => ?_, fun k c => ?_, fun j c => ?_⟩
  · obtain ⟨a, e⟩ := real_of_abs_lt _ (Host.reduce_andi_all _ _ _ _ _ hm (ix2 r k))
    exact ⟨a, Eq.trans (congrArg mo (funext fun d => by fin_cases d <;> exact Fin.ext (by simp))) e⟩
  · exact real_of_abs_lt _ (Host.reduce_andi_all _ _ _ _ _ hg (ix2 0 k))
  · obtain ⟨a, e⟩ := real_of_abs_lt _ (Host.reduce_andi_all _ _ _ _ _ hw (ix2 k c))
    exact ⟨a, Eq.trans (congrArg w (funext fun d => by fin_cases d <;> exact Fin.ext (by simp))) e⟩
  · obtain ⟨a, e⟩ := real_of_abs_lt _ (Host.reduce_andi_all _ _ _ _ _ hc (ix2 j c))
    exact ⟨a, Eq.trans (congrArg cw (funext fun d => by fin_cases d <;> exact Fin.ext (by simp))) e⟩

/-- The kernel runs, leaves its arguments, and ends with every counter at zero. -/
theorem frame_p3 : Cert.quiescent_Kernel3 := fun m g _ => Cert.Kernel3.Gen.frame m g
theorem frame_pi3 : Cert.quiescent_Kernel3Ideal := fun m g _ => Cert.Kernel3Ideal.Gen.frame m g
theorem frame_pi3_pre : Cert.quiescent_Kernel3Ideal_pre_finite_parameters := fun m g _ => Cert.Kernel3Ideal.Gen.frame m g

/-- So does the reference. -/
theorem frame_ri3 : Cert.quiescent_Reference3Ideal := fun m g _ =>
  (θ_run Cert.Reference3Ideal.defs _ _).mono (fun r h => ⟨fun c => (h c).2.2.2.2, Idealize.ShloMosaic.sem_eq_zero_of_no_sems (by decide) r.2⟩)
    (Cert.Reference3Ideal.Value.run (F := Ideal) m g)
theorem frame_ri3_pre : Cert.quiescent_Reference3Ideal_pre_finite_parameters := fun m g _ => frame_ri3 m g trivial

/-- No number of the call is renamed. -/
theorem preserves3 : Cert.preserves_Kernel3_Kernel3Ideal := trivial

/-- THE VALUE CLAIM: the kernel leaves the reference's queries, keys, value heads and gate. -/
theorem algebraic3 : Cert.algebraic_Kernel3Ideal_Reference3Ideal_pre_finite_parameters := fun m g m' g' pre agree => by
  refine ⟨fun c => Cert.Input.resQ (Cert.Kernel3Ideal.Value.argx m c) (Cert.Kernel3Ideal.Value.argm m c) (Cert.Kernel3Ideal.Value.argg m c)
      (Cert.Kernel3Ideal.Value.argw m c) (Cert.Kernel3Ideal.Value.argc m c),
    fun c => Cert.Input.resK (Cert.Kernel3Ideal.Value.argx m c) (Cert.Kernel3Ideal.Value.argm m c) (Cert.Kernel3Ideal.Value.argg m c)
      (Cert.Kernel3Ideal.Value.argw m c) (Cert.Kernel3Ideal.Value.argc m c),
    fun c => Cert.Input.resV (Cert.Kernel3Ideal.Value.argx m c) (Cert.Kernel3Ideal.Value.argm m c) (Cert.Kernel3Ideal.Value.argg m c)
      (Cert.Kernel3Ideal.Value.argw m c) (Cert.Kernel3Ideal.Value.argc m c),
    fun c => Cert.Input.resZ (Cert.Kernel3Ideal.Value.argx m c) (Cert.Kernel3Ideal.Value.argm m c) (Cert.Kernel3Ideal.Value.argg m c)
      (Cert.Kernel3Ideal.Value.argw m c), ?_, ?_⟩
  · refine (θ_run Cert.Kernel3Ideal.defs _ _).mono (fun r h c => ?_) (Cert.Kernel3Ideal.Value.run_blocks (F := Ideal) m g)
    have H := finite_of_pre3 _ _ _ _ _ _ _ _ _ _ (pre c)
    obtain ⟨hq, hk, hv, -, -, -, -, hz, rest⟩ := h c
    exact ⟨hq.trans (Cert.Kernel3Ideal.Value.final_q m c H), hk.trans (Cert.Kernel3Ideal.Value.final_k m c H),
      hv.trans (Cert.Kernel3Ideal.Value.final_v m c), hz.trans (Cert.Kernel3Ideal.Value.final_z m c), rest⟩
  · refine (θ_run Cert.Reference3Ideal.defs _ _).mono (fun r h c => ?_) (Cert.Reference3Ideal.Value.run (F := Ideal) m' g')
    obtain ⟨e0, e1, e2, e3, e4, e5, e6, e7, e8, e9⟩ := agree c
    obtain ⟨hq, hk, hv, hz, rest⟩ := h c
    refine ⟨hq.trans ?_, hk.trans ?_, hv.trans ?_, hz.trans ?_, rest⟩
    · rw [Cert.Reference3Ideal.Value.outQ_of, Cert.Reference3Ideal.Value.outQ_eq, e0, e1, e2, e3, e6]
    · rw [Cert.Reference3Ideal.Value.outK_of, Cert.Reference3Ideal.Value.outK_eq, e0, e1, e2, e3, e6]
    · rw [Cert.Reference3Ideal.Value.outV_of, Cert.Reference3Ideal.Value.outV_eq, e0, e1, e2, e3, e6]
    · rw [Cert.Reference3Ideal.Value.outZ_of, Cert.Reference3Ideal.Value.outZ_eq, e0, e1, e2, e3]

end Cert.Claims

end
-- ==== Proof.lean ====
/-
  The proof of `Cert.Claim`. Modules under Proof/, in order. The attention:
    Attention   what is computed: softmax attention with sinks over the keys a query sees, entry by entry
    Words       the 32-bit words of the masks as integers
    Softmax     the step from masked columns, normalised after the weighting, to a softmax over the keys
    Reference   the reference computes it
    Block, Mask, Head, Final   the kernel computes it: a grid point's stored block, its mask, its heads, its launch
    Claims      the claims one by one
  The experts:
    Experts     what is computed: the rows of each tile through its expert's two products, entry by entry
    ExpertsBody, ExpertsTables, ExpertsLaunch, ExpertsRun   the call runs: its body, the tables it is steered by,
                a grid point with the weights carried over in scratch buffers, all points
    ExpertsFrames      it terminates and keeps its arguments; so does the reference
    ExpertsValue       the kernel computes it
    ExpertsReference   the reference computes it
    ExpertsClaims      the value claim
  The input projection:
    Input       what is computed: the projected row, its short convolution and the lanes left, entry by entry
    InputFinite  with real parameters the queries' and keys' lanes are reals, and a head's sum is a weighted sum over all lanes
    InputBlock, InputValue   the kernel computes it: a grid point's stored blocks, its launch
    InputReference           the reference computes it
    InputClaims              the claims
-/
module

public import proofs.«01_k».proof.Proof.Claims
public import proofs.«01_k».proof.Proof.ExpertsClaims
public import proofs.«01_k».proof.Proof.InputClaims

@[expose] public section

noncomputable section

namespace Cert.Proof

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Pre_finite_scores.Gen.facts, Cert.Pre_experts_in_range.Gen.facts, Cert.Pre_finite_parameters.Gen.facts,
    Claims.frame_p, Claims.frame_pi, Claims.frame_pi_pre, Claims.frame_ri, Claims.frame_ri_pre,
    Claims.frame_p2, Claims.frame_pi2, Claims.frame_ri2, Claims.frame_ri2_pre,
    Claims.frame_p3, Claims.frame_pi3, Claims.frame_pi3_pre, Claims.frame_ri3, Claims.frame_ri3_pre,
    Claims.preserves, Claims.algebraic, Claims.preserves2, Claims.algebraic2, Claims.preserves3, Claims.algebraic3⟩

end Cert.Proof

end
